-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S8x3x512x512 : Shape := ⟨4, ![8, 3, 512, 512]⟩
abbrev S256x768 : Shape := ⟨2, ![256, 768]⟩
abbrev S8192x256 : Shape := ⟨2, ![8192, 256]⟩
abbrev S_ : Shape := ⟨0, ![]⟩

class Facts : Prop where
  bcast_S_S8x3x512x512 : S_.BroadcastsInDim S8x3x512x512 (![] : Fin 0 → Fin S8x3x512x512.rank)
  reducesTo_S8x3x512x512_S_d0_1_2_3 : S8x3x512x512.ReducesTo [0, 1, 2, 3] S_
  h_S_ : 0 < S_.numel
  bcast_S_S256x768 : S_.BroadcastsInDim S256x768 (![] : Fin 0 → Fin S256x768.rank)
  reducesTo_S256x768_S_d0_1 : S256x768.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8x3x512x512 .f32) (main_arg1 : FVec F S256x768 .f32) (main_arg2 : FVec F S8192x256 .f32) : IVec S_ 1 :=
  let main_v0 : FVec F S8x3x512x512 .f32 := Host.absf main_arg0
  let main_cst : FVec F S_ .f32 := constant S_ .f32 0x51800000#32
  let main_v1 : FVec F S8x3x512x512 .f32 := broadcastInDim S8x3x512x512 ![] bcast_S_S8x3x512x512 main_cst
  let main_v2 : IVec S8x3x512x512 1 := cmpf .ole main_v0 main_v1
  let main_c : IVec S_ 1 := constantI S_ 1 1#1
  let main_v3 : IVec S_ 1 := (fun x v => Host.reduce IntOp.andi x v reducesTo_S8x3x512x512_S_d0_1_2_3 h_S_) main_v2 main_c
  let main_v4 : FVec F S256x768 .f32 := Host.absf main_arg1
  let main_cst_0 : FVec F S_ .f32 := constant S_ .f32 0x51800000#32
  let main_v5 : FVec F S256x768 .f32 := broadcastInDim S256x768 ![] bcast_S_S256x768 main_cst_0
  let main_v6 : IVec S256x768 1 := cmpf .ole main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S8192x256 .f32 := Host.absf main_arg2
  let main_cst_2 : FVec F S_ .f32 := constant S_ .f32 0x51800000#32
  let main_v10 : FVec F S8192x256 .f32 := broadcastInDim S8192x256 ![] bcast_S_S8192x256 main_cst_2
  let main_v11 : IVec S8192x256 1 := cmpf .ole main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8x3x512x512 : Shape := ⟨4, ![8, 3, 512, 512]⟩
abbrev S256x768 : Shape := ⟨2, ![256, 768]⟩
abbrev S8192x256 : Shape := ⟨2, ![8192, 256]⟩
abbrev S8x3x32x16x32x16 : Shape := ⟨6, ![8, 3, 32, 16, 32, 16]⟩
abbrev S768x256 : Shape := ⟨2, ![768, 256]⟩
abbrev S256x8192 : Shape := ⟨2, ![256, 8192]⟩
abbrev S8x1024x1 : Shape := ⟨3, ![8, 1024, 1]⟩
abbrev S8x1024x256 : Shape := ⟨3, ![8, 1024, 256]⟩
abbrev S8x1024 : Shape := ⟨2, ![8, 1024]⟩
abbrev S1x8x1024 : Shape := ⟨3, ![1, 8, 1024]⟩
abbrev S_ : Shape := ⟨0, ![]⟩
abbrev S1x8x1 : Shape := ⟨3, ![1, 8, 1]⟩
abbrev S1x8x1026 : Shape := ⟨3, ![1, 8, 1026]⟩
abbrev S8x1026 : Shape := ⟨2, ![8, 1026]⟩
abbrev S256x1024 : Shape := ⟨2, ![256, 1024]⟩
abbrev S1x1024x1 : Shape := ⟨3, ![1, 1024, 1]⟩
abbrev S1x1024x256 : Shape := ⟨3, ![1, 1024, 256]⟩
abbrev S48x32x32x16 : Shape := ⟨4, ![48, 32, 32, 16]⟩
abbrev S1024x256 : Shape := ⟨2, ![1024, 256]⟩
abbrev S1x8192 : Shape := ⟨2, ![1, 8192]⟩
abbrev S1024x128 : Shape := ⟨2, ![1024, 128]⟩
abbrev S8 : Shape := ⟨1, ![8]⟩
abbrev S1024 : Shape := ⟨1, ![1024]⟩
abbrev S1x1024 : Shape := ⟨2, ![1, 1024]⟩
abbrev S1 : Shape := ⟨1, ![1]⟩
abbrev S1x32x32x16 : Shape := ⟨4, ![1, 32, 32, 16]⟩
abbrev S32x32x16 : Shape := ⟨3, ![32, 32, 16]⟩
abbrev S1x1x32x1x32x16 : Shape := ⟨6, ![1, 1, 32, 1, 32, 16]⟩
abbrev S512x256 : Shape := ⟨2, ![512, 256]⟩
abbrev S1x16x32x16 : Shape := ⟨4, ![1, 16, 32, 16]⟩
abbrev S16x32x16 : Shape := ⟨3, ![16, 32, 16]⟩
abbrev S512x16 : Shape := ⟨2, ![512, 16]⟩
abbrev S16x256 : Shape := ⟨2, ![16, 256]⟩
abbrev S1x512x256 : Shape := ⟨3, ![1, 512, 256]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩

abbrev nBuf : Space → Nat
  | .hbm => 17
  | .vmem => 13
  | .smem => 0
  | _ => 0

abbrev bufTy : (tb : Table) → Fin (tcTables nBuf tb) → BufTy
  | .hbm, ⟨0, _⟩ => ⟨S8x3x512x512, .f32⟩
  | .hbm, ⟨1, _⟩ => ⟨S256x768, .f32⟩
  | .hbm, ⟨2, _⟩ => ⟨S8192x256, .f32⟩
  | .hbm, ⟨3, _⟩ => ⟨S8x3x32x16x32x16, .f32⟩
  | .hbm, ⟨4, _⟩ => ⟨S768x256, .f32⟩
  | .hbm, ⟨5, _⟩ => ⟨S256x8192, .f32⟩
  | .hbm, ⟨6, _⟩ => ⟨S8x1024x1, .i32⟩
  | .hbm, ⟨7, _⟩ => ⟨S8x1024x256, .f32⟩
  | .hbm, ⟨8, _⟩ => ⟨S8x1024, .i32⟩
  | .hbm, ⟨9, _⟩ => ⟨S1x8x1024, .i32⟩
  | .hbm, ⟨10, _⟩ => ⟨S_, .i32⟩
  | .hbm, ⟨11, _⟩ => ⟨S1x8x1, .i32⟩
  | .hbm, ⟨12, _⟩ => ⟨S_, .i32⟩
  | .hbm, ⟨13, _⟩ => ⟨S1x8x1, .i32⟩
  | .hbm, ⟨14, _⟩ => ⟨S1x8x1026, .i32⟩
  | .hbm, ⟨15, _⟩ => ⟨S_, .i32⟩
  | .hbm, ⟨16, _⟩ => ⟨S8x1026, .i32⟩
  | .local _ .vmem, ⟨0, _⟩ => ⟨S768x256, .f32⟩
  | .local _ .vmem, ⟨1, _⟩ => ⟨S256x1024, .f32⟩
  | .local _ .vmem, ⟨2, _⟩ => ⟨S256x1024, .f32⟩
  | .local _ .vmem, ⟨3, _⟩ => ⟨S1x1024x1, .i32⟩
  | .local _ .vmem, ⟨4, _⟩ => ⟨S1x1024x1, .i32⟩
  | .local _ .vmem, ⟨5, _⟩ => ⟨S1x1024x256, .f32⟩
  | .local _ .vmem, ⟨6, _⟩ => ⟨S1x1024x256, .f32⟩
  | .local _ .vmem, ⟨7, _⟩ => ⟨S48x32x32x16, .f32⟩
  | .local _ .vmem, ⟨8, _⟩ => ⟨S48x32x32x16, .f32⟩
  | .local _ .vmem, ⟨9, _⟩ => ⟨S1024x256, .f32⟩
  | .local _ .vmem, ⟨10, _⟩ => ⟨S1x8192, .f32⟩
  | .local _ .vmem, ⟨11, _⟩ => ⟨S1024x128, .f32⟩
  | .local _ .vmem, ⟨12, _⟩ => ⟨S1024x128, .i32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_v0_2 : Ref sig .tc := ⟨.hbm, 7, rfl⟩
abbrev main_call0_v4 : Ref sig .tc := ⟨.hbm, 8, rfl⟩
abbrev main_call0_v5 : Ref sig .tc := ⟨.hbm, 9, rfl⟩
abbrev main_call0_c : Ref sig .tc := ⟨.hbm, 10, rfl⟩
abbrev main_call0_v6 : Ref sig .tc := ⟨.hbm, 11, rfl⟩
abbrev main_call0_c_0 : Ref sig .tc := ⟨.hbm, 12, rfl⟩
abbrev main_call0_v7 : Ref sig .tc := ⟨.hbm, 13, rfl⟩
abbrev main_v0_0 : Ref sig .tc := ⟨.hbm, 14, rfl⟩
abbrev main_call0_c_1 : Ref sig .tc := ⟨.hbm, 15, rfl⟩
abbrev main_v0_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let c0_16 : Index := 0#32
  let arg1 : BitVec 32 := BitVec.ofNat 32 (i 1).val
  let c1024_i32_15 : BitVec 32 := 1024#32
  let v27 : BitVec 32 := Scalar.muli arg1 c1024_i32_15
  let v28 : Index := Scalar.indexCast v27
  ![0, v28.toNat]
def k0_cond3 (i : grid0.Coords) : BitVec 1 :=
  let arg0 : BitVec 32 := BitVec.ofNat 32 (i 0).val
  let c2_i32 : BitVec 32 := 2#32
  let v3 : BitVec 32 := Scalar.remsi arg0 c2_i32
  let c0_i32_4 : BitVec 32 := 0#32
  let v9 : BitVec 1 := Scalar.cmpi .eq v3 c0_i32_4
  let v10 : BitVec 32 := Scalar.extui v9
  let c0_i32_5 : BitVec 32 := 0#32
  let v11 : BitVec 1 := Scalar.cmpi .ne v10 c0_i32_5
  v11

def k0_cond4 (i : grid0.Coords) : BitVec 1 :=
  let arg1 : BitVec 32 := BitVec.ofNat 32 (i 1).val
  let c0_i32_13 : BitVec 32 := 0#32
  let v22 : BitVec 1 := Scalar.cmpi .eq arg1 c0_i32_13
  let v23 : BitVec 32 := Scalar.extui v22
  let c0_i32_14 : BitVec 32 := 0#32
  let v24 : BitVec 1 := Scalar.cmpi .ne v23 c0_i32_14
  v24

def k0_off2 (i : grid0.Coords) : Fin 6 → Nat :=
  let arg0 : BitVec 32 := BitVec.ofNat 32 (i 0).val
  let c0_i32_19 : BitVec 32 := 0#32
  let c0_i32_26 : BitVec 32 := 0#32
  let c0_i32_20 : BitVec 32 := 0#32
  let c0_i32_27 : BitVec 32 := 0#32
  let c0_i32_28 : BitVec 32 := 0#32
  ![arg0.toNat, 0, 0, 0, 0, 0]
def k0_off3 (i : grid0.Coords) : Fin 6 → Nat :=
  let arg0 : BitVec 32 := BitVec.ofNat 32 (i 0).val
  let c0_i32_29 : BitVec 32 := 0#32
  let c0_i32_36 : BitVec 32 := 0#32
  let c1_i32_30 : BitVec 32 := 1#32
  let c0_i32_37 : BitVec 32 := 0#32
  let c0_i32_38 : BitVec 32 := 0#32
  ![arg0.toNat, 0, 0, 1, 0, 0]
def k0_off4 (i : grid0.Coords) : Fin 6 → Nat :=
  let arg0 : BitVec 32 := BitVec.ofNat 32 (i 0).val
  let c0_i32_39 : BitVec 32 := 0#32
  let c0_i32_46 : BitVec 32 := 0#32
  let c2_i32_40 : BitVec 32 := 2#32
  let c0_i32_47 : BitVec 32 := 0#32
  let c0_i32_48 : BitVec 32 := 0#32
  ![arg0.toNat, 0, 0, 2, 0, 0]
def k0_off5 (i : grid0.Coords) : Fin 6 → Nat :=
  let arg0 : BitVec 32 := BitVec.ofNat 32 (i 0).val
  let c0_i32_49 : BitVec 32 := 0#32
  let c0_i32_55 : BitVec 32 := 0#32
  let c3_i32 : BitVec 32 := 3#32
  let c0_i32_56 : BitVec 32 := 0#32
  let c0_i32_57 : BitVec 32 := 0#32
  ![arg0.toNat, 0, 0, 3, 0, 0]
def k0_off6 (i : grid0.Coords) : Fin 6 → Nat :=
  let arg0 : BitVec 32 := BitVec.ofNat 32 (i 0).val
  let c0_i32_58 : BitVec 32 := 0#32
  let c0_i32_64 : BitVec 32 := 0#32
  let c4_i32 : BitVec 32 := 4#32
  let c0_i32_65 : BitVec 32 := 0#32
  let c0_i32_66 : BitVec 32 := 0#32
  ![arg0.toNat, 0, 0, 4, 0, 0]
def k0_off7 (i : grid0.Coords) : Fin 6 → Nat :=
  let arg0 : BitVec 32 := BitVec.ofNat 32 (i 0).val
  let c0_i32_67 : BitVec 32 := 0#32
  let c0_i32_73 : BitVec 32 := 0#32
  let c5_i32 : BitVec 32 := 5#32
  let c0_i32_74 : BitVec 32 := 0#32
  let c0_i32_75 : BitVec 32 := 0#32
  ![arg0.toNat, 0, 0, 5, 0, 0]
def k0_off8 (i : grid0.Coords) : Fin 6 → Nat :=
  let arg0 : BitVec 32 := BitVec.ofNat 32 (i 0).val
  let c0_i32_76 : BitVec 32 := 0#32
  let c0_i32_82 : BitVec 32 := 0#32
  let c6_i32 : BitVec 32 := 6#32
  let c0_i32_83 : BitVec 32 := 0#32
  let c0_i32_84 : BitVec 32 := 0#32
  ![arg0.toNat, 0, 0, 6, 0, 0]
def k0_off9 (i : grid0.Coords) : Fin 6 → Nat :=
  let arg0 : BitVec 32 := BitVec.ofNat 32 (i 0).val
  let c0_i32_85 : BitVec 32 := 0#32
  let c0_i32_92 : BitVec 32 := 0#32
  let c7_i32_86 : BitVec 32 := 7#32
  let c0_i32_93 : BitVec 32 := 0#32
  let c0_i32_94 : BitVec 32 := 0#32
  ![arg0.toNat, 0, 0, 7, 0, 0]
def k0_off10 (i : grid0.Coords) : Fin 6 → Nat :=
  let arg0 : BitVec 32 := BitVec.ofNat 32 (i 0).val
  let c0_i32_95 : BitVec 32 := 0#32
  let c0_i32_101 : BitVec 32 := 0#32
  let c8_i32 : BitVec 32 := 8#32
  let c0_i32_102 : BitVec 32 := 0#32
  let c0_i32_103 : BitVec 32 := 0#32
  ![arg0.toNat, 0, 0, 8, 0, 0]
def k0_off11 (i : grid0.Coords) : Fin 6 → Nat :=
  let arg0 : BitVec 32 := BitVec.ofNat 32 (i 0).val
  let c0_i32_104 : BitVec 32 := 0#32
  let c0_i32_110 : BitVec 32 := 0#32
  let c9_i32 : BitVec 32 := 9#32
  let c0_i32_111 : BitVec 32 := 0#32
  let c0_i32_112 : BitVec 32 := 0#32
  ![arg0.toNat, 0, 0, 9, 0, 0]
def k0_off12 (i : grid0.Coords) : Fin 6 → Nat :=
  let arg0 : BitVec 32 := BitVec.ofNat 32 (i 0).val
  let c0_i32_113 : BitVec 32 := 0#32
  let c0_i32_119 : BitVec 32 := 0#32
  let c10_i32 : BitVec 32 := 10#32
  let c0_i32_120 : BitVec 32 := 0#32
  let c0_i32_121 : BitVec 32 := 0#32
  ![arg0.toNat, 0, 0, 10, 0, 0]
def k0_off13 (i : grid0.Coords) : Fin 6 → Nat :=
  let arg0 : BitVec 32 := BitVec.ofNat 32 (i 0).val
  let c0_i32_122 : BitVec 32 := 0#32
  let c0_i32_128 : BitVec 32 := 0#32
  let c11_i32 : BitVec 32 := 11#32
  let c0_i32_129 : BitVec 32 := 0#32
  let c0_i32_130 : BitVec 32 := 0#32
  ![arg0.toNat, 0, 0, 11, 0, 0]
def k0_off14 (i : grid0.Coords) : Fin 6 → Nat :=
  let arg0 : BitVec 32 := BitVec.ofNat 32 (i 0).val
  let c0_i32_131 : BitVec 32 := 0#32
  let c0_i32_137 : BitVec 32 := 0#32
  let c12_i32 : BitVec 32 := 12#32
  let c0_i32_138 : BitVec 32 := 0#32
  let c0_i32_139 : BitVec 32 := 0#32
  ![arg0.toNat, 0, 0, 12, 0, 0]
def k0_off15 (i : grid0.Coords) : Fin 6 → Nat :=
  let arg0 : BitVec 32 := BitVec.ofNat 32 (i 0).val
  let c0_i32_140 : BitVec 32 := 0#32
  let c0_i32_146 : BitVec 32 := 0#32
  let c13_i32 : BitVec 32 := 13#32
  let c0_i32_147 : BitVec 32 := 0#32
  let c0_i32_148 : BitVec 32 := 0#32
  ![arg0.toNat, 0, 0, 13, 0, 0]
def k0_off16 (i : grid0.Coords) : Fin 6 → Nat :=
  let arg0 : BitVec 32 := BitVec.ofNat 32 (i 0).val
  let c0_i32_149 : BitVec 32 := 0#32
  let c0_i32_155 : BitVec 32 := 0#32
  let c14_i32 : BitVec 32 := 14#32
  let c0_i32_156 : BitVec 32 := 0#32
  let c0_i32_157 : BitVec 32 := 0#32
  ![arg0.toNat, 0, 0, 14, 0, 0]
def k0_off17 (i : grid0.Coords) : Fin 6 → Nat :=
  let arg0 : BitVec 32 := BitVec.ofNat 32 (i 0).val
  let c0_i32_158 : BitVec 32 := 0#32
  let c0_i32_164 : BitVec 32 := 0#32
  let c15_i32 : BitVec 32 := 15#32
  let c0_i32_165 : BitVec 32 := 0#32
  let c0_i32_166 : BitVec 32 := 0#32
  ![arg0.toNat, 0, 0, 15, 0, 0]
def k0_off18 (i : grid0.Coords) : Fin 6 → Nat :=
  let arg0 : BitVec 32 := BitVec.ofNat 32 (i 0).val
  let c1_i32_167 : BitVec 32 := 1#32
  let c0_i32_173 : BitVec 32 := 0#32
  let c0_i32_168 : BitVec 32 := 0#32
  let c0_i32_174 : BitVec 32 := 0#32
  let c0_i32_175 : BitVec 32 := 0#32
  ![arg0.toNat, 1, 0, 0, 0, 0]
def k0_off19 (i : grid0.Coords) : Fin 6 → Nat :=
  let arg0 : BitVec 32 := BitVec.ofNat 32 (i 0).val
  let c1_i32_176 : BitVec 32 := 1#32
  let c0_i32_182 : BitVec 32 := 0#32
  let c1_i32_177 : BitVec 32 := 1#32
  let c0_i32_183 : BitVec 32 := 0#32
  let c0_i32_184 : BitVec 32 := 0#32
  ![arg0.toNat, 1, 0, 1, 0, 0]
def k0_off20 (i : grid0.Coords) : Fin 6 → Nat :=
  let arg0 : BitVec 32 := BitVec.ofNat 32 (i 0).val
  let c1_i32_185 : BitVec 32 := 1#32
  let c0_i32_191 : BitVec 32 := 0#32
  let c2_i32_186 : BitVec 32 := 2#32
  let c0_i32_192 : BitVec 32 := 0#32
  let c0_i32_193 : BitVec 32 := 0#32
  ![arg0.toNat, 1, 0, 2, 0, 0]
def k0_off21 (i : grid0.Coords) : Fin 6 → Nat :=
  let arg0 : BitVec 32 := BitVec.ofNat 32 (i 0).val
  let c1_i32_194 : BitVec 32 := 1#32
  let c0_i32_200 : BitVec 32 := 0#32
  let c3_i32_195 : BitVec 32 := 3#32
  let c0_i32_201 : BitVec 32 := 0#32
  let c0_i32_202 : BitVec 32 := 0#32
  ![arg0.toNat, 1, 0, 3, 0, 0]
def k0_off22 (i : grid0.Coords) : Fin 6 → Nat :=
  let arg0 : BitVec 32 := BitVec.ofNat 32 (i 0).val
  let c1_i32_203 : BitVec 32 := 1#32
  let c0_i32_209 : BitVec 32 := 0#32
  let c4_i32_204 : BitVec 32 := 4#32
  let c0_i32_210 : BitVec 32 := 0#32
  let c0_i32_211 : BitVec 32 := 0#32
  ![arg0.toNat, 1, 0, 4, 0, 0]
def k0_off23 (i : grid0.Coords) : Fin 6 → Nat :=
  let arg0 : BitVec 32 := BitVec.ofNat 32 (i 0).val
  let c1_i32_212 : BitVec 32 := 1#32
  let c0_i32_218 : BitVec 32 := 0#32
  let c5_i32_213 : BitVec 32 := 5#32
  let c0_i32_219 : BitVec 32 := 0#32
  let c0_i32_220 : BitVec 32 := 0#32
  ![arg0.toNat, 1, 0, 5, 0, 0]
def k0_off24 (i : grid0.Coords) : Fin 6 → Nat :=
  let arg0 : BitVec 32 := BitVec.ofNat 32 (i 0).val
  let c1_i32_221 : BitVec 32 := 1#32
  let c0_i32_227 : BitVec 32 := 0#32
  let c6_i32_222 : BitVec 32 := 6#32
  let c0_i32_228 : BitVec 32 := 0#32
  let c0_i32_229 : BitVec 32 := 0#32
  ![arg0.toNat, 1, 0, 6, 0, 0]
def k0_off25 (i : grid0.Coords) : Fin 6 → Nat :=
  let arg0 : BitVec 32 := BitVec.ofNat 32 (i 0).val
  let c1_i32_230 : BitVec 32 := 1#32
  let c0_i32_236 : BitVec 32 := 0#32
  let c7_i32_231 : BitVec 32 := 7#32
  let c0_i32_237 : BitVec 32 := 0#32
  let c0_i32_238 : BitVec 32 := 0#32
  ![arg0.toNat, 1, 0, 7, 0, 0]
def k0_off26 (i : grid0.Coords) : Fin 6 → Nat :=
  let arg0 : BitVec 32 := BitVec.ofNat 32 (i 0).val
  let c1_i32_239 : BitVec 32 := 1#32
  let c0_i32_245 : BitVec 32 := 0#32
  let c8_i32_240 : BitVec 32 := 8#32
  let c0_i32_246 : BitVec 32 := 0#32
  let c0_i32_247 : BitVec 32 := 0#32
  ![arg0.toNat, 1, 0, 8, 0, 0]
def k0_off27 (i : grid0.Coords) : Fin 6 → Nat :=
  let arg0 : BitVec 32 := BitVec.ofNat 32 (i 0).val
  let c1_i32_248 : BitVec 32 := 1#32
  let c0_i32_254 : BitVec 32 := 0#32
  let c9_i32_249 : BitVec 32 := 9#32
  let c0_i32_255 : BitVec 32 := 0#32
  let c0_i32_256 : BitVec 32 := 0#32
  ![arg0.toNat, 1, 0, 9, 0, 0]
def k0_off28 (i : grid0.Coords) : Fin 6 → Nat :=
  let arg0 : BitVec 32 := BitVec.ofNat 32 (i 0).val
  let c1_i32_257 : BitVec 32 := 1#32
  let c0_i32_263 : BitVec 32 := 0#32
  let c10_i32_258 : BitVec 32 := 10#32
  let c0_i32_264 : BitVec 32 := 0#32
  let c0_i32_265 : BitVec 32 := 0#32
  ![arg0.toNat, 1, 0, 10, 0, 0]
def k0_off29 (i : grid0.Coords) : Fin 6 → Nat :=
  let arg0 : BitVec 32 := BitVec.ofNat 32 (i 0).val
  let c1_i32_266 : BitVec 32 := 1#32
  let c0_i32_272 : BitVec 32 := 0#32
  let c11_i32_267 : BitVec 32 := 11#32
  let c0_i32_273 : BitVec 32 := 0#32
  let c0_i32_274 : BitVec 32 := 0#32
  ![arg0.toNat, 1, 0, 11, 0, 0]
def k0_off30 (i : grid0.Coords) : Fin 6 → Nat :=
  let arg0 : BitVec 32 := BitVec.ofNat 32 (i 0).val
  let c1_i32_275 : BitVec 32 := 1#32
  let c0_i32_281 : BitVec 32 := 0#32
  let c12_i32_276 : BitVec 32 := 12#32
  let c0_i32_282 : BitVec 32 := 0#32
  let c0_i32_283 : BitVec 32 := 0#32
  ![arg0.toNat, 1, 0, 12, 0, 0]
def k0_off31 (i : grid0.Coords) : Fin 6 → Nat :=
  let arg0 : BitVec 32 := BitVec.ofNat 32 (i 0).val
  let c1_i32_284 : BitVec 32 := 1#32
  let c0_i32_290 : BitVec 32 := 0#32
  let c13_i32_285 : BitVec 32 := 13#32
  let c0_i32_291 : BitVec 32 := 0#32
  let c0_i32_292 : BitVec 32 := 0#32
  ![arg0.toNat, 1, 0, 13, 0, 0]
def k0_off32 (i : grid0.Coords) : Fin 6 → Nat :=
  let arg0 : BitVec 32 := BitVec.ofNat 32 (i 0).val
  let c1_i32_293 : BitVec 32 := 1#32
  let c0_i32_299 : BitVec 32 := 0#32
  let c14_i32_294 : BitVec 32 := 14#32
  let c0_i32_300 : BitVec 32 := 0#32
  let c0_i32_301 : BitVec 32 := 0#32
  ![arg0.toNat, 1, 0, 14, 0, 0]
def k0_off33 (i : grid0.Coords) : Fin 6 → Nat :=
  let arg0 : BitVec 32 := BitVec.ofNat 32 (i 0).val
  let c1_i32_302 : BitVec 32 := 1#32
  let c0_i32_308 : BitVec 32 := 0#32
  let c15_i32_303 : BitVec 32 := 15#32
  let c0_i32_309 : BitVec 32 := 0#32
  let c0_i32_310 : BitVec 32 := 0#32
  ![arg0.toNat, 1, 0, 15, 0, 0]
def k0_off34 (i : grid0.Coords) : Fin 6 → Nat :=
  let arg0 : BitVec 32 := BitVec.ofNat 32 (i 0).val
  let c2_i32_311 : BitVec 32 := 2#32
  let c0_i32_317 : BitVec 32 := 0#32
  let c0_i32_312 : BitVec 32 := 0#32
  let c0_i32_318 : BitVec 32 := 0#32
  let c0_i32_319 : BitVec 32 := 0#32
  ![arg0.toNat, 2, 0, 0, 0, 0]
def k0_off35 (i : grid0.Coords) : Fin 6 → Nat :=
  let arg0 : BitVec 32 := BitVec.ofNat 32 (i 0).val
  let c2_i32_320 : BitVec 32 := 2#32
  let c0_i32_326 : BitVec 32 := 0#32
  let c1_i32_321 : BitVec 32 := 1#32
  let c0_i32_327 : BitVec 32 := 0#32
  let c0_i32_328 : BitVec 32 := 0#32
  ![arg0.toNat, 2, 0, 1, 0, 0]
def k0_off36 (i : grid0.Coords) : Fin 6 → Nat :=
  let arg0 : BitVec 32 := BitVec.ofNat 32 (i 0).val
  let c2_i32_329 : BitVec 32 := 2#32
  let c0_i32_335 : BitVec 32 := 0#32
  let c2_i32_330 : BitVec 32 := 2#32
  let c0_i32_336 : BitVec 32 := 0#32
  let c0_i32_337 : BitVec 32 := 0#32
  ![arg0.toNat, 2, 0, 2, 0, 0]
def k0_off37 (i : grid0.Coords) : Fin 6 → Nat :=
  let arg0 : BitVec 32 := BitVec.ofNat 32 (i 0).val
  let c2_i32_338 : BitVec 32 := 2#32
  let c0_i32_344 : BitVec 32 := 0#32
  let c3_i32_339 : BitVec 32 := 3#32
  let c0_i32_345 : BitVec 32 := 0#32
  let c0_i32_346 : BitVec 32 := 0#32
  ![arg0.toNat, 2, 0, 3, 0, 0]
def k0_off38 (i : grid0.Coords) : Fin 6 → Nat :=
  let arg0 : BitVec 32 := BitVec.ofNat 32 (i 0).val
  let c2_i32_347 : BitVec 32 := 2#32
  let c0_i32_353 : BitVec 32 := 0#32
  let c4_i32_348 : BitVec 32 := 4#32
  let c0_i32_354 : BitVec 32 := 0#32
  let c0_i32_355 : BitVec 32 := 0#32
  ![arg0.toNat, 2, 0, 4, 0, 0]
def k0_off39 (i : grid0.Coords) : Fin 6 → Nat :=
  let arg0 : BitVec 32 := BitVec.ofNat 32 (i 0).val
  let c2_i32_356 : BitVec 32 := 2#32
  let c0_i32_362 : BitVec 32 := 0#32
  let c5_i32_357 : BitVec 32 := 5#32
  let c0_i32_363 : BitVec 32 := 0#32
  let c0_i32_364 : BitVec 32 := 0#32
  ![arg0.toNat, 2, 0, 5, 0, 0]
def k0_off40 (i : grid0.Coords) : Fin 6 → Nat :=
  let arg0 : BitVec 32 := BitVec.ofNat 32 (i 0).val
  let c2_i32_365 : BitVec 32 := 2#32
  let c0_i32_371 : BitVec 32 := 0#32
  let c6_i32_366 : BitVec 32 := 6#32
  let c0_i32_372 : BitVec 32 := 0#32
  let c0_i32_373 : BitVec 32 := 0#32
  ![arg0.toNat, 2, 0, 6, 0, 0]
def k0_off41 (i : grid0.Coords) : Fin 6 → Nat :=
  let arg0 : BitVec 32 := BitVec.ofNat 32 (i 0).val
  let c2_i32_374 : BitVec 32 := 2#32
  let c0_i32_380 : BitVec 32 := 0#32
  let c7_i32_375 : BitVec 32 := 7#32
  let c0_i32_381 : BitVec 32 := 0#32
  let c0_i32_382 : BitVec 32 := 0#32
  ![arg0.toNat, 2, 0, 7, 0, 0]
def k0_off42 (i : grid0.Coords) : Fin 6 → Nat :=
  let arg0 : BitVec 32 := BitVec.ofNat 32 (i 0).val
  let c2_i32_383 : BitVec 32 := 2#32
  let c0_i32_389 : BitVec 32 := 0#32
  let c8_i32_384 : BitVec 32 := 8#32
  let c0_i32_390 : BitVec 32 := 0#32
  let c0_i32_391 : BitVec 32 := 0#32
  ![arg0.toNat, 2, 0, 8, 0, 0]
def k0_off43 (i : grid0.Coords) : Fin 6 → Nat :=
  let arg0 : BitVec 32 := BitVec.ofNat 32 (i 0).val
  let c2_i32_392 : BitVec 32 := 2#32
  let c0_i32_398 : BitVec 32 := 0#32
  let c9_i32_393 : BitVec 32 := 9#32
  let c0_i32_399 : BitVec 32 := 0#32
  let c0_i32_400 : BitVec 32 := 0#32
  ![arg0.toNat, 2, 0, 9, 0, 0]
def k0_off44 (i : grid0.Coords) : Fin 6 → Nat :=
  let arg0 : BitVec 32 := BitVec.ofNat 32 (i 0).val
  let c2_i32_401 : BitVec 32 := 2#32
  let c0_i32_407 : BitVec 32 := 0#32
  let c10_i32_402 : BitVec 32 := 10#32
  let c0_i32_408 : BitVec 32 := 0#32
  let c0_i32_409 : BitVec 32 := 0#32
  ![arg0.toNat, 2, 0, 10, 0, 0]
def k0_off45 (i : grid0.Coords) : Fin 6 → Nat :=
  let arg0 : BitVec 32 := BitVec.ofNat 32 (i 0).val
  let c2_i32_410 : BitVec 32 := 2#32
  let c0_i32_416 : BitVec 32 := 0#32
  let c11_i32_411 : BitVec 32 := 11#32
  let c0_i32_417 : BitVec 32 := 0#32
  let c0_i32_418 : BitVec 32 := 0#32
  ![arg0.toNat, 2, 0, 11, 0, 0]
def k0_off46 (i : grid0.Coords) : Fin 6 → Nat :=
  let arg0 : BitVec 32 := BitVec.ofNat 32 (i 0).val
  let c2_i32_419 : BitVec 32 := 2#32
  let c0_i32_425 : BitVec 32 := 0#32
  let c12_i32_420 : BitVec 32 := 12#32
  let c0_i32_426 : BitVec 32 := 0#32
  let c0_i32_427 : BitVec 32 := 0#32
  ![arg0.toNat, 2, 0, 12, 0, 0]
def k0_off47 (i : grid0.Coords) : Fin 6 → Nat :=
  let arg0 : BitVec 32 := BitVec.ofNat 32 (i 0).val
  let c2_i32_428 : BitVec 32 := 2#32
  let c0_i32_434 : BitVec 32 := 0#32
  let c13_i32_429 : BitVec 32 := 13#32
  let c0_i32_435 : BitVec 32 := 0#32
  let c0_i32_436 : BitVec 32 := 0#32
  ![arg0.toNat, 2, 0, 13, 0, 0]
def k0_off48 (i : grid0.Coords) : Fin 6 → Nat :=
  let arg0 : BitVec 32 := BitVec.ofNat 32 (i 0).val
  let c2_i32_437 : BitVec 32 := 2#32
  let c0_i32_443 : BitVec 32 := 0#32
  let c14_i32_438 : BitVec 32 := 14#32
  let c0_i32_444 : BitVec 32 := 0#32
  let c0_i32_445 : BitVec 32 := 0#32
  ![arg0.toNat, 2, 0, 14, 0, 0]
def k0_off49 (i : grid0.Coords) : Fin 6 → Nat :=
  let arg0 : BitVec 32 := BitVec.ofNat 32 (i 0).val
  let c2_i32_446 : BitVec 32 := 2#32
  let c0_i32_452 : BitVec 32 := 0#32
  let c15_i32_447 : BitVec 32 := 15#32
  let c0_i32_453 : BitVec 32 := 0#32
  let c0_i32_454 : BitVec 32 := 0#32
  ![arg0.toNat, 2, 0, 15, 0, 0]
def k0_cond5 (i : grid0.Coords) : BitVec 1 :=
  let arg1 : BitVec 32 := BitVec.ofNat 32 (i 1).val
  let c0_i32_15 : BitVec 32 := 0#32
  let v25 : BitVec 1 := Scalar.cmpi .eq arg1 c0_i32_15
  let arg0 : BitVec 32 := BitVec.ofNat 32 (i 0).val
  let c7_i32 : BitVec 32 := 7#32
  let v26 : BitVec 1 := Scalar.cmpi .slt arg0 c7_i32
  let v27 : BitVec 1 := Scalar.andi v25 v26
  let v28 : BitVec 32 := Scalar.extui v27
  let c0_i32_16 : BitVec 32 := 0#32
  let v29 : BitVec 1 := Scalar.cmpi .ne v28 c0_i32_16
  v29

def k0_off50 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_20 : BitVec 32 := 0#32
  let c0_i32_27 : BitVec 32 := 0#32
  let c0_i32_21 : BitVec 32 := 0#32
  let c0_i32_28 : BitVec 32 := 0#32
  let c0_i32_29 : BitVec 32 := 0#32
  ![v33.toNat, 0, 0, 0, 0, 0]
def k0_off51 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_30 : BitVec 32 := 0#32
  let c0_i32_37 : BitVec 32 := 0#32
  let c1_i32_31 : BitVec 32 := 1#32
  let c0_i32_38 : BitVec 32 := 0#32
  let c0_i32_39 : BitVec 32 := 0#32
  ![v33.toNat, 0, 0, 1, 0, 0]
def k0_off52 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_40 : BitVec 32 := 0#32
  let c0_i32_47 : BitVec 32 := 0#32
  let c2_i32_41 : BitVec 32 := 2#32
  let c0_i32_48 : BitVec 32 := 0#32
  let c0_i32_49 : BitVec 32 := 0#32
  ![v33.toNat, 0, 0, 2, 0, 0]
def k0_off53 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_50 : BitVec 32 := 0#32
  let c0_i32_56 : BitVec 32 := 0#32
  let c3_i32 : BitVec 32 := 3#32
  let c0_i32_57 : BitVec 32 := 0#32
  let c0_i32_58 : BitVec 32 := 0#32
  ![v33.toNat, 0, 0, 3, 0, 0]
def k0_off54 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_59 : BitVec 32 := 0#32
  let c0_i32_65 : BitVec 32 := 0#32
  let c4_i32 : BitVec 32 := 4#32
  let c0_i32_66 : BitVec 32 := 0#32
  let c0_i32_67 : BitVec 32 := 0#32
  ![v33.toNat, 0, 0, 4, 0, 0]
def k0_off55 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_68 : BitVec 32 := 0#32
  let c0_i32_74 : BitVec 32 := 0#32
  let c5_i32 : BitVec 32 := 5#32
  let c0_i32_75 : BitVec 32 := 0#32
  let c0_i32_76 : BitVec 32 := 0#32
  ![v33.toNat, 0, 0, 5, 0, 0]
def k0_off56 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_77 : BitVec 32 := 0#32
  let c0_i32_83 : BitVec 32 := 0#32
  let c6_i32 : BitVec 32 := 6#32
  let c0_i32_84 : BitVec 32 := 0#32
  let c0_i32_85 : BitVec 32 := 0#32
  ![v33.toNat, 0, 0, 6, 0, 0]
def k0_off57 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_86 : BitVec 32 := 0#32
  let c0_i32_93 : BitVec 32 := 0#32
  let c7_i32_87 : BitVec 32 := 7#32
  let c0_i32_94 : BitVec 32 := 0#32
  let c0_i32_95 : BitVec 32 := 0#32
  ![v33.toNat, 0, 0, 7, 0, 0]
def k0_off58 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_96 : BitVec 32 := 0#32
  let c0_i32_102 : BitVec 32 := 0#32
  let c8_i32 : BitVec 32 := 8#32
  let c0_i32_103 : BitVec 32 := 0#32
  let c0_i32_104 : BitVec 32 := 0#32
  ![v33.toNat, 0, 0, 8, 0, 0]
def k0_off59 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_105 : BitVec 32 := 0#32
  let c0_i32_111 : BitVec 32 := 0#32
  let c9_i32 : BitVec 32 := 9#32
  let c0_i32_112 : BitVec 32 := 0#32
  let c0_i32_113 : BitVec 32 := 0#32
  ![v33.toNat, 0, 0, 9, 0, 0]
def k0_off60 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_114 : BitVec 32 := 0#32
  let c0_i32_120 : BitVec 32 := 0#32
  let c10_i32 : BitVec 32 := 10#32
  let c0_i32_121 : BitVec 32 := 0#32
  let c0_i32_122 : BitVec 32 := 0#32
  ![v33.toNat, 0, 0, 10, 0, 0]
def k0_off61 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_123 : BitVec 32 := 0#32
  let c0_i32_129 : BitVec 32 := 0#32
  let c11_i32 : BitVec 32 := 11#32
  let c0_i32_130 : BitVec 32 := 0#32
  let c0_i32_131 : BitVec 32 := 0#32
  ![v33.toNat, 0, 0, 11, 0, 0]
def k0_off62 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_132 : BitVec 32 := 0#32
  let c0_i32_138 : BitVec 32 := 0#32
  let c12_i32 : BitVec 32 := 12#32
  let c0_i32_139 : BitVec 32 := 0#32
  let c0_i32_140 : BitVec 32 := 0#32
  ![v33.toNat, 0, 0, 12, 0, 0]
def k0_off63 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_141 : BitVec 32 := 0#32
  let c0_i32_147 : BitVec 32 := 0#32
  let c13_i32 : BitVec 32 := 13#32
  let c0_i32_148 : BitVec 32 := 0#32
  let c0_i32_149 : BitVec 32 := 0#32
  ![v33.toNat, 0, 0, 13, 0, 0]
def k0_off64 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_150 : BitVec 32 := 0#32
  let c0_i32_156 : BitVec 32 := 0#32
  let c14_i32 : BitVec 32 := 14#32
  let c0_i32_157 : BitVec 32 := 0#32
  let c0_i32_158 : BitVec 32 := 0#32
  ![v33.toNat, 0, 0, 14, 0, 0]
def k0_off65 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_159 : BitVec 32 := 0#32
  let c0_i32_165 : BitVec 32 := 0#32
  let c15_i32 : BitVec 32 := 15#32
  let c0_i32_166 : BitVec 32 := 0#32
  let c0_i32_167 : BitVec 32 := 0#32
  ![v33.toNat, 0, 0, 15, 0, 0]
def k0_off66 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_168 : BitVec 32 := 1#32
  let c0_i32_174 : BitVec 32 := 0#32
  let c0_i32_169 : BitVec 32 := 0#32
  let c0_i32_175 : BitVec 32 := 0#32
  let c0_i32_176 : BitVec 32 := 0#32
  ![v33.toNat, 1, 0, 0, 0, 0]
def k0_off67 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_177 : BitVec 32 := 1#32
  let c0_i32_183 : BitVec 32 := 0#32
  let c1_i32_178 : BitVec 32 := 1#32
  let c0_i32_184 : BitVec 32 := 0#32
  let c0_i32_185 : BitVec 32 := 0#32
  ![v33.toNat, 1, 0, 1, 0, 0]
def k0_off68 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_186 : BitVec 32 := 1#32
  let c0_i32_192 : BitVec 32 := 0#32
  let c2_i32_187 : BitVec 32 := 2#32
  let c0_i32_193 : BitVec 32 := 0#32
  let c0_i32_194 : BitVec 32 := 0#32
  ![v33.toNat, 1, 0, 2, 0, 0]
def k0_off69 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_195 : BitVec 32 := 1#32
  let c0_i32_201 : BitVec 32 := 0#32
  let c3_i32_196 : BitVec 32 := 3#32
  let c0_i32_202 : BitVec 32 := 0#32
  let c0_i32_203 : BitVec 32 := 0#32
  ![v33.toNat, 1, 0, 3, 0, 0]
def k0_off70 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_204 : BitVec 32 := 1#32
  let c0_i32_210 : BitVec 32 := 0#32
  let c4_i32_205 : BitVec 32 := 4#32
  let c0_i32_211 : BitVec 32 := 0#32
  let c0_i32_212 : BitVec 32 := 0#32
  ![v33.toNat, 1, 0, 4, 0, 0]
def k0_off71 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_213 : BitVec 32 := 1#32
  let c0_i32_219 : BitVec 32 := 0#32
  let c5_i32_214 : BitVec 32 := 5#32
  let c0_i32_220 : BitVec 32 := 0#32
  let c0_i32_221 : BitVec 32 := 0#32
  ![v33.toNat, 1, 0, 5, 0, 0]
def k0_off72 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_222 : BitVec 32 := 1#32
  let c0_i32_228 : BitVec 32 := 0#32
  let c6_i32_223 : BitVec 32 := 6#32
  let c0_i32_229 : BitVec 32 := 0#32
  let c0_i32_230 : BitVec 32 := 0#32
  ![v33.toNat, 1, 0, 6, 0, 0]
def k0_off73 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_231 : BitVec 32 := 1#32
  let c0_i32_237 : BitVec 32 := 0#32
  let c7_i32_232 : BitVec 32 := 7#32
  let c0_i32_238 : BitVec 32 := 0#32
  let c0_i32_239 : BitVec 32 := 0#32
  ![v33.toNat, 1, 0, 7, 0, 0]
def k0_off74 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_240 : BitVec 32 := 1#32
  let c0_i32_246 : BitVec 32 := 0#32
  let c8_i32_241 : BitVec 32 := 8#32
  let c0_i32_247 : BitVec 32 := 0#32
  let c0_i32_248 : BitVec 32 := 0#32
  ![v33.toNat, 1, 0, 8, 0, 0]
def k0_off75 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_249 : BitVec 32 := 1#32
  let c0_i32_255 : BitVec 32 := 0#32
  let c9_i32_250 : BitVec 32 := 9#32
  let c0_i32_256 : BitVec 32 := 0#32
  let c0_i32_257 : BitVec 32 := 0#32
  ![v33.toNat, 1, 0, 9, 0, 0]
def k0_off76 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_258 : BitVec 32 := 1#32
  let c0_i32_264 : BitVec 32 := 0#32
  let c10_i32_259 : BitVec 32 := 10#32
  let c0_i32_265 : BitVec 32 := 0#32
  let c0_i32_266 : BitVec 32 := 0#32
  ![v33.toNat, 1, 0, 10, 0, 0]
def k0_off77 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_267 : BitVec 32 := 1#32
  let c0_i32_273 : BitVec 32 := 0#32
  let c11_i32_268 : BitVec 32 := 11#32
  let c0_i32_274 : BitVec 32 := 0#32
  let c0_i32_275 : BitVec 32 := 0#32
  ![v33.toNat, 1, 0, 11, 0, 0]
def k0_off78 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_276 : BitVec 32 := 1#32
  let c0_i32_282 : BitVec 32 := 0#32
  let c12_i32_277 : BitVec 32 := 12#32
  let c0_i32_283 : BitVec 32 := 0#32
  let c0_i32_284 : BitVec 32 := 0#32
  ![v33.toNat, 1, 0, 12, 0, 0]
def k0_off79 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_285 : BitVec 32 := 1#32
  let c0_i32_291 : BitVec 32 := 0#32
  let c13_i32_286 : BitVec 32 := 13#32
  let c0_i32_292 : BitVec 32 := 0#32
  let c0_i32_293 : BitVec 32 := 0#32
  ![v33.toNat, 1, 0, 13, 0, 0]
def k0_off80 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_294 : BitVec 32 := 1#32
  let c0_i32_300 : BitVec 32 := 0#32
  let c14_i32_295 : BitVec 32 := 14#32
  let c0_i32_301 : BitVec 32 := 0#32
  let c0_i32_302 : BitVec 32 := 0#32
  ![v33.toNat, 1, 0, 14, 0, 0]
def k0_off81 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_303 : BitVec 32 := 1#32
  let c0_i32_309 : BitVec 32 := 0#32
  let c15_i32_304 : BitVec 32 := 15#32
  let c0_i32_310 : BitVec 32 := 0#32
  let c0_i32_311 : BitVec 32 := 0#32
  ![v33.toNat, 1, 0, 15, 0, 0]
def k0_off82 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_312 : BitVec 32 := 2#32
  let c0_i32_318 : BitVec 32 := 0#32
  let c0_i32_313 : BitVec 32 := 0#32
  let c0_i32_319 : BitVec 32 := 0#32
  let c0_i32_320 : BitVec 32 := 0#32
  ![v33.toNat, 2, 0, 0, 0, 0]
def k0_off83 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_321 : BitVec 32 := 2#32
  let c0_i32_327 : BitVec 32 := 0#32
  let c1_i32_322 : BitVec 32 := 1#32
  let c0_i32_328 : BitVec 32 := 0#32
  let c0_i32_329 : BitVec 32 := 0#32
  ![v33.toNat, 2, 0, 1, 0, 0]
def k0_off84 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_330 : BitVec 32 := 2#32
  let c0_i32_336 : BitVec 32 := 0#32
  let c2_i32_331 : BitVec 32 := 2#32
  let c0_i32_337 : BitVec 32 := 0#32
  let c0_i32_338 : BitVec 32 := 0#32
  ![v33.toNat, 2, 0, 2, 0, 0]
def k0_off85 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_339 : BitVec 32 := 2#32
  let c0_i32_345 : BitVec 32 := 0#32
  let c3_i32_340 : BitVec 32 := 3#32
  let c0_i32_346 : BitVec 32 := 0#32
  let c0_i32_347 : BitVec 32 := 0#32
  ![v33.toNat, 2, 0, 3, 0, 0]
def k0_off86 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_348 : BitVec 32 := 2#32
  let c0_i32_354 : BitVec 32 := 0#32
  let c4_i32_349 : BitVec 32 := 4#32
  let c0_i32_355 : BitVec 32 := 0#32
  let c0_i32_356 : BitVec 32 := 0#32
  ![v33.toNat, 2, 0, 4, 0, 0]
def k0_off87 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_357 : BitVec 32 := 2#32
  let c0_i32_363 : BitVec 32 := 0#32
  let c5_i32_358 : BitVec 32 := 5#32
  let c0_i32_364 : BitVec 32 := 0#32
  let c0_i32_365 : BitVec 32 := 0#32
  ![v33.toNat, 2, 0, 5, 0, 0]
def k0_off88 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_366 : BitVec 32 := 2#32
  let c0_i32_372 : BitVec 32 := 0#32
  let c6_i32_367 : BitVec 32 := 6#32
  let c0_i32_373 : BitVec 32 := 0#32
  let c0_i32_374 : BitVec 32 := 0#32
  ![v33.toNat, 2, 0, 6, 0, 0]
def k0_off89 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_375 : BitVec 32 := 2#32
  let c0_i32_381 : BitVec 32 := 0#32
  let c7_i32_376 : BitVec 32 := 7#32
  let c0_i32_382 : BitVec 32 := 0#32
  let c0_i32_383 : BitVec 32 := 0#32
  ![v33.toNat, 2, 0, 7, 0, 0]
def k0_off90 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_384 : BitVec 32 := 2#32
  let c0_i32_390 : BitVec 32 := 0#32
  let c8_i32_385 : BitVec 32 := 8#32
  let c0_i32_391 : BitVec 32 := 0#32
  let c0_i32_392 : BitVec 32 := 0#32
  ![v33.toNat, 2, 0, 8, 0, 0]
def k0_off91 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_393 : BitVec 32 := 2#32
  let c0_i32_399 : BitVec 32 := 0#32
  let c9_i32_394 : BitVec 32 := 9#32
  let c0_i32_400 : BitVec 32 := 0#32
  let c0_i32_401 : BitVec 32 := 0#32
  ![v33.toNat, 2, 0, 9, 0, 0]
def k0_off92 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_402 : BitVec 32 := 2#32
  let c0_i32_408 : BitVec 32 := 0#32
  let c10_i32_403 : BitVec 32 := 10#32
  let c0_i32_409 : BitVec 32 := 0#32
  let c0_i32_410 : BitVec 32 := 0#32
  ![v33.toNat, 2, 0, 10, 0, 0]
def k0_off93 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_411 : BitVec 32 := 2#32
  let c0_i32_417 : BitVec 32 := 0#32
  let c11_i32_412 : BitVec 32 := 11#32
  let c0_i32_418 : BitVec 32 := 0#32
  let c0_i32_419 : BitVec 32 := 0#32
  ![v33.toNat, 2, 0, 11, 0, 0]
def k0_off94 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_420 : BitVec 32 := 2#32
  let c0_i32_426 : BitVec 32 := 0#32
  let c12_i32_421 : BitVec 32 := 12#32
  let c0_i32_427 : BitVec 32 := 0#32
  let c0_i32_428 : BitVec 32 := 0#32
  ![v33.toNat, 2, 0, 12, 0, 0]
def k0_off95 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_429 : BitVec 32 := 2#32
  let c0_i32_435 : BitVec 32 := 0#32
  let c13_i32_430 : BitVec 32 := 13#32
  let c0_i32_436 : BitVec 32 := 0#32
  let c0_i32_437 : BitVec 32 := 0#32
  ![v33.toNat, 2, 0, 13, 0, 0]
def k0_off96 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_438 : BitVec 32 := 2#32
  let c0_i32_444 : BitVec 32 := 0#32
  let c14_i32_439 : BitVec 32 := 14#32
  let c0_i32_445 : BitVec 32 := 0#32
  let c0_i32_446 : BitVec 32 := 0#32
  ![v33.toNat, 2, 0, 14, 0, 0]
def k0_off97 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_447 : BitVec 32 := 2#32
  let c0_i32_453 : BitVec 32 := 0#32
  let c15_i32_448 : BitVec 32 := 15#32
  let c0_i32_454 : BitVec 32 := 0#32
  let c0_i32_455 : BitVec 32 := 0#32
  ![v33.toNat, 2, 0, 15, 0, 0]
def k0_cond6 (i : grid0.Coords) : BitVec 1 :=
  let arg1 : BitVec 32 := BitVec.ofNat 32 (i 1).val
  let c0_i32_17 : BitVec 32 := 0#32
  let v30 : BitVec 1 := Scalar.cmpi .eq arg1 c0_i32_17
  let v31 : BitVec 32 := Scalar.extui v30
  let c0_i32_18 : BitVec 32 := 0#32
  let v32 : BitVec 1 := Scalar.cmpi .ne v31 c0_i32_18
  v32

@[reducible] def k0_t1_loop : Scf.Loop 32 :=
  let c0_i32_19 : BitVec 32 := 0#32
  let c2_i32_20 : BitVec 32 := 2#32
  let v33 : BitVec 32 := Scalar.addi c0_i32_19 c2_i32_20
  let c1_i32_21 : BitVec 32 := 1#32
  ⟨c0_i32_19, v33, c1_i32_21⟩
def k0_off98 (k0_t1 : Fin k0_t1_loop.trips) : Fin 4 → Nat :=
  let c0_29 : Index := 0#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v44 : Index := Scalar.indexCast v42
  let c0_30 : Index := 0#32
  let c0_31 : Index := 0#32
  ![0, v44.toNat, 0, 0]
def k0_off99 (k0_t1 : Fin k0_t1_loop.trips) : Fin 4 → Nat :=
  let c1 : Index := 1#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v52 : Index := Scalar.indexCast v42
  let c0_35 : Index := 0#32
  let c0_36 : Index := 0#32
  ![1, v52.toNat, 0, 0]
def k0_off100 (k0_t1 : Fin k0_t1_loop.trips) : Fin 4 → Nat :=
  let c2 : Index := 2#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v60 : Index := Scalar.indexCast v42
  let c0_39 : Index := 0#32
  let c0_40 : Index := 0#32
  ![2, v60.toNat, 0, 0]
def k0_off101 (k0_t1 : Fin k0_t1_loop.trips) : Fin 4 → Nat :=
  let c3 : Index := 3#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v68 : Index := Scalar.indexCast v42
  let c0_43 : Index := 0#32
  let c0_44 : Index := 0#32
  ![3, v68.toNat, 0, 0]
def k0_off102 (k0_t1 : Fin k0_t1_loop.trips) : Fin 4 → Nat :=
  let c4 : Index := 4#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v76 : Index := Scalar.indexCast v42
  let c0_47 : Index := 0#32
  let c0_48 : Index := 0#32
  ![4, v76.toNat, 0, 0]
def k0_off103 (k0_t1 : Fin k0_t1_loop.trips) : Fin 4 → Nat :=
  let c5 : Index := 5#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v84 : Index := Scalar.indexCast v42
  let c0_51 : Index := 0#32
  let c0_52 : Index := 0#32
  ![5, v84.toNat, 0, 0]
def k0_off104 (k0_t1 : Fin k0_t1_loop.trips) : Fin 4 → Nat :=
  let c6 : Index := 6#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v92 : Index := Scalar.indexCast v42
  let c0_55 : Index := 0#32
  let c0_56 : Index := 0#32
  ![6, v92.toNat, 0, 0]
def k0_off105 (k0_t1 : Fin k0_t1_loop.trips) : Fin 4 → Nat :=
  let c7 : Index := 7#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v100 : Index := Scalar.indexCast v42
  let c0_59 : Index := 0#32
  let c0_60 : Index := 0#32
  ![7, v100.toNat, 0, 0]
def k0_off106 (k0_t1 : Fin k0_t1_loop.trips) : Fin 4 → Nat :=
  let c8 : Index := 8#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v108 : Index := Scalar.indexCast v42
  let c0_63 : Index := 0#32
  let c0_64 : Index := 0#32
  ![8, v108.toNat, 0, 0]
def k0_off107 (k0_t1 : Fin k0_t1_loop.trips) : Fin 4 → Nat :=
  let c9 : Index := 9#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v116 : Index := Scalar.indexCast v42
  let c0_67 : Index := 0#32
  let c0_68 : Index := 0#32
  ![9, v116.toNat, 0, 0]
def k0_off108 (k0_t1 : Fin k0_t1_loop.trips) : Fin 4 → Nat :=
  let c10 : Index := 10#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v124 : Index := Scalar.indexCast v42
  let c0_71 : Index := 0#32
  let c0_72 : Index := 0#32
  ![10, v124.toNat, 0, 0]
def k0_off109 (k0_t1 : Fin k0_t1_loop.trips) : Fin 4 → Nat :=
  let c11 : Index := 11#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v132 : Index := Scalar.indexCast v42
  let c0_75 : Index := 0#32
  let c0_76 : Index := 0#32
  ![11, v132.toNat, 0, 0]
def k0_off110 (k0_t1 : Fin k0_t1_loop.trips) : Fin 4 → Nat :=
  let c12 : Index := 12#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v140 : Index := Scalar.indexCast v42
  let c0_79 : Index := 0#32
  let c0_80 : Index := 0#32
  ![12, v140.toNat, 0, 0]
def k0_off111 (k0_t1 : Fin k0_t1_loop.trips) : Fin 4 → Nat :=
  let c13 : Index := 13#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v148 : Index := Scalar.indexCast v42
  let c0_83 : Index := 0#32
  let c0_84 : Index := 0#32
  ![13, v148.toNat, 0, 0]
def k0_off112 (k0_t1 : Fin k0_t1_loop.trips) : Fin 4 → Nat :=
  let c14 : Index := 14#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v156 : Index := Scalar.indexCast v42
  let c0_87 : Index := 0#32
  let c0_88 : Index := 0#32
  ![14, v156.toNat, 0, 0]
def k0_off113 (k0_t1 : Fin k0_t1_loop.trips) : Fin 4 → Nat :=
  let c15 : Index := 15#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v164 : Index := Scalar.indexCast v42
  let c0_91 : Index := 0#32
  let c0_92 : Index := 0#32
  ![15, v164.toNat, 0, 0]
def k0_off114 (k0_t1 : Fin k0_t1_loop.trips) : Fin 4 → Nat :=
  let c16_95 : Index := 16#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v172 : Index := Scalar.indexCast v42
  let c0_96 : Index := 0#32
  let c0_97 : Index := 0#32
  ![16, v172.toNat, 0, 0]
def k0_off115 (k0_t1 : Fin k0_t1_loop.trips) : Fin 4 → Nat :=
  let c17 : Index := 17#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v180 : Index := Scalar.indexCast v42
  let c0_100 : Index := 0#32
  let c0_101 : Index := 0#32
  ![17, v180.toNat, 0, 0]
def k0_off116 (k0_t1 : Fin k0_t1_loop.trips) : Fin 4 → Nat :=
  let c18 : Index := 18#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v188 : Index := Scalar.indexCast v42
  let c0_104 : Index := 0#32
  let c0_105 : Index := 0#32
  ![18, v188.toNat, 0, 0]
def k0_off117 (k0_t1 : Fin k0_t1_loop.trips) : Fin 4 → Nat :=
  let c19 : Index := 19#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v196 : Index := Scalar.indexCast v42
  let c0_108 : Index := 0#32
  let c0_109 : Index := 0#32
  ![19, v196.toNat, 0, 0]
def k0_off118 (k0_t1 : Fin k0_t1_loop.trips) : Fin 4 → Nat :=
  let c20 : Index := 20#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v204 : Index := Scalar.indexCast v42
  let c0_112 : Index := 0#32
  let c0_113 : Index := 0#32
  ![20, v204.toNat, 0, 0]
def k0_off119 (k0_t1 : Fin k0_t1_loop.trips) : Fin 4 → Nat :=
  let c21 : Index := 21#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v212 : Index := Scalar.indexCast v42
  let c0_116 : Index := 0#32
  let c0_117 : Index := 0#32
  ![21, v212.toNat, 0, 0]
def k0_off120 (k0_t1 : Fin k0_t1_loop.trips) : Fin 4 → Nat :=
  let c22 : Index := 22#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v220 : Index := Scalar.indexCast v42
  let c0_120 : Index := 0#32
  let c0_121 : Index := 0#32
  ![22, v220.toNat, 0, 0]
def k0_off121 (k0_t1 : Fin k0_t1_loop.trips) : Fin 4 → Nat :=
  let c23 : Index := 23#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v228 : Index := Scalar.indexCast v42
  let c0_124 : Index := 0#32
  let c0_125 : Index := 0#32
  ![23, v228.toNat, 0, 0]
def k0_off122 (k0_t1 : Fin k0_t1_loop.trips) : Fin 4 → Nat :=
  let c24 : Index := 24#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v236 : Index := Scalar.indexCast v42
  let c0_128 : Index := 0#32
  let c0_129 : Index := 0#32
  ![24, v236.toNat, 0, 0]
def k0_off123 (k0_t1 : Fin k0_t1_loop.trips) : Fin 4 → Nat :=
  let c25 : Index := 25#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v244 : Index := Scalar.indexCast v42
  let c0_132 : Index := 0#32
  let c0_133 : Index := 0#32
  ![25, v244.toNat, 0, 0]
def k0_off124 (k0_t1 : Fin k0_t1_loop.trips) : Fin 4 → Nat :=
  let c26 : Index := 26#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v252 : Index := Scalar.indexCast v42
  let c0_136 : Index := 0#32
  let c0_137 : Index := 0#32
  ![26, v252.toNat, 0, 0]
def k0_off125 (k0_t1 : Fin k0_t1_loop.trips) : Fin 4 → Nat :=
  let c27 : Index := 27#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v260 : Index := Scalar.indexCast v42
  let c0_140 : Index := 0#32
  let c0_141 : Index := 0#32
  ![27, v260.toNat, 0, 0]
def k0_off126 (k0_t1 : Fin k0_t1_loop.trips) : Fin 4 → Nat :=
  let c28 : Index := 28#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v268 : Index := Scalar.indexCast v42
  let c0_144 : Index := 0#32
  let c0_145 : Index := 0#32
  ![28, v268.toNat, 0, 0]
def k0_off127 (k0_t1 : Fin k0_t1_loop.trips) : Fin 4 → Nat :=
  let c29 : Index := 29#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v276 : Index := Scalar.indexCast v42
  let c0_148 : Index := 0#32
  let c0_149 : Index := 0#32
  ![29, v276.toNat, 0, 0]
def k0_off128 (k0_t1 : Fin k0_t1_loop.trips) : Fin 4 → Nat :=
  let c30 : Index := 30#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v284 : Index := Scalar.indexCast v42
  let c0_152 : Index := 0#32
  let c0_153 : Index := 0#32
  ![30, v284.toNat, 0, 0]
def k0_off129 (k0_t1 : Fin k0_t1_loop.trips) : Fin 4 → Nat :=
  let c31 : Index := 31#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v292 : Index := Scalar.indexCast v42
  let c0_156 : Index := 0#32
  let c0_157 : Index := 0#32
  ![31, v292.toNat, 0, 0]
def k0_off130 (k0_t1 : Fin k0_t1_loop.trips) : Fin 4 → Nat :=
  let c32_160 : Index := 32#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v300 : Index := Scalar.indexCast v42
  let c0_161 : Index := 0#32
  let c0_162 : Index := 0#32
  ![32, v300.toNat, 0, 0]
def k0_off131 (k0_t1 : Fin k0_t1_loop.trips) : Fin 4 → Nat :=
  let c33 : Index := 33#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v308 : Index := Scalar.indexCast v42
  let c0_165 : Index := 0#32
  let c0_166 : Index := 0#32
  ![33, v308.toNat, 0, 0]
def k0_off132 (k0_t1 : Fin k0_t1_loop.trips) : Fin 4 → Nat :=
  let c34 : Index := 34#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v316 : Index := Scalar.indexCast v42
  let c0_169 : Index := 0#32
  let c0_170 : Index := 0#32
  ![34, v316.toNat, 0, 0]
def k0_off133 (k0_t1 : Fin k0_t1_loop.trips) : Fin 4 → Nat :=
  let c35 : Index := 35#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v324 : Index := Scalar.indexCast v42
  let c0_173 : Index := 0#32
  let c0_174 : Index := 0#32
  ![35, v324.toNat, 0, 0]
def k0_off134 (k0_t1 : Fin k0_t1_loop.trips) : Fin 4 → Nat :=
  let c36 : Index := 36#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v332 : Index := Scalar.indexCast v42
  let c0_177 : Index := 0#32
  let c0_178 : Index := 0#32
  ![36, v332.toNat, 0, 0]
def k0_off135 (k0_t1 : Fin k0_t1_loop.trips) : Fin 4 → Nat :=
  let c37 : Index := 37#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v340 : Index := Scalar.indexCast v42
  let c0_181 : Index := 0#32
  let c0_182 : Index := 0#32
  ![37, v340.toNat, 0, 0]
def k0_off136 (k0_t1 : Fin k0_t1_loop.trips) : Fin 4 → Nat :=
  let c38 : Index := 38#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v348 : Index := Scalar.indexCast v42
  let c0_185 : Index := 0#32
  let c0_186 : Index := 0#32
  ![38, v348.toNat, 0, 0]
def k0_off137 (k0_t1 : Fin k0_t1_loop.trips) : Fin 4 → Nat :=
  let c39 : Index := 39#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v356 : Index := Scalar.indexCast v42
  let c0_189 : Index := 0#32
  let c0_190 : Index := 0#32
  ![39, v356.toNat, 0, 0]
def k0_off138 (k0_t1 : Fin k0_t1_loop.trips) : Fin 4 → Nat :=
  let c40 : Index := 40#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v364 : Index := Scalar.indexCast v42
  let c0_193 : Index := 0#32
  let c0_194 : Index := 0#32
  ![40, v364.toNat, 0, 0]
def k0_off139 (k0_t1 : Fin k0_t1_loop.trips) : Fin 4 → Nat :=
  let c41 : Index := 41#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v372 : Index := Scalar.indexCast v42
  let c0_197 : Index := 0#32
  let c0_198 : Index := 0#32
  ![41, v372.toNat, 0, 0]
def k0_off140 (k0_t1 : Fin k0_t1_loop.trips) : Fin 4 → Nat :=
  let c42 : Index := 42#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v380 : Index := Scalar.indexCast v42
  let c0_201 : Index := 0#32
  let c0_202 : Index := 0#32
  ![42, v380.toNat, 0, 0]
def k0_off141 (k0_t1 : Fin k0_t1_loop.trips) : Fin 4 → Nat :=
  let c43 : Index := 43#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v388 : Index := Scalar.indexCast v42
  let c0_205 : Index := 0#32
  let c0_206 : Index := 0#32
  ![43, v388.toNat, 0, 0]
def k0_off142 (k0_t1 : Fin k0_t1_loop.trips) : Fin 4 → Nat :=
  let c44 : Index := 44#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v396 : Index := Scalar.indexCast v42
  let c0_209 : Index := 0#32
  let c0_210 : Index := 0#32
  ![44, v396.toNat, 0, 0]
def k0_off143 (k0_t1 : Fin k0_t1_loop.trips) : Fin 4 → Nat :=
  let c45 : Index := 45#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v404 : Index := Scalar.indexCast v42
  let c0_213 : Index := 0#32
  let c0_214 : Index := 0#32
  ![45, v404.toNat, 0, 0]
def k0_off144 (k0_t1 : Fin k0_t1_loop.trips) : Fin 4 → Nat :=
  let c46 : Index := 46#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v412 : Index := Scalar.indexCast v42
  let c0_217 : Index := 0#32
  let c0_218 : Index := 0#32
  ![46, v412.toNat, 0, 0]
def k0_off145 (k0_t1 : Fin k0_t1_loop.trips) : Fin 4 → Nat :=
  let c47 : Index := 47#32
  let c0_i32_19 : BitVec 32 := 0#32
  let c1_i32_21 : BitVec 32 := 1#32
  let arg14 : BitVec 32 := Scf.iv c0_i32_19 c1_i32_21 k0_t1
  let c16_i32 : BitVec 32 := 16#32
  let v42 : BitVec 32 := Scalar.muli arg14 c16_i32
  let v420 : Index := Scalar.indexCast v42
  let c0_221 : Index := 0#32
  let c0_222 : Index := 0#32
  ![47, v420.toNat, 0, 0]
def k0_off146 (k0_t1 : Fin k0_t1_loop.trips) : Fin 3 → Nat :=
  let c0_225 : Index := 0#32
  let c0_i32_19 : BitVec 32 := 0#32
  let c1_i32_21 : BitVec 32 := 1#32
  let arg14 : BitVec 32 := Scf.iv c0_i32_19 c1_i32_21 k0_t1
  let c512_i32 : BitVec 32 := 512#32
  let v428 : BitVec 32 := Scalar.muli arg14 c512_i32
  let v429 : Index := Scalar.indexCast v428
  let c0_226 : Index := 0#32
  ![0, v429.toNat, 0]
def k0_off147 (k0_t1 : Fin k0_t1_loop.trips) : Fin 2 → Nat :=
  let c0_i32_19 : BitVec 32 := 0#32
  let c1_i32_21 : BitVec 32 := 1#32
  let arg14 : BitVec 32 := Scf.iv c0_i32_19 c1_i32_21 k0_t1
  let c512_i32 : BitVec 32 := 512#32
  let v428 : BitVec 32 := Scalar.muli arg14 c512_i32
  let v435 : Index := Scalar.indexCast v428
  let c0_228 : Index := 0#32
  ![v435.toNat, 0]
def k0_cond7 (i : grid0.Coords) : BitVec 1 :=
  let arg0 : BitVec 32 := BitVec.ofNat 32 (i 0).val
  let c2_i32 : BitVec 32 := 2#32
  let v3 : BitVec 32 := Scalar.remsi arg0 c2_i32
  let c1_i32 : BitVec 32 := 1#32
  let v12 : BitVec 1 := Scalar.cmpi .eq v3 c1_i32
  let v13 : BitVec 32 := Scalar.extui v12
  let c0_i32_6 : BitVec 32 := 0#32
  let v14 : BitVec 1 := Scalar.cmpi .ne v13 c0_i32_6
  v14

def k0_cond8 (i : grid0.Coords) : BitVec 1 :=
  let arg1 : BitVec 32 := BitVec.ofNat 32 (i 1).val
  let c0_i32_13 : BitVec 32 := 0#32
  let v22 : BitVec 1 := Scalar.cmpi .eq arg1 c0_i32_13
  let v23 : BitVec 32 := Scalar.extui v22
  let c0_i32_14 : BitVec 32 := 0#32
  let v24 : BitVec 1 := Scalar.cmpi .ne v23 c0_i32_14
  v24

def k0_off148 (i : grid0.Coords) : Fin 6 → Nat :=
  let arg0 : BitVec 32 := BitVec.ofNat 32 (i 0).val
  let c0_i32_19 : BitVec 32 := 0#32
  let c0_i32_26 : BitVec 32 := 0#32
  let c0_i32_20 : BitVec 32 := 0#32
  let c0_i32_27 : BitVec 32 := 0#32
  let c0_i32_28 : BitVec 32 := 0#32
  ![arg0.toNat, 0, 0, 0, 0, 0]
def k0_off149 (i : grid0.Coords) : Fin 6 → Nat :=
  let arg0 : BitVec 32 := BitVec.ofNat 32 (i 0).val
  let c0_i32_29 : BitVec 32 := 0#32
  let c0_i32_36 : BitVec 32 := 0#32
  let c1_i32_30 : BitVec 32 := 1#32
  let c0_i32_37 : BitVec 32 := 0#32
  let c0_i32_38 : BitVec 32 := 0#32
  ![arg0.toNat, 0, 0, 1, 0, 0]
def k0_off150 (i : grid0.Coords) : Fin 6 → Nat :=
  let arg0 : BitVec 32 := BitVec.ofNat 32 (i 0).val
  let c0_i32_39 : BitVec 32 := 0#32
  let c0_i32_46 : BitVec 32 := 0#32
  let c2_i32_40 : BitVec 32 := 2#32
  let c0_i32_47 : BitVec 32 := 0#32
  let c0_i32_48 : BitVec 32 := 0#32
  ![arg0.toNat, 0, 0, 2, 0, 0]
def k0_off151 (i : grid0.Coords) : Fin 6 → Nat :=
  let arg0 : BitVec 32 := BitVec.ofNat 32 (i 0).val
  let c0_i32_49 : BitVec 32 := 0#32
  let c0_i32_55 : BitVec 32 := 0#32
  let c3_i32 : BitVec 32 := 3#32
  let c0_i32_56 : BitVec 32 := 0#32
  let c0_i32_57 : BitVec 32 := 0#32
  ![arg0.toNat, 0, 0, 3, 0, 0]
def k0_off152 (i : grid0.Coords) : Fin 6 → Nat :=
  let arg0 : BitVec 32 := BitVec.ofNat 32 (i 0).val
  let c0_i32_58 : BitVec 32 := 0#32
  let c0_i32_64 : BitVec 32 := 0#32
  let c4_i32 : BitVec 32 := 4#32
  let c0_i32_65 : BitVec 32 := 0#32
  let c0_i32_66 : BitVec 32 := 0#32
  ![arg0.toNat, 0, 0, 4, 0, 0]
def k0_off153 (i : grid0.Coords) : Fin 6 → Nat :=
  let arg0 : BitVec 32 := BitVec.ofNat 32 (i 0).val
  let c0_i32_67 : BitVec 32 := 0#32
  let c0_i32_73 : BitVec 32 := 0#32
  let c5_i32 : BitVec 32 := 5#32
  let c0_i32_74 : BitVec 32 := 0#32
  let c0_i32_75 : BitVec 32 := 0#32
  ![arg0.toNat, 0, 0, 5, 0, 0]
def k0_off154 (i : grid0.Coords) : Fin 6 → Nat :=
  let arg0 : BitVec 32 := BitVec.ofNat 32 (i 0).val
  let c0_i32_76 : BitVec 32 := 0#32
  let c0_i32_82 : BitVec 32 := 0#32
  let c6_i32 : BitVec 32 := 6#32
  let c0_i32_83 : BitVec 32 := 0#32
  let c0_i32_84 : BitVec 32 := 0#32
  ![arg0.toNat, 0, 0, 6, 0, 0]
def k0_off155 (i : grid0.Coords) : Fin 6 → Nat :=
  let arg0 : BitVec 32 := BitVec.ofNat 32 (i 0).val
  let c0_i32_85 : BitVec 32 := 0#32
  let c0_i32_92 : BitVec 32 := 0#32
  let c7_i32_86 : BitVec 32 := 7#32
  let c0_i32_93 : BitVec 32 := 0#32
  let c0_i32_94 : BitVec 32 := 0#32
  ![arg0.toNat, 0, 0, 7, 0, 0]
def k0_off156 (i : grid0.Coords) : Fin 6 → Nat :=
  let arg0 : BitVec 32 := BitVec.ofNat 32 (i 0).val
  let c0_i32_95 : BitVec 32 := 0#32
  let c0_i32_101 : BitVec 32 := 0#32
  let c8_i32 : BitVec 32 := 8#32
  let c0_i32_102 : BitVec 32 := 0#32
  let c0_i32_103 : BitVec 32 := 0#32
  ![arg0.toNat, 0, 0, 8, 0, 0]
def k0_off157 (i : grid0.Coords) : Fin 6 → Nat :=
  let arg0 : BitVec 32 := BitVec.ofNat 32 (i 0).val
  let c0_i32_104 : BitVec 32 := 0#32
  let c0_i32_110 : BitVec 32 := 0#32
  let c9_i32 : BitVec 32 := 9#32
  let c0_i32_111 : BitVec 32 := 0#32
  let c0_i32_112 : BitVec 32 := 0#32
  ![arg0.toNat, 0, 0, 9, 0, 0]
def k0_off158 (i : grid0.Coords) : Fin 6 → Nat :=
  let arg0 : BitVec 32 := BitVec.ofNat 32 (i 0).val
  let c0_i32_113 : BitVec 32 := 0#32
  let c0_i32_119 : BitVec 32 := 0#32
  let c10_i32 : BitVec 32 := 10#32
  let c0_i32_120 : BitVec 32 := 0#32
  let c0_i32_121 : BitVec 32 := 0#32
  ![arg0.toNat, 0, 0, 10, 0, 0]
def k0_off159 (i : grid0.Coords) : Fin 6 → Nat :=
  let arg0 : BitVec 32 := BitVec.ofNat 32 (i 0).val
  let c0_i32_122 : BitVec 32 := 0#32
  let c0_i32_128 : BitVec 32 := 0#32
  let c11_i32 : BitVec 32 := 11#32
  let c0_i32_129 : BitVec 32 := 0#32
  let c0_i32_130 : BitVec 32 := 0#32
  ![arg0.toNat, 0, 0, 11, 0, 0]
def k0_off160 (i : grid0.Coords) : Fin 6 → Nat :=
  let arg0 : BitVec 32 := BitVec.ofNat 32 (i 0).val
  let c0_i32_131 : BitVec 32 := 0#32
  let c0_i32_137 : BitVec 32 := 0#32
  let c12_i32 : BitVec 32 := 12#32
  let c0_i32_138 : BitVec 32 := 0#32
  let c0_i32_139 : BitVec 32 := 0#32
  ![arg0.toNat, 0, 0, 12, 0, 0]
def k0_off161 (i : grid0.Coords) : Fin 6 → Nat :=
  let arg0 : BitVec 32 := BitVec.ofNat 32 (i 0).val
  let c0_i32_140 : BitVec 32 := 0#32
  let c0_i32_146 : BitVec 32 := 0#32
  let c13_i32 : BitVec 32 := 13#32
  let c0_i32_147 : BitVec 32 := 0#32
  let c0_i32_148 : BitVec 32 := 0#32
  ![arg0.toNat, 0, 0, 13, 0, 0]
def k0_off162 (i : grid0.Coords) : Fin 6 → Nat :=
  let arg0 : BitVec 32 := BitVec.ofNat 32 (i 0).val
  let c0_i32_149 : BitVec 32 := 0#32
  let c0_i32_155 : BitVec 32 := 0#32
  let c14_i32 : BitVec 32 := 14#32
  let c0_i32_156 : BitVec 32 := 0#32
  let c0_i32_157 : BitVec 32 := 0#32
  ![arg0.toNat, 0, 0, 14, 0, 0]
def k0_off163 (i : grid0.Coords) : Fin 6 → Nat :=
  let arg0 : BitVec 32 := BitVec.ofNat 32 (i 0).val
  let c0_i32_158 : BitVec 32 := 0#32
  let c0_i32_164 : BitVec 32 := 0#32
  let c15_i32 : BitVec 32 := 15#32
  let c0_i32_165 : BitVec 32 := 0#32
  let c0_i32_166 : BitVec 32 := 0#32
  ![arg0.toNat, 0, 0, 15, 0, 0]
def k0_off164 (i : grid0.Coords) : Fin 6 → Nat :=
  let arg0 : BitVec 32 := BitVec.ofNat 32 (i 0).val
  let c1_i32_167 : BitVec 32 := 1#32
  let c0_i32_173 : BitVec 32 := 0#32
  let c0_i32_168 : BitVec 32 := 0#32
  let c0_i32_174 : BitVec 32 := 0#32
  let c0_i32_175 : BitVec 32 := 0#32
  ![arg0.toNat, 1, 0, 0, 0, 0]
def k0_off165 (i : grid0.Coords) : Fin 6 → Nat :=
  let arg0 : BitVec 32 := BitVec.ofNat 32 (i 0).val
  let c1_i32_176 : BitVec 32 := 1#32
  let c0_i32_182 : BitVec 32 := 0#32
  let c1_i32_177 : BitVec 32 := 1#32
  let c0_i32_183 : BitVec 32 := 0#32
  let c0_i32_184 : BitVec 32 := 0#32
  ![arg0.toNat, 1, 0, 1, 0, 0]
def k0_off166 (i : grid0.Coords) : Fin 6 → Nat :=
  let arg0 : BitVec 32 := BitVec.ofNat 32 (i 0).val
  let c1_i32_185 : BitVec 32 := 1#32
  let c0_i32_191 : BitVec 32 := 0#32
  let c2_i32_186 : BitVec 32 := 2#32
  let c0_i32_192 : BitVec 32 := 0#32
  let c0_i32_193 : BitVec 32 := 0#32
  ![arg0.toNat, 1, 0, 2, 0, 0]
def k0_off167 (i : grid0.Coords) : Fin 6 → Nat :=
  let arg0 : BitVec 32 := BitVec.ofNat 32 (i 0).val
  let c1_i32_194 : BitVec 32 := 1#32
  let c0_i32_200 : BitVec 32 := 0#32
  let c3_i32_195 : BitVec 32 := 3#32
  let c0_i32_201 : BitVec 32 := 0#32
  let c0_i32_202 : BitVec 32 := 0#32
  ![arg0.toNat, 1, 0, 3, 0, 0]
def k0_off168 (i : grid0.Coords) : Fin 6 → Nat :=
  let arg0 : BitVec 32 := BitVec.ofNat 32 (i 0).val
  let c1_i32_203 : BitVec 32 := 1#32
  let c0_i32_209 : BitVec 32 := 0#32
  let c4_i32_204 : BitVec 32 := 4#32
  let c0_i32_210 : BitVec 32 := 0#32
  let c0_i32_211 : BitVec 32 := 0#32
  ![arg0.toNat, 1, 0, 4, 0, 0]
def k0_off169 (i : grid0.Coords) : Fin 6 → Nat :=
  let arg0 : BitVec 32 := BitVec.ofNat 32 (i 0).val
  let c1_i32_212 : BitVec 32 := 1#32
  let c0_i32_218 : BitVec 32 := 0#32
  let c5_i32_213 : BitVec 32 := 5#32
  let c0_i32_219 : BitVec 32 := 0#32
  let c0_i32_220 : BitVec 32 := 0#32
  ![arg0.toNat, 1, 0, 5, 0, 0]
def k0_off170 (i : grid0.Coords) : Fin 6 → Nat :=
  let arg0 : BitVec 32 := BitVec.ofNat 32 (i 0).val
  let c1_i32_221 : BitVec 32 := 1#32
  let c0_i32_227 : BitVec 32 := 0#32
  let c6_i32_222 : BitVec 32 := 6#32
  let c0_i32_228 : BitVec 32 := 0#32
  let c0_i32_229 : BitVec 32 := 0#32
  ![arg0.toNat, 1, 0, 6, 0, 0]
def k0_off171 (i : grid0.Coords) : Fin 6 → Nat :=
  let arg0 : BitVec 32 := BitVec.ofNat 32 (i 0).val
  let c1_i32_230 : BitVec 32 := 1#32
  let c0_i32_236 : BitVec 32 := 0#32
  let c7_i32_231 : BitVec 32 := 7#32
  let c0_i32_237 : BitVec 32 := 0#32
  let c0_i32_238 : BitVec 32 := 0#32
  ![arg0.toNat, 1, 0, 7, 0, 0]
def k0_off172 (i : grid0.Coords) : Fin 6 → Nat :=
  let arg0 : BitVec 32 := BitVec.ofNat 32 (i 0).val
  let c1_i32_239 : BitVec 32 := 1#32
  let c0_i32_245 : BitVec 32 := 0#32
  let c8_i32_240 : BitVec 32 := 8#32
  let c0_i32_246 : BitVec 32 := 0#32
  let c0_i32_247 : BitVec 32 := 0#32
  ![arg0.toNat, 1, 0, 8, 0, 0]
def k0_off173 (i : grid0.Coords) : Fin 6 → Nat :=
  let arg0 : BitVec 32 := BitVec.ofNat 32 (i 0).val
  let c1_i32_248 : BitVec 32 := 1#32
  let c0_i32_254 : BitVec 32 := 0#32
  let c9_i32_249 : BitVec 32 := 9#32
  let c0_i32_255 : BitVec 32 := 0#32
  let c0_i32_256 : BitVec 32 := 0#32
  ![arg0.toNat, 1, 0, 9, 0, 0]
def k0_off174 (i : grid0.Coords) : Fin 6 → Nat :=
  let arg0 : BitVec 32 := BitVec.ofNat 32 (i 0).val
  let c1_i32_257 : BitVec 32 := 1#32
  let c0_i32_263 : BitVec 32 := 0#32
  let c10_i32_258 : BitVec 32 := 10#32
  let c0_i32_264 : BitVec 32 := 0#32
  let c0_i32_265 : BitVec 32 := 0#32
  ![arg0.toNat, 1, 0, 10, 0, 0]
def k0_off175 (i : grid0.Coords) : Fin 6 → Nat :=
  let arg0 : BitVec 32 := BitVec.ofNat 32 (i 0).val
  let c1_i32_266 : BitVec 32 := 1#32
  let c0_i32_272 : BitVec 32 := 0#32
  let c11_i32_267 : BitVec 32 := 11#32
  let c0_i32_273 : BitVec 32 := 0#32
  let c0_i32_274 : BitVec 32 := 0#32
  ![arg0.toNat, 1, 0, 11, 0, 0]
def k0_off176 (i : grid0.Coords) : Fin 6 → Nat :=
  let arg0 : BitVec 32 := BitVec.ofNat 32 (i 0).val
  let c1_i32_275 : BitVec 32 := 1#32
  let c0_i32_281 : BitVec 32 := 0#32
  let c12_i32_276 : BitVec 32 := 12#32
  let c0_i32_282 : BitVec 32 := 0#32
  let c0_i32_283 : BitVec 32 := 0#32
  ![arg0.toNat, 1, 0, 12, 0, 0]
def k0_off177 (i : grid0.Coords) : Fin 6 → Nat :=
  let arg0 : BitVec 32 := BitVec.ofNat 32 (i 0).val
  let c1_i32_284 : BitVec 32 := 1#32
  let c0_i32_290 : BitVec 32 := 0#32
  let c13_i32_285 : BitVec 32 := 13#32
  let c0_i32_291 : BitVec 32 := 0#32
  let c0_i32_292 : BitVec 32 := 0#32
  ![arg0.toNat, 1, 0, 13, 0, 0]
def k0_off178 (i : grid0.Coords) : Fin 6 → Nat :=
  let arg0 : BitVec 32 := BitVec.ofNat 32 (i 0).val
  let c1_i32_293 : BitVec 32 := 1#32
  let c0_i32_299 : BitVec 32 := 0#32
  let c14_i32_294 : BitVec 32 := 14#32
  let c0_i32_300 : BitVec 32 := 0#32
  let c0_i32_301 : BitVec 32 := 0#32
  ![arg0.toNat, 1, 0, 14, 0, 0]
def k0_off179 (i : grid0.Coords) : Fin 6 → Nat :=
  let arg0 : BitVec 32 := BitVec.ofNat 32 (i 0).val
  let c1_i32_302 : BitVec 32 := 1#32
  let c0_i32_308 : BitVec 32 := 0#32
  let c15_i32_303 : BitVec 32 := 15#32
  let c0_i32_309 : BitVec 32 := 0#32
  let c0_i32_310 : BitVec 32 := 0#32
  ![arg0.toNat, 1, 0, 15, 0, 0]
def k0_off180 (i : grid0.Coords) : Fin 6 → Nat :=
  let arg0 : BitVec 32 := BitVec.ofNat 32 (i 0).val
  let c2_i32_311 : BitVec 32 := 2#32
  let c0_i32_317 : BitVec 32 := 0#32
  let c0_i32_312 : BitVec 32 := 0#32
  let c0_i32_318 : BitVec 32 := 0#32
  let c0_i32_319 : BitVec 32 := 0#32
  ![arg0.toNat, 2, 0, 0, 0, 0]
def k0_off181 (i : grid0.Coords) : Fin 6 → Nat :=
  let arg0 : BitVec 32 := BitVec.ofNat 32 (i 0).val
  let c2_i32_320 : BitVec 32 := 2#32
  let c0_i32_326 : BitVec 32 := 0#32
  let c1_i32_321 : BitVec 32 := 1#32
  let c0_i32_327 : BitVec 32 := 0#32
  let c0_i32_328 : BitVec 32 := 0#32
  ![arg0.toNat, 2, 0, 1, 0, 0]
def k0_off182 (i : grid0.Coords) : Fin 6 → Nat :=
  let arg0 : BitVec 32 := BitVec.ofNat 32 (i 0).val
  let c2_i32_329 : BitVec 32 := 2#32
  let c0_i32_335 : BitVec 32 := 0#32
  let c2_i32_330 : BitVec 32 := 2#32
  let c0_i32_336 : BitVec 32 := 0#32
  let c0_i32_337 : BitVec 32 := 0#32
  ![arg0.toNat, 2, 0, 2, 0, 0]
def k0_off183 (i : grid0.Coords) : Fin 6 → Nat :=
  let arg0 : BitVec 32 := BitVec.ofNat 32 (i 0).val
  let c2_i32_338 : BitVec 32 := 2#32
  let c0_i32_344 : BitVec 32 := 0#32
  let c3_i32_339 : BitVec 32 := 3#32
  let c0_i32_345 : BitVec 32 := 0#32
  let c0_i32_346 : BitVec 32 := 0#32
  ![arg0.toNat, 2, 0, 3, 0, 0]
def k0_off184 (i : grid0.Coords) : Fin 6 → Nat :=
  let arg0 : BitVec 32 := BitVec.ofNat 32 (i 0).val
  let c2_i32_347 : BitVec 32 := 2#32
  let c0_i32_353 : BitVec 32 := 0#32
  let c4_i32_348 : BitVec 32 := 4#32
  let c0_i32_354 : BitVec 32 := 0#32
  let c0_i32_355 : BitVec 32 := 0#32
  ![arg0.toNat, 2, 0, 4, 0, 0]
def k0_off185 (i : grid0.Coords) : Fin 6 → Nat :=
  let arg0 : BitVec 32 := BitVec.ofNat 32 (i 0).val
  let c2_i32_356 : BitVec 32 := 2#32
  let c0_i32_362 : BitVec 32 := 0#32
  let c5_i32_357 : BitVec 32 := 5#32
  let c0_i32_363 : BitVec 32 := 0#32
  let c0_i32_364 : BitVec 32 := 0#32
  ![arg0.toNat, 2, 0, 5, 0, 0]
def k0_off186 (i : grid0.Coords) : Fin 6 → Nat :=
  let arg0 : BitVec 32 := BitVec.ofNat 32 (i 0).val
  let c2_i32_365 : BitVec 32 := 2#32
  let c0_i32_371 : BitVec 32 := 0#32
  let c6_i32_366 : BitVec 32 := 6#32
  let c0_i32_372 : BitVec 32 := 0#32
  let c0_i32_373 : BitVec 32 := 0#32
  ![arg0.toNat, 2, 0, 6, 0, 0]
def k0_off187 (i : grid0.Coords) : Fin 6 → Nat :=
  let arg0 : BitVec 32 := BitVec.ofNat 32 (i 0).val
  let c2_i32_374 : BitVec 32 := 2#32
  let c0_i32_380 : BitVec 32 := 0#32
  let c7_i32_375 : BitVec 32 := 7#32
  let c0_i32_381 : BitVec 32 := 0#32
  let c0_i32_382 : BitVec 32 := 0#32
  ![arg0.toNat, 2, 0, 7, 0, 0]
def k0_off188 (i : grid0.Coords) : Fin 6 → Nat :=
  let arg0 : BitVec 32 := BitVec.ofNat 32 (i 0).val
  let c2_i32_383 : BitVec 32 := 2#32
  let c0_i32_389 : BitVec 32 := 0#32
  let c8_i32_384 : BitVec 32 := 8#32
  let c0_i32_390 : BitVec 32 := 0#32
  let c0_i32_391 : BitVec 32 := 0#32
  ![arg0.toNat, 2, 0, 8, 0, 0]
def k0_off189 (i : grid0.Coords) : Fin 6 → Nat :=
  let arg0 : BitVec 32 := BitVec.ofNat 32 (i 0).val
  let c2_i32_392 : BitVec 32 := 2#32
  let c0_i32_398 : BitVec 32 := 0#32
  let c9_i32_393 : BitVec 32 := 9#32
  let c0_i32_399 : BitVec 32 := 0#32
  let c0_i32_400 : BitVec 32 := 0#32
  ![arg0.toNat, 2, 0, 9, 0, 0]
def k0_off190 (i : grid0.Coords) : Fin 6 → Nat :=
  let arg0 : BitVec 32 := BitVec.ofNat 32 (i 0).val
  let c2_i32_401 : BitVec 32 := 2#32
  let c0_i32_407 : BitVec 32 := 0#32
  let c10_i32_402 : BitVec 32 := 10#32
  let c0_i32_408 : BitVec 32 := 0#32
  let c0_i32_409 : BitVec 32 := 0#32
  ![arg0.toNat, 2, 0, 10, 0, 0]
def k0_off191 (i : grid0.Coords) : Fin 6 → Nat :=
  let arg0 : BitVec 32 := BitVec.ofNat 32 (i 0).val
  let c2_i32_410 : BitVec 32 := 2#32
  let c0_i32_416 : BitVec 32 := 0#32
  let c11_i32_411 : BitVec 32 := 11#32
  let c0_i32_417 : BitVec 32 := 0#32
  let c0_i32_418 : BitVec 32 := 0#32
  ![arg0.toNat, 2, 0, 11, 0, 0]
def k0_off192 (i : grid0.Coords) : Fin 6 → Nat :=
  let arg0 : BitVec 32 := BitVec.ofNat 32 (i 0).val
  let c2_i32_419 : BitVec 32 := 2#32
  let c0_i32_425 : BitVec 32 := 0#32
  let c12_i32_420 : BitVec 32 := 12#32
  let c0_i32_426 : BitVec 32 := 0#32
  let c0_i32_427 : BitVec 32 := 0#32
  ![arg0.toNat, 2, 0, 12, 0, 0]
def k0_off193 (i : grid0.Coords) : Fin 6 → Nat :=
  let arg0 : BitVec 32 := BitVec.ofNat 32 (i 0).val
  let c2_i32_428 : BitVec 32 := 2#32
  let c0_i32_434 : BitVec 32 := 0#32
  let c13_i32_429 : BitVec 32 := 13#32
  let c0_i32_435 : BitVec 32 := 0#32
  let c0_i32_436 : BitVec 32 := 0#32
  ![arg0.toNat, 2, 0, 13, 0, 0]
def k0_off194 (i : grid0.Coords) : Fin 6 → Nat :=
  let arg0 : BitVec 32 := BitVec.ofNat 32 (i 0).val
  let c2_i32_437 : BitVec 32 := 2#32
  let c0_i32_443 : BitVec 32 := 0#32
  let c14_i32_438 : BitVec 32 := 14#32
  let c0_i32_444 : BitVec 32 := 0#32
  let c0_i32_445 : BitVec 32 := 0#32
  ![arg0.toNat, 2, 0, 14, 0, 0]
def k0_off195 (i : grid0.Coords) : Fin 6 → Nat :=
  let arg0 : BitVec 32 := BitVec.ofNat 32 (i 0).val
  let c2_i32_446 : BitVec 32 := 2#32
  let c0_i32_452 : BitVec 32 := 0#32
  let c15_i32_447 : BitVec 32 := 15#32
  let c0_i32_453 : BitVec 32 := 0#32
  let c0_i32_454 : BitVec 32 := 0#32
  ![arg0.toNat, 2, 0, 15, 0, 0]
def k0_cond9 (i : grid0.Coords) : BitVec 1 :=
  let arg1 : BitVec 32 := BitVec.ofNat 32 (i 1).val
  let c0_i32_15 : BitVec 32 := 0#32
  let v25 : BitVec 1 := Scalar.cmpi .eq arg1 c0_i32_15
  let arg0 : BitVec 32 := BitVec.ofNat 32 (i 0).val
  let c7_i32 : BitVec 32 := 7#32
  let v26 : BitVec 1 := Scalar.cmpi .slt arg0 c7_i32
  let v27 : BitVec 1 := Scalar.andi v25 v26
  let v28 : BitVec 32 := Scalar.extui v27
  let c0_i32_16 : BitVec 32 := 0#32
  let v29 : BitVec 1 := Scalar.cmpi .ne v28 c0_i32_16
  v29

def k0_off196 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_20 : BitVec 32 := 0#32
  let c0_i32_27 : BitVec 32 := 0#32
  let c0_i32_21 : BitVec 32 := 0#32
  let c0_i32_28 : BitVec 32 := 0#32
  let c0_i32_29 : BitVec 32 := 0#32
  ![v33.toNat, 0, 0, 0, 0, 0]
def k0_off197 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_30 : BitVec 32 := 0#32
  let c0_i32_37 : BitVec 32 := 0#32
  let c1_i32_31 : BitVec 32 := 1#32
  let c0_i32_38 : BitVec 32 := 0#32
  let c0_i32_39 : BitVec 32 := 0#32
  ![v33.toNat, 0, 0, 1, 0, 0]
def k0_off198 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_40 : BitVec 32 := 0#32
  let c0_i32_47 : BitVec 32 := 0#32
  let c2_i32_41 : BitVec 32 := 2#32
  let c0_i32_48 : BitVec 32 := 0#32
  let c0_i32_49 : BitVec 32 := 0#32
  ![v33.toNat, 0, 0, 2, 0, 0]
def k0_off199 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_50 : BitVec 32 := 0#32
  let c0_i32_56 : BitVec 32 := 0#32
  let c3_i32 : BitVec 32 := 3#32
  let c0_i32_57 : BitVec 32 := 0#32
  let c0_i32_58 : BitVec 32 := 0#32
  ![v33.toNat, 0, 0, 3, 0, 0]
def k0_off200 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_59 : BitVec 32 := 0#32
  let c0_i32_65 : BitVec 32 := 0#32
  let c4_i32 : BitVec 32 := 4#32
  let c0_i32_66 : BitVec 32 := 0#32
  let c0_i32_67 : BitVec 32 := 0#32
  ![v33.toNat, 0, 0, 4, 0, 0]
def k0_off201 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_68 : BitVec 32 := 0#32
  let c0_i32_74 : BitVec 32 := 0#32
  let c5_i32 : BitVec 32 := 5#32
  let c0_i32_75 : BitVec 32 := 0#32
  let c0_i32_76 : BitVec 32 := 0#32
  ![v33.toNat, 0, 0, 5, 0, 0]
def k0_off202 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_77 : BitVec 32 := 0#32
  let c0_i32_83 : BitVec 32 := 0#32
  let c6_i32 : BitVec 32 := 6#32
  let c0_i32_84 : BitVec 32 := 0#32
  let c0_i32_85 : BitVec 32 := 0#32
  ![v33.toNat, 0, 0, 6, 0, 0]
def k0_off203 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_86 : BitVec 32 := 0#32
  let c0_i32_93 : BitVec 32 := 0#32
  let c7_i32_87 : BitVec 32 := 7#32
  let c0_i32_94 : BitVec 32 := 0#32
  let c0_i32_95 : BitVec 32 := 0#32
  ![v33.toNat, 0, 0, 7, 0, 0]
def k0_off204 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_96 : BitVec 32 := 0#32
  let c0_i32_102 : BitVec 32 := 0#32
  let c8_i32 : BitVec 32 := 8#32
  let c0_i32_103 : BitVec 32 := 0#32
  let c0_i32_104 : BitVec 32 := 0#32
  ![v33.toNat, 0, 0, 8, 0, 0]
def k0_off205 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_105 : BitVec 32 := 0#32
  let c0_i32_111 : BitVec 32 := 0#32
  let c9_i32 : BitVec 32 := 9#32
  let c0_i32_112 : BitVec 32 := 0#32
  let c0_i32_113 : BitVec 32 := 0#32
  ![v33.toNat, 0, 0, 9, 0, 0]
def k0_off206 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_114 : BitVec 32 := 0#32
  let c0_i32_120 : BitVec 32 := 0#32
  let c10_i32 : BitVec 32 := 10#32
  let c0_i32_121 : BitVec 32 := 0#32
  let c0_i32_122 : BitVec 32 := 0#32
  ![v33.toNat, 0, 0, 10, 0, 0]
def k0_off207 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_123 : BitVec 32 := 0#32
  let c0_i32_129 : BitVec 32 := 0#32
  let c11_i32 : BitVec 32 := 11#32
  let c0_i32_130 : BitVec 32 := 0#32
  let c0_i32_131 : BitVec 32 := 0#32
  ![v33.toNat, 0, 0, 11, 0, 0]
def k0_off208 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_132 : BitVec 32 := 0#32
  let c0_i32_138 : BitVec 32 := 0#32
  let c12_i32 : BitVec 32 := 12#32
  let c0_i32_139 : BitVec 32 := 0#32
  let c0_i32_140 : BitVec 32 := 0#32
  ![v33.toNat, 0, 0, 12, 0, 0]
def k0_off209 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_141 : BitVec 32 := 0#32
  let c0_i32_147 : BitVec 32 := 0#32
  let c13_i32 : BitVec 32 := 13#32
  let c0_i32_148 : BitVec 32 := 0#32
  let c0_i32_149 : BitVec 32 := 0#32
  ![v33.toNat, 0, 0, 13, 0, 0]
def k0_off210 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_150 : BitVec 32 := 0#32
  let c0_i32_156 : BitVec 32 := 0#32
  let c14_i32 : BitVec 32 := 14#32
  let c0_i32_157 : BitVec 32 := 0#32
  let c0_i32_158 : BitVec 32 := 0#32
  ![v33.toNat, 0, 0, 14, 0, 0]
def k0_off211 (i : grid0.Coords) : Fin 6 → Nat :=
  let arg0 : BitVec 32 := BitVec.ofNat 32 (i 0).val
  let c1_i32_19 : BitVec 32 := 1#32
  let v33 : BitVec 32 := Scalar.addi arg0 c1_i32_19
  let c0_i32_159 : BitVec 32 := 0#32
  let c0_i32_165 : BitVec 32 := 0#32
  let c15_i32 : BitVec 32 := 15#32
  let c0_i32_166 : BitVec 32 := 0#32
  let c0_i32_167 : BitVec 32 := 0#32
  ![v33.toNat, 0, 0, 15, 0, 0]
def k0_off212 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_168 : BitVec 32 := 1#32
  let c0_i32_174 : BitVec 32 := 0#32
  let c0_i32_169 : BitVec 32 := 0#32
  let c0_i32_175 : BitVec 32 := 0#32
  let c0_i32_176 : BitVec 32 := 0#32
  ![v33.toNat, 1, 0, 0, 0, 0]
def k0_off213 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_177 : BitVec 32 := 1#32
  let c0_i32_183 : BitVec 32 := 0#32
  let c1_i32_178 : BitVec 32 := 1#32
  let c0_i32_184 : BitVec 32 := 0#32
  let c0_i32_185 : BitVec 32 := 0#32
  ![v33.toNat, 1, 0, 1, 0, 0]
def k0_off214 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_186 : BitVec 32 := 1#32
  let c0_i32_192 : BitVec 32 := 0#32
  let c2_i32_187 : BitVec 32 := 2#32
  let c0_i32_193 : BitVec 32 := 0#32
  let c0_i32_194 : BitVec 32 := 0#32
  ![v33.toNat, 1, 0, 2, 0, 0]
def k0_off215 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_195 : BitVec 32 := 1#32
  let c0_i32_201 : BitVec 32 := 0#32
  let c3_i32_196 : BitVec 32 := 3#32
  let c0_i32_202 : BitVec 32 := 0#32
  let c0_i32_203 : BitVec 32 := 0#32
  ![v33.toNat, 1, 0, 3, 0, 0]
def k0_off216 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_204 : BitVec 32 := 1#32
  let c0_i32_210 : BitVec 32 := 0#32
  let c4_i32_205 : BitVec 32 := 4#32
  let c0_i32_211 : BitVec 32 := 0#32
  let c0_i32_212 : BitVec 32 := 0#32
  ![v33.toNat, 1, 0, 4, 0, 0]
def k0_off217 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_213 : BitVec 32 := 1#32
  let c0_i32_219 : BitVec 32 := 0#32
  let c5_i32_214 : BitVec 32 := 5#32
  let c0_i32_220 : BitVec 32 := 0#32
  let c0_i32_221 : BitVec 32 := 0#32
  ![v33.toNat, 1, 0, 5, 0, 0]
def k0_off218 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_222 : BitVec 32 := 1#32
  let c0_i32_228 : BitVec 32 := 0#32
  let c6_i32_223 : BitVec 32 := 6#32
  let c0_i32_229 : BitVec 32 := 0#32
  let c0_i32_230 : BitVec 32 := 0#32
  ![v33.toNat, 1, 0, 6, 0, 0]
def k0_off219 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_231 : BitVec 32 := 1#32
  let c0_i32_237 : BitVec 32 := 0#32
  let c7_i32_232 : BitVec 32 := 7#32
  let c0_i32_238 : BitVec 32 := 0#32
  let c0_i32_239 : BitVec 32 := 0#32
  ![v33.toNat, 1, 0, 7, 0, 0]
def k0_off220 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_240 : BitVec 32 := 1#32
  let c0_i32_246 : BitVec 32 := 0#32
  let c8_i32_241 : BitVec 32 := 8#32
  let c0_i32_247 : BitVec 32 := 0#32
  let c0_i32_248 : BitVec 32 := 0#32
  ![v33.toNat, 1, 0, 8, 0, 0]
def k0_off221 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_249 : BitVec 32 := 1#32
  let c0_i32_255 : BitVec 32 := 0#32
  let c9_i32_250 : BitVec 32 := 9#32
  let c0_i32_256 : BitVec 32 := 0#32
  let c0_i32_257 : BitVec 32 := 0#32
  ![v33.toNat, 1, 0, 9, 0, 0]
def k0_off222 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_258 : BitVec 32 := 1#32
  let c0_i32_264 : BitVec 32 := 0#32
  let c10_i32_259 : BitVec 32 := 10#32
  let c0_i32_265 : BitVec 32 := 0#32
  let c0_i32_266 : BitVec 32 := 0#32
  ![v33.toNat, 1, 0, 10, 0, 0]
def k0_off223 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_267 : BitVec 32 := 1#32
  let c0_i32_273 : BitVec 32 := 0#32
  let c11_i32_268 : BitVec 32 := 11#32
  let c0_i32_274 : BitVec 32 := 0#32
  let c0_i32_275 : BitVec 32 := 0#32
  ![v33.toNat, 1, 0, 11, 0, 0]
def k0_off224 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_276 : BitVec 32 := 1#32
  let c0_i32_282 : BitVec 32 := 0#32
  let c12_i32_277 : BitVec 32 := 12#32
  let c0_i32_283 : BitVec 32 := 0#32
  let c0_i32_284 : BitVec 32 := 0#32
  ![v33.toNat, 1, 0, 12, 0, 0]
def k0_off225 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_285 : BitVec 32 := 1#32
  let c0_i32_291 : BitVec 32 := 0#32
  let c13_i32_286 : BitVec 32 := 13#32
  let c0_i32_292 : BitVec 32 := 0#32
  let c0_i32_293 : BitVec 32 := 0#32
  ![v33.toNat, 1, 0, 13, 0, 0]
def k0_off226 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_294 : BitVec 32 := 1#32
  let c0_i32_300 : BitVec 32 := 0#32
  let c14_i32_295 : BitVec 32 := 14#32
  let c0_i32_301 : BitVec 32 := 0#32
  let c0_i32_302 : BitVec 32 := 0#32
  ![v33.toNat, 1, 0, 14, 0, 0]
def k0_off227 (i : grid0.Coords) : Fin 6 → Nat :=
  let arg0 : BitVec 32 := BitVec.ofNat 32 (i 0).val
  let c1_i32_19 : BitVec 32 := 1#32
  let v33 : BitVec 32 := Scalar.addi arg0 c1_i32_19
  let c1_i32_303 : BitVec 32 := 1#32
  let c0_i32_309 : BitVec 32 := 0#32
  let c15_i32_304 : BitVec 32 := 15#32
  let c0_i32_310 : BitVec 32 := 0#32
  let c0_i32_311 : BitVec 32 := 0#32
  ![v33.toNat, 1, 0, 15, 0, 0]
def k0_off228 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_312 : BitVec 32 := 2#32
  let c0_i32_318 : BitVec 32 := 0#32
  let c0_i32_313 : BitVec 32 := 0#32
  let c0_i32_319 : BitVec 32 := 0#32
  let c0_i32_320 : BitVec 32 := 0#32
  ![v33.toNat, 2, 0, 0, 0, 0]
def k0_off229 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_321 : BitVec 32 := 2#32
  let c0_i32_327 : BitVec 32 := 0#32
  let c1_i32_322 : BitVec 32 := 1#32
  let c0_i32_328 : BitVec 32 := 0#32
  let c0_i32_329 : BitVec 32 := 0#32
  ![v33.toNat, 2, 0, 1, 0, 0]
def k0_off230 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_330 : BitVec 32 := 2#32
  let c0_i32_336 : BitVec 32 := 0#32
  let c2_i32_331 : BitVec 32 := 2#32
  let c0_i32_337 : BitVec 32 := 0#32
  let c0_i32_338 : BitVec 32 := 0#32
  ![v33.toNat, 2, 0, 2, 0, 0]
def k0_off231 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_339 : BitVec 32 := 2#32
  let c0_i32_345 : BitVec 32 := 0#32
  let c3_i32_340 : BitVec 32 := 3#32
  let c0_i32_346 : BitVec 32 := 0#32
  let c0_i32_347 : BitVec 32 := 0#32
  ![v33.toNat, 2, 0, 3, 0, 0]
def k0_off232 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_348 : BitVec 32 := 2#32
  let c0_i32_354 : BitVec 32 := 0#32
  let c4_i32_349 : BitVec 32 := 4#32
  let c0_i32_355 : BitVec 32 := 0#32
  let c0_i32_356 : BitVec 32 := 0#32
  ![v33.toNat, 2, 0, 4, 0, 0]
def k0_off233 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_357 : BitVec 32 := 2#32
  let c0_i32_363 : BitVec 32 := 0#32
  let c5_i32_358 : BitVec 32 := 5#32
  let c0_i32_364 : BitVec 32 := 0#32
  let c0_i32_365 : BitVec 32 := 0#32
  ![v33.toNat, 2, 0, 5, 0, 0]
def k0_off234 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_366 : BitVec 32 := 2#32
  let c0_i32_372 : BitVec 32 := 0#32
  let c6_i32_367 : BitVec 32 := 6#32
  let c0_i32_373 : BitVec 32 := 0#32
  let c0_i32_374 : BitVec 32 := 0#32
  ![v33.toNat, 2, 0, 6, 0, 0]
def k0_off235 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_375 : BitVec 32 := 2#32
  let c0_i32_381 : BitVec 32 := 0#32
  let c7_i32_376 : BitVec 32 := 7#32
  let c0_i32_382 : BitVec 32 := 0#32
  let c0_i32_383 : BitVec 32 := 0#32
  ![v33.toNat, 2, 0, 7, 0, 0]
def k0_off236 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_384 : BitVec 32 := 2#32
  let c0_i32_390 : BitVec 32 := 0#32
  let c8_i32_385 : BitVec 32 := 8#32
  let c0_i32_391 : BitVec 32 := 0#32
  let c0_i32_392 : BitVec 32 := 0#32
  ![v33.toNat, 2, 0, 8, 0, 0]
def k0_off237 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_393 : BitVec 32 := 2#32
  let c0_i32_399 : BitVec 32 := 0#32
  let c9_i32_394 : BitVec 32 := 9#32
  let c0_i32_400 : BitVec 32 := 0#32
  let c0_i32_401 : BitVec 32 := 0#32
  ![v33.toNat, 2, 0, 9, 0, 0]
def k0_off238 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_402 : BitVec 32 := 2#32
  let c0_i32_408 : BitVec 32 := 0#32
  let c10_i32_403 : BitVec 32 := 10#32
  let c0_i32_409 : BitVec 32 := 0#32
  let c0_i32_410 : BitVec 32 := 0#32
  ![v33.toNat, 2, 0, 10, 0, 0]
def k0_off239 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_411 : BitVec 32 := 2#32
  let c0_i32_417 : BitVec 32 := 0#32
  let c11_i32_412 : BitVec 32 := 11#32
  let c0_i32_418 : BitVec 32 := 0#32
  let c0_i32_419 : BitVec 32 := 0#32
  ![v33.toNat, 2, 0, 11, 0, 0]
def k0_off240 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_420 : BitVec 32 := 2#32
  let c0_i32_426 : BitVec 32 := 0#32
  let c12_i32_421 : BitVec 32 := 12#32
  let c0_i32_427 : BitVec 32 := 0#32
  let c0_i32_428 : BitVec 32 := 0#32
  ![v33.toNat, 2, 0, 12, 0, 0]
def k0_off241 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_429 : BitVec 32 := 2#32
  let c0_i32_435 : BitVec 32 := 0#32
  let c13_i32_430 : BitVec 32 := 13#32
  let c0_i32_436 : BitVec 32 := 0#32
  let c0_i32_437 : BitVec 32 := 0#32
  ![v33.toNat, 2, 0, 13, 0, 0]
def k0_off242 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_438 : BitVec 32 := 2#32
  let c0_i32_444 : BitVec 32 := 0#32
  let c14_i32_439 : BitVec 32 := 14#32
  let c0_i32_445 : BitVec 32 := 0#32
  let c0_i32_446 : BitVec 32 := 0#32
  ![v33.toNat, 2, 0, 14, 0, 0]
def k0_off243 (i : grid0.Coords) : Fin 6 → Nat :=
  let arg0 : BitVec 32 := BitVec.ofNat 32 (i 0).val
  let c1_i32_19 : BitVec 32 := 1#32
  let v33 : BitVec 32 := Scalar.addi arg0 c1_i32_19
  let c2_i32_447 : BitVec 32 := 2#32
  let c0_i32_453 : BitVec 32 := 0#32
  let c15_i32_448 : BitVec 32 := 15#32
  let c0_i32_454 : BitVec 32 := 0#32
  let c0_i32_455 : BitVec 32 := 0#32
  ![v33.toNat, 2, 0, 15, 0, 0]
def k0_cond10 (i : grid0.Coords) : BitVec 1 :=
  let arg1 : BitVec 32 := BitVec.ofNat 32 (i 1).val
  let c0_i32_17 : BitVec 32 := 0#32
  let v30 : BitVec 1 := Scalar.cmpi .eq arg1 c0_i32_17
  let v31 : BitVec 32 := Scalar.extui v30
  let c0_i32_18 : BitVec 32 := 0#32
  let v32 : BitVec 1 := Scalar.cmpi .ne v31 c0_i32_18
  v32

@[reducible] def k0_t2_loop : Scf.Loop 32 :=
  let c0_i32_19 : BitVec 32 := 0#32
  let c2_i32_20 : BitVec 32 := 2#32
  let v33 : BitVec 32 := Scalar.addi c0_i32_19 c2_i32_20
  let c1_i32_21 : BitVec 32 := 1#32
  ⟨c0_i32_19, v33, c1_i32_21⟩
def k0_off244 (k0_t2 : Fin k0_t2_loop.trips) : Fin 4 → Nat :=
  let c0_29 : Index := 0#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v44 : Index := Scalar.indexCast v42
  let c0_30 : Index := 0#32
  let c0_31 : Index := 0#32
  ![0, v44.toNat, 0, 0]
def k0_off245 (k0_t2 : Fin k0_t2_loop.trips) : Fin 4 → Nat :=
  let c1 : Index := 1#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v52 : Index := Scalar.indexCast v42
  let c0_35 : Index := 0#32
  let c0_36 : Index := 0#32
  ![1, v52.toNat, 0, 0]
def k0_off246 (k0_t2 : Fin k0_t2_loop.trips) : Fin 4 → Nat :=
  let c2 : Index := 2#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v60 : Index := Scalar.indexCast v42
  let c0_39 : Index := 0#32
  let c0_40 : Index := 0#32
  ![2, v60.toNat, 0, 0]
def k0_off247 (k0_t2 : Fin k0_t2_loop.trips) : Fin 4 → Nat :=
  let c3 : Index := 3#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v68 : Index := Scalar.indexCast v42
  let c0_43 : Index := 0#32
  let c0_44 : Index := 0#32
  ![3, v68.toNat, 0, 0]
def k0_off248 (k0_t2 : Fin k0_t2_loop.trips) : Fin 4 → Nat :=
  let c4 : Index := 4#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v76 : Index := Scalar.indexCast v42
  let c0_47 : Index := 0#32
  let c0_48 : Index := 0#32
  ![4, v76.toNat, 0, 0]
def k0_off249 (k0_t2 : Fin k0_t2_loop.trips) : Fin 4 → Nat :=
  let c5 : Index := 5#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v84 : Index := Scalar.indexCast v42
  let c0_51 : Index := 0#32
  let c0_52 : Index := 0#32
  ![5, v84.toNat, 0, 0]
def k0_off250 (k0_t2 : Fin k0_t2_loop.trips) : Fin 4 → Nat :=
  let c6 : Index := 6#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v92 : Index := Scalar.indexCast v42
  let c0_55 : Index := 0#32
  let c0_56 : Index := 0#32
  ![6, v92.toNat, 0, 0]
def k0_off251 (k0_t2 : Fin k0_t2_loop.trips) : Fin 4 → Nat :=
  let c7 : Index := 7#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v100 : Index := Scalar.indexCast v42
  let c0_59 : Index := 0#32
  let c0_60 : Index := 0#32
  ![7, v100.toNat, 0, 0]
def k0_off252 (k0_t2 : Fin k0_t2_loop.trips) : Fin 4 → Nat :=
  let c8 : Index := 8#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v108 : Index := Scalar.indexCast v42
  let c0_63 : Index := 0#32
  let c0_64 : Index := 0#32
  ![8, v108.toNat, 0, 0]
def k0_off253 (k0_t2 : Fin k0_t2_loop.trips) : Fin 4 → Nat :=
  let c9 : Index := 9#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v116 : Index := Scalar.indexCast v42
  let c0_67 : Index := 0#32
  let c0_68 : Index := 0#32
  ![9, v116.toNat, 0, 0]
def k0_off254 (k0_t2 : Fin k0_t2_loop.trips) : Fin 4 → Nat :=
  let c10 : Index := 10#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v124 : Index := Scalar.indexCast v42
  let c0_71 : Index := 0#32
  let c0_72 : Index := 0#32
  ![10, v124.toNat, 0, 0]
def k0_off255 (k0_t2 : Fin k0_t2_loop.trips) : Fin 4 → Nat :=
  let c11 : Index := 11#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v132 : Index := Scalar.indexCast v42
  let c0_75 : Index := 0#32
  let c0_76 : Index := 0#32
  ![11, v132.toNat, 0, 0]
def k0_off256 (k0_t2 : Fin k0_t2_loop.trips) : Fin 4 → Nat :=
  let c12 : Index := 12#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v140 : Index := Scalar.indexCast v42
  let c0_79 : Index := 0#32
  let c0_80 : Index := 0#32
  ![12, v140.toNat, 0, 0]
def k0_off257 (k0_t2 : Fin k0_t2_loop.trips) : Fin 4 → Nat :=
  let c13 : Index := 13#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v148 : Index := Scalar.indexCast v42
  let c0_83 : Index := 0#32
  let c0_84 : Index := 0#32
  ![13, v148.toNat, 0, 0]
def k0_off258 (k0_t2 : Fin k0_t2_loop.trips) : Fin 4 → Nat :=
  let c14 : Index := 14#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v156 : Index := Scalar.indexCast v42
  let c0_87 : Index := 0#32
  let c0_88 : Index := 0#32
  ![14, v156.toNat, 0, 0]
def k0_off259 (k0_t2 : Fin k0_t2_loop.trips) : Fin 4 → Nat :=
  let c15 : Index := 15#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v164 : Index := Scalar.indexCast v42
  let c0_91 : Index := 0#32
  let c0_92 : Index := 0#32
  ![15, v164.toNat, 0, 0]
def k0_off260 (k0_t2 : Fin k0_t2_loop.trips) : Fin 4 → Nat :=
  let c16_95 : Index := 16#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v172 : Index := Scalar.indexCast v42
  let c0_96 : Index := 0#32
  let c0_97 : Index := 0#32
  ![16, v172.toNat, 0, 0]
def k0_off261 (k0_t2 : Fin k0_t2_loop.trips) : Fin 4 → Nat :=
  let c17 : Index := 17#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v180 : Index := Scalar.indexCast v42
  let c0_100 : Index := 0#32
  let c0_101 : Index := 0#32
  ![17, v180.toNat, 0, 0]
def k0_off262 (k0_t2 : Fin k0_t2_loop.trips) : Fin 4 → Nat :=
  let c18 : Index := 18#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v188 : Index := Scalar.indexCast v42
  let c0_104 : Index := 0#32
  let c0_105 : Index := 0#32
  ![18, v188.toNat, 0, 0]
def k0_off263 (k0_t2 : Fin k0_t2_loop.trips) : Fin 4 → Nat :=
  let c19 : Index := 19#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v196 : Index := Scalar.indexCast v42
  let c0_108 : Index := 0#32
  let c0_109 : Index := 0#32
  ![19, v196.toNat, 0, 0]
def k0_off264 (k0_t2 : Fin k0_t2_loop.trips) : Fin 4 → Nat :=
  let c20 : Index := 20#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v204 : Index := Scalar.indexCast v42
  let c0_112 : Index := 0#32
  let c0_113 : Index := 0#32
  ![20, v204.toNat, 0, 0]
def k0_off265 (k0_t2 : Fin k0_t2_loop.trips) : Fin 4 → Nat :=
  let c21 : Index := 21#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v212 : Index := Scalar.indexCast v42
  let c0_116 : Index := 0#32
  let c0_117 : Index := 0#32
  ![21, v212.toNat, 0, 0]
def k0_off266 (k0_t2 : Fin k0_t2_loop.trips) : Fin 4 → Nat :=
  let c22 : Index := 22#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v220 : Index := Scalar.indexCast v42
  let c0_120 : Index := 0#32
  let c0_121 : Index := 0#32
  ![22, v220.toNat, 0, 0]
def k0_off267 (k0_t2 : Fin k0_t2_loop.trips) : Fin 4 → Nat :=
  let c23 : Index := 23#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v228 : Index := Scalar.indexCast v42
  let c0_124 : Index := 0#32
  let c0_125 : Index := 0#32
  ![23, v228.toNat, 0, 0]
def k0_off268 (k0_t2 : Fin k0_t2_loop.trips) : Fin 4 → Nat :=
  let c24 : Index := 24#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v236 : Index := Scalar.indexCast v42
  let c0_128 : Index := 0#32
  let c0_129 : Index := 0#32
  ![24, v236.toNat, 0, 0]
def k0_off269 (k0_t2 : Fin k0_t2_loop.trips) : Fin 4 → Nat :=
  let c25 : Index := 25#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v244 : Index := Scalar.indexCast v42
  let c0_132 : Index := 0#32
  let c0_133 : Index := 0#32
  ![25, v244.toNat, 0, 0]
def k0_off270 (k0_t2 : Fin k0_t2_loop.trips) : Fin 4 → Nat :=
  let c26 : Index := 26#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v252 : Index := Scalar.indexCast v42
  let c0_136 : Index := 0#32
  let c0_137 : Index := 0#32
  ![26, v252.toNat, 0, 0]
def k0_off271 (k0_t2 : Fin k0_t2_loop.trips) : Fin 4 → Nat :=
  let c27 : Index := 27#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v260 : Index := Scalar.indexCast v42
  let c0_140 : Index := 0#32
  let c0_141 : Index := 0#32
  ![27, v260.toNat, 0, 0]
def k0_off272 (k0_t2 : Fin k0_t2_loop.trips) : Fin 4 → Nat :=
  let c28 : Index := 28#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v268 : Index := Scalar.indexCast v42
  let c0_144 : Index := 0#32
  let c0_145 : Index := 0#32
  ![28, v268.toNat, 0, 0]
def k0_off273 (k0_t2 : Fin k0_t2_loop.trips) : Fin 4 → Nat :=
  let c29 : Index := 29#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v276 : Index := Scalar.indexCast v42
  let c0_148 : Index := 0#32
  let c0_149 : Index := 0#32
  ![29, v276.toNat, 0, 0]
def k0_off274 (k0_t2 : Fin k0_t2_loop.trips) : Fin 4 → Nat :=
  let c30 : Index := 30#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v284 : Index := Scalar.indexCast v42
  let c0_152 : Index := 0#32
  let c0_153 : Index := 0#32
  ![30, v284.toNat, 0, 0]
def k0_off275 (k0_t2 : Fin k0_t2_loop.trips) : Fin 4 → Nat :=
  let c31 : Index := 31#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v292 : Index := Scalar.indexCast v42
  let c0_156 : Index := 0#32
  let c0_157 : Index := 0#32
  ![31, v292.toNat, 0, 0]
def k0_off276 (k0_t2 : Fin k0_t2_loop.trips) : Fin 4 → Nat :=
  let c32_160 : Index := 32#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v300 : Index := Scalar.indexCast v42
  let c0_161 : Index := 0#32
  let c0_162 : Index := 0#32
  ![32, v300.toNat, 0, 0]
def k0_off277 (k0_t2 : Fin k0_t2_loop.trips) : Fin 4 → Nat :=
  let c33 : Index := 33#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v308 : Index := Scalar.indexCast v42
  let c0_165 : Index := 0#32
  let c0_166 : Index := 0#32
  ![33, v308.toNat, 0, 0]
def k0_off278 (k0_t2 : Fin k0_t2_loop.trips) : Fin 4 → Nat :=
  let c34 : Index := 34#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v316 : Index := Scalar.indexCast v42
  let c0_169 : Index := 0#32
  let c0_170 : Index := 0#32
  ![34, v316.toNat, 0, 0]
def k0_off279 (k0_t2 : Fin k0_t2_loop.trips) : Fin 4 → Nat :=
  let c35 : Index := 35#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v324 : Index := Scalar.indexCast v42
  let c0_173 : Index := 0#32
  let c0_174 : Index := 0#32
  ![35, v324.toNat, 0, 0]
def k0_off280 (k0_t2 : Fin k0_t2_loop.trips) : Fin 4 → Nat :=
  let c36 : Index := 36#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v332 : Index := Scalar.indexCast v42
  let c0_177 : Index := 0#32
  let c0_178 : Index := 0#32
  ![36, v332.toNat, 0, 0]
def k0_off281 (k0_t2 : Fin k0_t2_loop.trips) : Fin 4 → Nat :=
  let c37 : Index := 37#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v340 : Index := Scalar.indexCast v42
  let c0_181 : Index := 0#32
  let c0_182 : Index := 0#32
  ![37, v340.toNat, 0, 0]
def k0_off282 (k0_t2 : Fin k0_t2_loop.trips) : Fin 4 → Nat :=
  let c38 : Index := 38#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v348 : Index := Scalar.indexCast v42
  let c0_185 : Index := 0#32
  let c0_186 : Index := 0#32
  ![38, v348.toNat, 0, 0]
def k0_off283 (k0_t2 : Fin k0_t2_loop.trips) : Fin 4 → Nat :=
  let c39 : Index := 39#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v356 : Index := Scalar.indexCast v42
  let c0_189 : Index := 0#32
  let c0_190 : Index := 0#32
  ![39, v356.toNat, 0, 0]
def k0_off284 (k0_t2 : Fin k0_t2_loop.trips) : Fin 4 → Nat :=
  let c40 : Index := 40#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v364 : Index := Scalar.indexCast v42
  let c0_193 : Index := 0#32
  let c0_194 : Index := 0#32
  ![40, v364.toNat, 0, 0]
def k0_off285 (k0_t2 : Fin k0_t2_loop.trips) : Fin 4 → Nat :=
  let c41 : Index := 41#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v372 : Index := Scalar.indexCast v42
  let c0_197 : Index := 0#32
  let c0_198 : Index := 0#32
  ![41, v372.toNat, 0, 0]
def k0_off286 (k0_t2 : Fin k0_t2_loop.trips) : Fin 4 → Nat :=
  let c42 : Index := 42#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v380 : Index := Scalar.indexCast v42
  let c0_201 : Index := 0#32
  let c0_202 : Index := 0#32
  ![42, v380.toNat, 0, 0]
def k0_off287 (k0_t2 : Fin k0_t2_loop.trips) : Fin 4 → Nat :=
  let c43 : Index := 43#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v388 : Index := Scalar.indexCast v42
  let c0_205 : Index := 0#32
  let c0_206 : Index := 0#32
  ![43, v388.toNat, 0, 0]
def k0_off288 (k0_t2 : Fin k0_t2_loop.trips) : Fin 4 → Nat :=
  let c44 : Index := 44#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v396 : Index := Scalar.indexCast v42
  let c0_209 : Index := 0#32
  let c0_210 : Index := 0#32
  ![44, v396.toNat, 0, 0]
def k0_off289 (k0_t2 : Fin k0_t2_loop.trips) : Fin 4 → Nat :=
  let c45 : Index := 45#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v404 : Index := Scalar.indexCast v42
  let c0_213 : Index := 0#32
  let c0_214 : Index := 0#32
  ![45, v404.toNat, 0, 0]
def k0_off290 (k0_t2 : Fin k0_t2_loop.trips) : Fin 4 → Nat :=
  let c46 : Index := 46#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v412 : Index := Scalar.indexCast v42
  let c0_217 : Index := 0#32
  let c0_218 : Index := 0#32
  ![46, v412.toNat, 0, 0]
def k0_off291 (k0_t2 : Fin k0_t2_loop.trips) : Fin 4 → Nat :=
  let c47 : Index := 47#32
  let c0_i32_19 : BitVec 32 := 0#32
  let c1_i32_21 : BitVec 32 := 1#32
  let arg14 : BitVec 32 := Scf.iv c0_i32_19 c1_i32_21 k0_t2
  let c16_i32 : BitVec 32 := 16#32
  let v42 : BitVec 32 := Scalar.muli arg14 c16_i32
  let v420 : Index := Scalar.indexCast v42
  let c0_221 : Index := 0#32
  let c0_222 : Index := 0#32
  ![47, v420.toNat, 0, 0]
def k0_off292 (k0_t2 : Fin k0_t2_loop.trips) : Fin 3 → Nat :=
  let c0_225 : Index := 0#32
  let c0_i32_19 : BitVec 32 := 0#32
  let c1_i32_21 : BitVec 32 := 1#32
  let arg14 : BitVec 32 := Scf.iv c0_i32_19 c1_i32_21 k0_t2
  let c512_i32 : BitVec 32 := 512#32
  let v428 : BitVec 32 := Scalar.muli arg14 c512_i32
  let v429 : Index := Scalar.indexCast v428
  let c0_226 : Index := 0#32
  ![0, v429.toNat, 0]
def k0_off293 (k0_t2 : Fin k0_t2_loop.trips) : Fin 2 → Nat :=
  let c0_i32_19 : BitVec 32 := 0#32
  let c1_i32_21 : BitVec 32 := 1#32
  let arg14 : BitVec 32 := Scf.iv c0_i32_19 c1_i32_21 k0_t2
  let c512_i32 : BitVec 32 := 512#32
  let v428 : BitVec 32 := Scalar.muli arg14 c512_i32
  let v435 : Index := Scalar.indexCast v428
  let c0_228 : Index := 0#32
  ![v435.toNat, 0]
def k0_off294 (i : grid0.Coords) : Fin 2 → Nat :=
  let c0_8 : Index := 0#32
  let arg1 : BitVec 32 := BitVec.ofNat 32 (i 1).val
  let c1024_i32 : BitVec 32 := 1024#32
  let v17 : BitVec 32 := Scalar.muli arg1 c1024_i32
  let v18 : Index := Scalar.indexCast v17
  ![0, v18.toNat]
@[reducible] def k0_t3_loop : Scf.Loop 32 :=
  let c0_i32_9 : BitVec 32 := 0#32
  let c2_i32_10 : BitVec 32 := 2#32
  let v21 : BitVec 32 := Scalar.addi c0_i32_9 c2_i32_10
  let c1_i32_11 : BitVec 32 := 1#32
  ⟨c0_i32_9, v21, c1_i32_11⟩
def k0_off295 (k0_t3 : Fin k0_t3_loop.trips) : Fin 2 → Nat :=
  let c0_i32_9 : BitVec 32 := 0#32
  let c1_i32_11 : BitVec 32 := 1#32
  let arg14 : BitVec 32 := Scf.iv c0_i32_9 c1_i32_11 k0_t3
  let c512_i32 : BitVec 32 := 512#32
  let v22 : BitVec 32 := Scalar.muli arg14 c512_i32
  let v23 : Index := Scalar.indexCast v22
  let c0_13 : Index := 0#32
  ![v23.toNat, 0]
def k0_off296 (k0_t3 : Fin k0_t3_loop.trips) : Fin 2 → Nat :=
  let c0_i32_9 : BitVec 32 := 0#32
  let c1_i32_11 : BitVec 32 := 1#32
  let arg14 : BitVec 32 := Scf.iv c0_i32_9 c1_i32_11 k0_t3
  let c512_i32 : BitVec 32 := 512#32
  let v22 : BitVec 32 := Scalar.muli arg14 c512_i32
  let v28 : Index := Scalar.indexCast v22
  let c0_14 : Index := 0#32
  ![v28.toNat, 0]
def k0_cond11 (i : grid0.Coords) : BitVec 1 :=
  let arg1 : BitVec 32 := BitVec.ofNat 32 (i 1).val
  let c7_i32 : BitVec 32 := 7#32
  let v104 : BitVec 1 := Scalar.cmpi .eq arg1 c7_i32
  let v105 : BitVec 32 := Scalar.extui v104
  let c0_i32_28 : BitVec 32 := 0#32
  let v106 : BitVec 1 := Scalar.cmpi .ne v105 c0_i32_28
  v106

def k0_off297 (k0_t3 : Fin k0_t3_loop.trips) : Fin 3 → Nat :=
  let c0_31 : Index := 0#32
  let c0_i32_9 : BitVec 32 := 0#32
  let c1_i32_11 : BitVec 32 := 1#32
  let arg14 : BitVec 32 := Scf.iv c0_i32_9 c1_i32_11 k0_t3
  let c512_i32 : BitVec 32 := 512#32
  let v22 : BitVec 32 := Scalar.muli arg14 c512_i32
  let v117 : Index := Scalar.indexCast v22
  let c0_32 : Index := 0#32
  ![0, v117.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S768x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S8x3x512x512 : Shape := ⟨4, ![8, 3, 512, 512]⟩
abbrev S256x768 : Shape := ⟨2, ![256, 768]⟩
abbrev S8192x256 : Shape := ⟨2, ![8192, 256]⟩
abbrev S8x3x32x16x32x16 : Shape := ⟨6, ![8, 3, 32, 16, 32, 16]⟩
abbrev S8x32x32x3x16x16 : Shape := ⟨6, ![8, 32, 32, 3, 16, 16]⟩
abbrev S8x1024x768 : Shape := ⟨3, ![8, 1024, 768]⟩
abbrev S768x256 : Shape := ⟨2, ![768, 256]⟩
abbrev S8x1024x256 : Shape := ⟨3, ![8, 1024, 256]⟩
abbrev S_ : Shape := ⟨0, ![]⟩
abbrev S8x1024 : Shape := ⟨2, ![8, 1024]⟩
abbrev S8x1024x1 : Shape := ⟨3, ![8, 1024, 1]⟩
abbrev S256x8192 : Shape := ⟨2, ![256, 8192]⟩
abbrev S8x1024x8192 : Shape := ⟨3, ![8, 1024, 8192]⟩
abbrev S8192 : Shape := ⟨1, ![8192]⟩
abbrev S1x1x8192 : Shape := ⟨3, ![1, 1, 8192]⟩
abbrev S1x8x1024 : Shape := ⟨3, ![1, 8, 1024]⟩
abbrev S1x8x1 : Shape := ⟨3, ![1, 8, 1]⟩
abbrev S1x8x1026 : Shape := ⟨3, ![1, 8, 1026]⟩
abbrev S8x1026 : Shape := ⟨2, ![8, 1026]⟩

abbrev nBuf : Space → Nat
  | .hbm => 42
  | .vmem => 0
  | .smem => 0
  | _ => 0

abbrev bufTy : (tb : Table) → Fin (tcTables nBuf tb) → BufTy
  | .hbm, ⟨0, _⟩ => ⟨S8x3x512x512, .f32⟩
  | .hbm, ⟨1, _⟩ => ⟨S256x768, .f32⟩
  | .hbm, ⟨2, _⟩ => ⟨S8192x256, .f32⟩
  | .hbm, ⟨3, _⟩ => ⟨S8x3x32x16x32x16, .f32⟩
  | .hbm, ⟨4, _⟩ => ⟨S8x32x32x3x16x16, .f32⟩
  | .hbm, ⟨5, _⟩ => ⟨S8x1024x768, .f32⟩
  | .hbm, ⟨6, _⟩ => ⟨S768x256, .f32⟩
  | .hbm, ⟨7, _⟩ => ⟨S8x1024x256, .f32⟩
  | .hbm, ⟨8, _⟩ => ⟨S8x1024x256, .f32⟩
  | .hbm, ⟨9, _⟩ => ⟨S_, .f32⟩
  | .hbm, ⟨10, _⟩ => ⟨S8x1024, .f32⟩
  | .hbm, ⟨11, _⟩ => ⟨S8x1024x1, .f32⟩
  | .hbm, ⟨12, _⟩ => ⟨S256x8192, .f32⟩
  | .hbm, ⟨13, _⟩ => ⟨S8x1024x8192, .f32⟩
  | .hbm, ⟨14, _⟩ => ⟨S_, .f32⟩
  | .hbm, ⟨15, _⟩ => ⟨S8x1024x8192, .f32⟩
  | .hbm, ⟨16, _⟩ => ⟨S8x1024x8192, .f32⟩
  | .hbm, ⟨17, _⟩ => ⟨S8x1024x8192, .f32⟩
  | .hbm, ⟨18, _⟩ => ⟨S8x1024x8192, .f32⟩
  | .hbm, ⟨19, _⟩ => ⟨S8192x256, .f32⟩
  | .hbm, ⟨20, _⟩ => ⟨S_, .f32⟩
  | .hbm, ⟨21, _⟩ => ⟨S8192, .f32⟩
  | .hbm, ⟨22, _⟩ => ⟨S1x1x8192, .f32⟩
  | .hbm, ⟨23, _⟩ => ⟨S8x1024x8192, .f32⟩
  | .hbm, ⟨24, _⟩ => ⟨S8x1024x8192, .f32⟩
  | .hbm, ⟨25, _⟩ => ⟨S8x1024x8192, .i32⟩
  | .hbm, ⟨26, _⟩ => ⟨S_, .f32⟩
  | .hbm, ⟨27, _⟩ => ⟨S_, .i32⟩
  | .hbm, ⟨28, _⟩ => ⟨S8x1024, .f32⟩
  | .hbm, ⟨29, _⟩ => ⟨S8x1024, .i32⟩
  | .hbm, ⟨30, _⟩ => ⟨S1x8x1024, .i32⟩
  | .hbm, ⟨31, _⟩ => ⟨S_, .i32⟩
  | .hbm, ⟨32, _⟩ => ⟨S1x8x1024, .i32⟩
  | .hbm, ⟨33, _⟩ => ⟨S1x8x1024, .i32⟩
  | .hbm, ⟨34, _⟩ => ⟨S_, .i32⟩
  | .hbm, ⟨35, _⟩ => ⟨S1x8x1, .i32⟩
  | .hbm, ⟨36, _⟩ => ⟨S_, .i32⟩
  | .hbm, ⟨37, _⟩ => ⟨S1x8x1, .i32⟩
  | .hbm, ⟨38, _⟩ => ⟨S1x8x1026, .i32⟩
  | .hbm, ⟨39, _⟩ => ⟨S8x1026, .i32⟩
  | .hbm, ⟨40, _⟩ => ⟨S_, .i32⟩
  | .hbm, ⟨41, _⟩ => ⟨S8x1026, .i32⟩
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.K.Blocks.lean ====
/- The kernel body read as five blocks: the squared norms of a codebook tile, the start of an image's 48 copies, the
   waits for them, the projection of an image, and the search over a codebook tile. The printed body is this composition
   by definitional unfolding; the proofs are about the blocks. -/
module

public import proofs.«01_k».proof.Proof.Gen.KernelIdeal.Skeleton

@[expose] public section

noncomputable section

namespace Cert.KernelIdeal.Own

open Cert.KernelIdeal Cert.KernelIdeal.Gen
open Idealize.ShloMosaic Idealize.SL.Sem

variable {F : FTy → Type} [FloatOps F]

/-- The slab of channel `j / 16` and patch row `j % 16` lies inside image `n`. -/
theorem srcIn (n j : ℕ) (hn : n < 8) (hj : j < 48) :
    ∀ a, (![n, j / 16, 0, j % 16, 0, 0] : Fin 6 → ℕ) a + S1x1x32x1x32x16.size a ≤ S8x3x32x16x32x16.size a := by
  intro a
  have h16 : j / 16 < 3 := by omega
  have hm : j % 16 < 16 := Nat.mod_lt _ (by decide)
  fin_cases a <;> simp [S1x1x32x1x32x16, S8x3x32x16x32x16] <;> omega

/-- Slab `j` lies inside the stage. -/
theorem dstIn (j : ℕ) (hj : j < 48) :
    ∀ a, (![j, 0, 0, 0] : Fin 4 → ℕ) a + S1x32x32x16.size a ≤ S48x32x32x16.size a := by
  intro a
  fin_cases a <;> simp [S1x32x32x16, S48x32x32x16] <;> omega

/-- Cell `j % 8` is one of the eight. -/
theorem semIn (j : ℕ) : ∀ a, (![j % 8] : Fin 1 → ℕ) a + S1.size a ≤ S8.size a := by
  intro a
  have hm : j % 8 < 8 := Nat.mod_lt _ (by decide)
  fin_cases a; simp [S1, S8]; omega

/-- The window of slab `j` of image `n` in the input. -/
abbrev srcW (x : Memref sig .tc .hbm S8x3x32x16x32x16 .f32) (n j : ℕ) (hn : n < 8) (hj : j < 48) :
    Memref sig .tc .hbm S32x32x16 .f32 :=
  (x.slice (Rect.unit (s := S8x3x32x16x32x16) ![n, j / 16, 0, j % 16, 0, 0] S1x1x32x1x32x16.size (srcIn n j hn hj))
    (fun _ => rfl)).squeeze S32x32x16 squeezes_S1x1x32x1x32x16_S32x32x16

/-- The window of slab `j` in a stage. -/
abbrev dstW (m : Memref sig .tc .vmem S48x32x32x16 .f32) (j : ℕ) (hj : j < 48) : Memref sig .tc .vmem S32x32x16 .f32 :=
  (m.slice (Rect.unit (s := S48x32x32x16) ![j, 0, 0, 0] S1x32x32x16.size (dstIn j hj)) (fun _ => rfl)).squeeze S32x32x16
    squeezes_S1x32x32x16_S32x32x16

/-- The cell slab `j` signals. -/
abbrev semW (g : DmaSems sig S8) (j : ℕ) : DmaSems sig S_ :=
  (g.slice (Rect.unit (s := S8) ![j % 8] S1.size (semIn j))).squeeze S_ squeezes_S1_S_

/-- Start the copies of slabs `j`, `j + 1`, …, `j + r - 1`. -/
def startFrom (x : Memref sig .tc .hbm S8x3x32x16x32x16 .f32) (m : Memref sig .tc .vmem S48x32x32x16 .f32)
    (g : DmaSems sig S8) (n : ℕ) (hn : n < 8) :
    (r j : ℕ) → j + r = 48 → Prog (TpuEff nD τ sig (Elt F) Λ₀ .tc) PUnit
  | 0, _, _ => pure ⟨⟩
  | r + 1, j, h => do
    Prog.lift (.enqueueDma (srcW x n j hn (by omega)) (.here (dstW m j (by omega))) (.dma (semW g j).sem)
      ((View.wordExact_bits rfl).reshape _ _) ((View.wordExact_bits rfl).reshape _ _) ⟨Or.inl rfl, trivial⟩)
    startFrom x m g n hn r (j + 1) (by omega)

/-- Wait for the copies of slabs `j`, …, `j + r - 1`. -/
def waitFrom (x : Memref sig .tc .hbm S8x3x32x16x32x16 .f32) (m : Memref sig .tc .vmem S48x32x32x16 .f32)
    (g : DmaSems sig S8) (n : ℕ) (hn : n < 8) :
    (r j : ℕ) → j + r = 48 → Prog (TpuEff nD τ sig (Elt F) Λ₀ .tc) PUnit
  | 0, _, _ => pure ⟨⟩
  | r + 1, j, h => do
    Prog.lift (.waitDma2 (semW g j).sem (srcW x n j hn (by omega)) (dstW m j (by omega))
      ((View.wordExact_bits rfl).reshape _ _) ((View.wordExact_bits rfl).reshape _ _))
    waitFrom x m g n hn r (j + 1) (by omega)

/-- A block run only when a condition holds. -/
def whenP (c : Prop) [Decidable c] (p : c → Prog (TpuEff nD τ sig (Elt F) Λ₀ .tc) PUnit) :
    Prog (TpuEff nD τ sig (Elt F) Λ₀ .tc) PUnit := if h : c then p h else pure ⟨⟩

/-- The image read at a point. -/
abbrev imgOf (i : grid0.Coords) : ℕ := (BitVec.ofNat 32 (i 0).val).toNat
/-- The next image. -/
abbrev nextOf (i : grid0.Coords) : ℕ := (Scalar.addi (BitVec.ofNat 32 (i 0).val) 1#32).toNat

theorem imgOf_lt (i : grid0.Coords) : imgOf i < 8 := by
  have h : (i 0).val < 8 := (i 0).isLt
  show (i 0).val % 2 ^ 32 < 8
  omega

theorem nextOf_lt3 (i : grid0.Coords) (h3 : k0_cond3 i = 1#1) (h5 : k0_cond5 i = 1#1) : nextOf i < 8 := by
  have h := k0_off50_inb i h3 h5 0
  have h' : nextOf i + 1 ≤ 8 := h
  omega

theorem nextOf_lt7 (i : grid0.Coords) (h7 : k0_cond7 i = 1#1) (h9 : k0_cond9 i = 1#1) : nextOf i < 8 := by
  have h : nextOf i + 1 ≤ 8 := k0_off196_inb i h7 h9 0
  omega

/-- The squared norms of the codebook tile at hand, stored at their place. -/
def cnBlock (i : grid0.Coords) (arg4 : Memref sig .tc .vmem S256x1024 .f32) (arg10 : Memref sig .tc .vmem S1x8192 .f32)
    (h1 : k0_cond1 i = 1#1) : Prog (TpuEff nD τ sig (Elt F) Λ₀ .tc) PUnit := do
  let v22 : Vec F S256x1024 .f32 ← Prog.lift (.load arg4 (Rect.unit (s := S256x1024) ![0, 0] S256x1024.size inb_S256x1024_S256x1024_0_0).toLoadRect (View.loadsAt_vmem h_S256x1024))
  let _v29 : Vec F S1x1024 .f32 ← Prog.lift (.load arg10 (Rect.unit (s := S1x8192) (k0_off1 i) S1x1024.size (k0_off1_inb i h1)).toLoadRect (View.loadsAt_vmem h_S1x1024))
  Prog.lift (.store arg10 (Rect.unit (s := S1x8192) (k0_off1 i) S1x1024.size (k0_off1_inb i h1)) (k0_pay1 v22) Finset.univ (View.stores_vmem_bits_univ h_S1x1024 rfl) (.inl rfl))
  pure ⟨⟩

/-- The running minimum and its index, set to their start. -/
def initBlock (arg11 : Memref sig .tc .vmem S1024x128 .f32) (arg12 : Memref sig .tc .vmem S1024x128 .i32)
    (p : FVec F S1024x128 .f32) (q : IVec S1024x128 32) : Prog (TpuEff nD τ sig (Elt F) Λ₀ .tc) PUnit := do
  let _v35 : Vec F S1024x128 .f32 ← Prog.lift (.load arg11 (Rect.unit (s := S1024x128) ![0, 0] S1024x128.size inb_S1024x128_S1024x128_0_0).toLoadRect (View.loadsAt_vmem h_S1024x128))
  Prog.lift (.store arg11 (Rect.unit (s := S1024x128) ![0, 0] S1024x128.size inb_S1024x128_S1024x128_0_0) p Finset.univ (View.stores_vmem_bits_univ h_S1024x128 rfl) (.inl rfl))
  let _v39 : Vec F S1024x128 .i32 ← Prog.lift (.load arg12 (Rect.unit (s := S1024x128) ![0, 0] S1024x128.size inb_S1024x128_S1024x128_0_0).toLoadRect (View.loadsAt_vmem h_S1024x128))
  Prog.lift (.store arg12 (Rect.unit (s := S1024x128) ![0, 0] S1024x128.size inb_S1024x128_S1024x128_0_0) q Finset.univ (View.stores_vmem_bits_univ h_S1024x128 rfl) (.inl rfl))
  pure ⟨⟩

section Body

variable (i : grid0.Coords) (arg2 : Memref sig .tc .hbm S8x3x32x16x32x16 .f32) (harg2 : arg2.IsWhole) (arg3 : Memref sig .tc .vmem S768x256 .f32) (harg3 : arg3.IsWhole) (arg4 : Memref sig .tc .vmem S256x1024 .f32) (harg4 : arg4.IsWhole) (arg5 : Memref sig .tc .vmem S1x1024x1 .i32) (harg5 : arg5.IsWhole) (arg6 : Memref sig .tc .vmem S1x1024x256 .f32) (harg6 : arg6.IsWhole) (arg7 : Memref sig .tc .vmem S48x32x32x16 .f32) (harg7 : arg7.IsWhole) (arg8 : Memref sig .tc .vmem S48x32x32x16 .f32) (harg8 : arg8.IsWhole) (arg9 : Memref sig .tc .vmem S1024x256 .f32) (harg9 : arg9.IsWhole) (arg10 : Memref sig .tc .vmem S1x8192 .f32) (harg10 : arg10.IsWhole) (arg11 : Memref sig .tc .vmem S1024x128 .f32) (harg11 : arg11.IsWhole) (arg12 : Memref sig .tc .vmem S1024x128 .i32) (harg12 : arg12.IsWhole) (arg13 : DmaSems sig S8)

/-- The projection of an image that lies in the first stage. -/
def zBlock1 (h3 : k0_cond3 i = 1#1) (h6 : k0_cond6 i = 1#1) : Prog (TpuEff nD τ sig (Elt F) Λ₀ .tc) PUnit := do
  Scf.Loop.for k0_t1_loop (k0_t1_ok i h3 h6) ⟨⟩ (k0_t1_body i arg2 harg2 arg3 harg3 arg4 harg4 arg5 harg5 arg6 harg6 arg7 harg7 arg8 harg8 arg9 harg9 arg10 harg10 arg11 harg11 arg12 harg12 arg13 h3 h6)
  initBlock arg11 arg12 (k0_pay5 (F := F)) k0_pay6

/-- The projection of an image that lies in the second stage. -/
def zBlock2 (h7 : k0_cond7 i = 1#1) (h10 : k0_cond10 i = 1#1) : Prog (TpuEff nD τ sig (Elt F) Λ₀ .tc) PUnit := do
  Scf.Loop.for k0_t2_loop (k0_t2_ok i h7 h10) ⟨⟩ (k0_t2_body i arg2 harg2 arg3 harg3 arg4 harg4 arg5 harg5 arg6 harg6 arg7 harg7 arg8 harg8 arg9 harg9 arg10 harg10 arg11 harg11 arg12 harg12 arg13 h7 h10)
  initBlock arg11 arg12 (k0_pay10 (F := F)) k0_pay11

/-- The search over a codebook tile. -/
def mainBlock : Prog (TpuEff nD τ sig (Elt F) Λ₀ .tc) PUnit := do
  let v15 : Vec F S256x1024 .f32 ← Prog.lift (.load arg4 (Rect.unit (s := S256x1024) ![0, 0] S256x1024.size inb_S256x1024_S256x1024_0_0).toLoadRect (View.loadsAt_vmem h_S256x1024))
  let v19 : Vec F S1x1024 .f32 ← Prog.lift (.load arg10 (Rect.unit (s := S1x8192) (k0_off294 i) S1x1024.size (k0_off294_inb i)).toLoadRect (View.loadsAt_vmem h_S1x1024))
  have v20 : IVec S512x128 32 := iota .tc S512x128 32 [1] iota_S512x128_d1_w32
  Scf.Loop.for k0_t3_loop k0_t3_ok ⟨⟩ (k0_t3_body i arg2 harg2 arg3 harg3 arg4 harg4 arg5 harg5 arg6 harg6 arg7 harg7 arg8 harg8 arg9 harg9 arg10 harg10 arg11 harg11 arg12 harg12 arg13 (BitVec.ofNat 32 (i 1).val) v15 v19 v20)
  pure ⟨⟩

/-- Whether this is the very first point. -/
def cond2 : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The blocks of an image that lies in the first stage. -/
def evenBlock (h3 : k0_cond3 i = 1#1) : Prog (TpuEff nD τ sig (Elt F) Λ₀ .tc) PUnit :=
  whenP (k0_cond4 i = 1#1) (fun _ => waitFrom arg2 arg7 arg13 (imgOf i) (imgOf_lt i) 48 0 rfl) >>= fun _ =>
  whenP (k0_cond5 i = 1#1) (fun h5 => startFrom arg2 arg8 arg13 (nextOf i) (nextOf_lt3 i h3 h5) 48 0 rfl) >>= fun _ =>
  whenP (k0_cond6 i = 1#1) (fun h6 => zBlock1 i arg2 harg2 arg3 harg3 arg4 harg4 arg5 harg5 arg6 harg6 arg7 harg7 arg8 harg8 arg9 harg9 arg10 harg10 arg11 harg11 arg12 harg12 arg13 h3 h6)

/-- The blocks of an image that lies in the second stage. -/
def oddBlock (h7 : k0_cond7 i = 1#1) : Prog (TpuEff nD τ sig (Elt F) Λ₀ .tc) PUnit :=
  whenP (k0_cond8 i = 1#1) (fun _ => waitFrom arg2 arg8 arg13 (imgOf i) (imgOf_lt i) 48 0 rfl) >>= fun _ =>
  whenP (k0_cond9 i = 1#1) (fun h9 => startFrom arg2 arg7 arg13 (nextOf i) (nextOf_lt7 i h7 h9) 48 0 rfl) >>= fun _ =>
  whenP (k0_cond10 i = 1#1) (fun h10 => zBlock2 i arg2 harg2 arg3 harg3 arg4 harg4 arg5 harg5 arg6 harg6 arg7 harg7 arg8 harg8 arg9 harg9 arg10 harg10 arg11 harg11 arg12 harg12 arg13 h7 h10)

/-- The body, as its blocks. -/
def kbody : Prog (TpuEff nD τ sig (Elt F) Λ₀ .tc) PUnit :=
  whenP (k0_cond1 i = 1#1) (fun h1 => cnBlock i arg4 arg10 h1) >>= fun _ =>
  whenP (cond2 i = 1#1) (fun _ => startFrom arg2 arg7 arg13 0 (by decide) 48 0 rfl) >>= fun _ =>
  whenP (k0_cond3 i = 1#1) (fun h3 => evenBlock i arg2 harg2 arg3 harg3 arg4 harg4 arg5 harg5 arg6 harg6 arg7 harg7 arg8 harg8 arg9 harg9 arg10 harg10 arg11 harg11 arg12 harg12 arg13 h3) >>= fun _ =>
  whenP (k0_cond7 i = 1#1) (fun h7 => oddBlock i arg2 harg2 arg3 harg3 arg4 harg4 arg5 harg5 arg6 harg6 arg7 harg7 arg8 harg8 arg9 harg9 arg10 harg10 arg11 harg11 arg12 harg12 arg13 h7) >>= fun _ =>
  mainBlock i arg2 harg2 arg3 harg3 arg4 harg4 arg5 harg5 arg6 harg6 arg7 harg7 arg8 harg8 arg9 harg9 arg10 harg10 arg11 harg11 arg12 harg12 arg13

end Body

/-- One start more. -/
theorem start_step (x : Memref sig .tc .hbm S8x3x32x16x32x16 .f32) (m : Memref sig .tc .vmem S48x32x32x16 .f32)
    (g : DmaSems sig S8) (n : ℕ) (hn : n < 8) (r j : ℕ) (h : j + (r + 1) = 48)
    {oS : Fin 6 → ℕ} {oD : Fin 4 → ℕ} {oC : Fin 1 → ℕ} {iS iD iC}
    (hS : oS = ![n, j / 16, 0, j % 16, 0, 0]) (hD : oD = ![j, 0, 0, 0]) (hC : oC = ![j % 8])
    {K : Prog (TpuEff nD τ sig (Elt F) Λ₀ .tc) PUnit} {k : PUnit → Prog (TpuEff nD τ sig (Elt F) Λ₀ .tc) PUnit}
    (hk : k ⟨⟩ = (startFrom x m g n hn r (j + 1) (by omega) >>= fun _ => K)) :
    (Prog.op (.enqueueDma
      ((x.slice (Rect.unit (s := S8x3x32x16x32x16) oS S1x1x32x1x32x16.size iS) (fun _ => rfl)).squeeze S32x32x16 squeezes_S1x1x32x1x32x16_S32x32x16)
      (.here ((m.slice (Rect.unit (s := S48x32x32x16) oD S1x32x32x16.size iD) (fun _ => rfl)).squeeze S32x32x16 squeezes_S1x32x32x16_S32x32x16))
      (.dma ((g.slice (Rect.unit (s := S8) oC S1.size iC)).squeeze S_ squeezes_S1_S_).sem)
      ((View.wordExact_bits rfl).reshape _ _) ((View.wordExact_bits rfl).reshape _ _) ⟨Or.inl rfl, trivial⟩) k : Prog (TpuEff nD τ sig (Elt F) Λ₀ .tc) PUnit)
     = (startFrom x m g n hn (r + 1) j h >>= fun _ => K) := by
  subst hS hD hC
  show _ = Prog.op _ _
  congr 1
  funext u
  exact hk

/-- One wait more. -/
theorem wait_step (x : Memref sig .tc .hbm S8x3x32x16x32x16 .f32) (m : Memref sig .tc .vmem S48x32x32x16 .f32)
    (g : DmaSems sig S8) (n : ℕ) (hn : n < 8) (r j : ℕ) (h : j + (r + 1) = 48)
    {oS : Fin 6 → ℕ} {oD : Fin 4 → ℕ} {oC : Fin 1 → ℕ} {iS iD iC}
    (hS : oS = ![n, j / 16, 0, j % 16, 0, 0]) (hD : oD = ![j, 0, 0, 0]) (hC : oC = ![j % 8])
    {K : Prog (TpuEff nD τ sig (Elt F) Λ₀ .tc) PUnit} {k : PUnit → Prog (TpuEff nD τ sig (Elt F) Λ₀ .tc) PUnit}
    (hk : k ⟨⟩ = (waitFrom x m g n hn r (j + 1) (by omega) >>= fun _ => K)) :
    (Prog.op (.waitDma2
      ((g.slice (Rect.unit (s := S8) oC S1.size iC)).squeeze S_ squeezes_S1_S_).sem
      ((x.slice (Rect.unit (s := S8x3x32x16x32x16) oS S1x1x32x1x32x16.size iS) (fun _ => rfl)).squeeze S32x32x16 squeezes_S1x1x32x1x32x16_S32x32x16)
      ((m.slice (Rect.unit (s := S48x32x32x16) oD S1x32x32x16.size iD) (fun _ => rfl)).squeeze S32x32x16 squeezes_S1x32x32x16_S32x32x16)
      ((View.wordExact_bits rfl).reshape _ _) ((View.wordExact_bits rfl).reshape _ _)) k : Prog (TpuEff nD τ sig (Elt F) Λ₀ .tc) PUnit)
     = (waitFrom x m g n hn (r + 1) j h >>= fun _ => K) := by
  subst hS hD hC
  show _ = Prog.op _ _
  congr 1
  funext u
  exact hk

/-- A conditional whose branches end in one continuation is the conditional block followed by it. -/
theorem when_eq {c : Prop} {_ : Decidable c} {k' k : Prog (TpuEff nD τ sig (Elt F) Λ₀ .tc) PUnit}
    {p' p : c → Prog (TpuEff nD τ sig (Elt F) Λ₀ .tc) PUnit} (hp : ∀ h, p' h = (p h >>= fun _ => k')) (hk : k' = k) :
    dite c p' (fun _ => k') = (whenP c p >>= fun _ => k) := by
  subst hk
  unfold whenP
  by_cases h : c
  · rw [dif_pos h, dif_pos h]; exact hp h
  · rw [dif_neg h, dif_neg h]; rfl

set_option maxRecDepth 65536 in
set_option maxHeartbeats 4000000 in
/-- The skeleton of the printed body is the composition of its blocks. -/
theorem skel_eq_kbody (i : grid0.Coords) (arg2 : Memref sig .tc .hbm S8x3x32x16x32x16 .f32) (harg2 : arg2.IsWhole) (arg3 : Memref sig .tc .vmem S768x256 .f32) (harg3 : arg3.IsWhole) (arg4 : Memref sig .tc .vmem S256x1024 .f32) (harg4 : arg4.IsWhole) (arg5 : Memref sig .tc .vmem S1x1024x1 .i32) (harg5 : arg5.IsWhole) (arg6 : Memref sig .tc .vmem S1x1024x256 .f32) (harg6 : arg6.IsWhole) (arg7 : Memref sig .tc .vmem S48x32x32x16 .f32) (harg7 : arg7.IsWhole) (arg8 : Memref sig .tc .vmem S48x32x32x16 .f32) (harg8 : arg8.IsWhole) (arg9 : Memref sig .tc .vmem S1024x256 .f32) (harg9 : arg9.IsWhole) (arg10 : Memref sig .tc .vmem S1x8192 .f32) (harg10 : arg10.IsWhole) (arg11 : Memref sig .tc .vmem S1024x128 .f32) (harg11 : arg11.IsWhole) (arg12 : Memref sig .tc .vmem S1024x128 .i32) (harg12 : arg12.IsWhole) (arg13 : DmaSems sig S8) :
    cc0__vq_kernel_skel (F := F) i arg2 harg2 arg3 harg3 arg4 harg4 arg5 harg5 arg6 harg6 arg7 harg7 arg8 harg8 arg9 harg9 arg10 harg10 arg11 harg11 arg12 harg12 arg13 = kbody i arg2 harg2 arg3 harg3 arg4 harg4 arg5 harg5 arg6 harg6 arg7 harg7 arg8 harg8 arg9 harg9 arg10 harg10 arg11 harg11 arg12 harg12 arg13 := by
  unfold cc0__vq_kernel_skel kbody
  refine when_eq (F := F) (fun _ => rfl) ?_
  refine when_eq (F := F) (fun _ => ?_) ?_
  ·
    unfold k0_part1 k0_part2 k0_part3 k0_part4 k0_part5 k0_part6 k0_part7 k0_part8 k0_part9 k0_part10 k0_part11 k0_part12 k0_part13 k0_part14
    simp only [Prog.bind_lift, Prog.bind_op, Prog.bind_ret, Prog.pure_eq_ret]
    refine start_step _ _ _ _ _ 47 0 _ rfl rfl rfl ?_
    refine start_step _ _ _ _ _ 46 1 _ rfl rfl rfl ?_
    refine start_step _ _ _ _ _ 45 2 _ rfl rfl rfl ?_
    refine start_step _ _ _ _ _ 44 3 _ rfl rfl rfl ?_
    refine start_step _ _ _ _ _ 43 4 _ rfl rfl rfl ?_
    refine start_step _ _ _ _ _ 42 5 _ rfl rfl rfl ?_
    refine start_step _ _ _ _ _ 41 6 _ rfl rfl rfl ?_
    refine start_step _ _ _ _ _ 40 7 _ rfl rfl rfl ?_
    refine start_step _ _ _ _ _ 39 8 _ rfl rfl rfl ?_
    refine start_step _ _ _ _ _ 38 9 _ rfl rfl rfl ?_
    refine start_step _ _ _ _ _ 37 10 _ rfl rfl rfl ?_
    refine start_step _ _ _ _ _ 36 11 _ rfl rfl rfl ?_
    refine start_step _ _ _ _ _ 35 12 _ rfl rfl rfl ?_
    refine start_step _ _ _ _ _ 34 13 _ rfl rfl rfl ?_
    refine start_step _ _ _ _ _ 33 14 _ rfl rfl rfl ?_
    refine start_step _ _ _ _ _ 32 15 _ rfl rfl rfl ?_
    refine start_step _ _ _ _ _ 31 16 _ rfl rfl rfl ?_
    refine start_step _ _ _ _ _ 30 17 _ rfl rfl rfl ?_
    refine start_step _ _ _ _ _ 29 18 _ rfl rfl rfl ?_
    refine start_step _ _ _ _ _ 28 19 _ rfl rfl rfl ?_
    refine start_step _ _ _ _ _ 27 20 _ rfl rfl rfl ?_
    refine start_step _ _ _ _ _ 26 21 _ rfl rfl rfl ?_
    refine start_step _ _ _ _ _ 25 22 _ rfl rfl rfl ?_
    refine start_step _ _ _ _ _ 24 23 _ rfl rfl rfl ?_
    refine start_step _ _ _ _ _ 23 24 _ rfl rfl rfl ?_
    refine start_step _ _ _ _ _ 22 25 _ rfl rfl rfl ?_
    refine start_step _ _ _ _ _ 21 26 _ rfl rfl rfl ?_
    refine start_step _ _ _ _ _ 20 27 _ rfl rfl rfl ?_
    refine start_step _ _ _ _ _ 19 28 _ rfl rfl rfl ?_
    refine start_step _ _ _ _ _ 18 29 _ rfl rfl rfl ?_
    refine start_step _ _ _ _ _ 17 30 _ rfl rfl rfl ?_
    refine start_step _ _ _ _ _ 16 31 _ rfl rfl rfl ?_
    refine start_step _ _ _ _ _ 15 32 _ rfl rfl rfl ?_
    refine start_step _ _ _ _ _ 14 33 _ rfl rfl rfl ?_
    refine start_step _ _ _ _ _ 13 34 _ rfl rfl rfl ?_
    refine start_step _ _ _ _ _ 12 35 _ rfl rfl rfl ?_
    refine start_step _ _ _ _ _ 11 36 _ rfl rfl rfl ?_
    refine start_step _ _ _ _ _ 10 37 _ rfl rfl rfl ?_
    refine start_step _ _ _ _ _ 9 38 _ rfl rfl rfl ?_
    refine start_step _ _ _ _ _ 8 39 _ rfl rfl rfl ?_
    refine start_step _ _ _ _ _ 7 40 _ rfl rfl rfl ?_
    refine start_step _ _ _ _ _ 6 41 _ rfl rfl rfl ?_
    refine start_step _ _ _ _ _ 5 42 _ rfl rfl rfl ?_
    refine start_step _ _ _ _ _ 4 43 _ rfl rfl rfl ?_
    refine start_step _ _ _ _ _ 3 44 _ rfl rfl rfl ?_
    refine start_step _ _ _ _ _ 2 45 _ rfl rfl rfl ?_
    refine start_step _ _ _ _ _ 1 46 _ rfl rfl rfl ?_
    refine start_step _ _ _ _ _ 0 47 _ rfl rfl rfl ?_
    rfl
  refine when_eq (F := F) (fun h3 => ?_) ?_
  · unfold evenBlock
    simp only [Prog.bind_assoc]
    refine when_eq (F := F) (fun _ => ?_) ?_
    ·
      unfold k0_part15 k0_part16 k0_part17 k0_part18 k0_part19 k0_part20 k0_part21 k0_part22 k0_part23 k0_part24 k0_part25 k0_part26 k0_part27
      simp only [Prog.bind_lift, Prog.bind_op, Prog.bind_ret, Prog.pure_eq_ret]
      refine wait_step _ _ _ _ _ 47 0 _ rfl rfl rfl ?_
      refine wait_step _ _ _ _ _ 46 1 _ rfl rfl rfl ?_
      refine wait_step _ _ _ _ _ 45 2 _ rfl rfl rfl ?_
      refine wait_step _ _ _ _ _ 44 3 _ rfl rfl rfl ?_
      refine wait_step _ _ _ _ _ 43 4 _ rfl rfl rfl ?_
      refine wait_step _ _ _ _ _ 42 5 _ rfl rfl rfl ?_
      refine wait_step _ _ _ _ _ 41 6 _ rfl rfl rfl ?_
      refine wait_step _ _ _ _ _ 40 7 _ rfl rfl rfl ?_
      refine wait_step _ _ _ _ _ 39 8 _ rfl rfl rfl ?_
      refine wait_step _ _ _ _ _ 38 9 _ rfl rfl rfl ?_
      refine wait_step _ _ _ _ _ 37 10 _ rfl rfl rfl ?_
      refine wait_step _ _ _ _ _ 36 11 _ rfl rfl rfl ?_
      refine wait_step _ _ _ _ _ 35 12 _ rfl rfl rfl ?_
      refine wait_step _ _ _ _ _ 34 13 _ rfl rfl rfl ?_
      refine wait_step _ _ _ _ _ 33 14 _ rfl rfl rfl ?_
      refine wait_step _ _ _ _ _ 32 15 _ rfl rfl rfl ?_
      refine wait_step _ _ _ _ _ 31 16 _ rfl rfl rfl ?_
      refine wait_step _ _ _ _ _ 30 17 _ rfl rfl rfl ?_
      refine wait_step _ _ _ _ _ 29 18 _ rfl rfl rfl ?_
      refine wait_step _ _ _ _ _ 28 19 _ rfl rfl rfl ?_
      refine wait_step _ _ _ _ _ 27 20 _ rfl rfl rfl ?_
      refine wait_step _ _ _ _ _ 26 21 _ rfl rfl rfl ?_
      refine wait_step _ _ _ _ _ 25 22 _ rfl rfl rfl ?_
      refine wait_step _ _ _ _ _ 24 23 _ rfl rfl rfl ?_
      refine wait_step _ _ _ _ _ 23 24 _ rfl rfl rfl ?_
      refine wait_step _ _ _ _ _ 22 25 _ rfl rfl rfl ?_
      refine wait_step _ _ _ _ _ 21 26 _ rfl rfl rfl ?_
      refine wait_step _ _ _ _ _ 20 27 _ rfl rfl rfl ?_
      refine wait_step _ _ _ _ _ 19 28 _ rfl rfl rfl ?_
      refine wait_step _ _ _ _ _ 18 29 _ rfl rfl rfl ?_
      refine wait_step _ _ _ _ _ 17 30 _ rfl rfl rfl ?_
      refine wait_step _ _ _ _ _ 16 31 _ rfl rfl rfl ?_
      refine wait_step _ _ _ _ _ 15 32 _ rfl rfl rfl ?_
      refine wait_step _ _ _ _ _ 14 33 _ rfl rfl rfl ?_
      refine wait_step _ _ _ _ _ 13 34 _ rfl rfl rfl ?_
      refine wait_step _ _ _ _ _ 12 35 _ rfl rfl rfl ?_
      refine wait_step _ _ _ _ _ 11 36 _ rfl rfl rfl ?_
      refine wait_step _ _ _ _ _ 10 37 _ rfl rfl rfl ?_
      refine wait_step _ _ _ _ _ 9 38 _ rfl rfl rfl ?_
      refine wait_step _ _ _ _ _ 8 39 _ rfl rfl rfl ?_
      refine wait_step _ _ _ _ _ 7 40 _ rfl rfl rfl ?_
      refine wait_step _ _ _ _ _ 6 41 _ rfl rfl rfl ?_
      refine wait_step _ _ _ _ _ 5 42 _ rfl rfl rfl ?_
      refine wait_step _ _ _ _ _ 4 43 _ rfl rfl rfl ?_
      refine wait_step _ _ _ _ _ 3 44 _ rfl rfl rfl ?_
      refine wait_step _ _ _ _ _ 2 45 _ rfl rfl rfl ?_
      refine wait_step _ _ _ _ _ 1 46 _ rfl rfl rfl ?_
      refine wait_step _ _ _ _ _ 0 47 _ rfl rfl rfl ?_
      rfl
    refine when_eq (F := F) (fun _ => ?_) ?_
    ·
      unfold k0_part28 k0_part29 k0_part30 k0_part31 k0_part32 k0_part33 k0_part34 k0_part35 k0_part36 k0_part37 k0_part38 k0_part39 k0_part40
      simp only [Prog.bind_lift, Prog.bind_op, Prog.bind_ret, Prog.pure_eq_ret]
      refine start_step _ _ _ _ _ 47 0 _ rfl rfl rfl ?_
      refine start_step _ _ _ _ _ 46 1 _ rfl rfl rfl ?_
      refine start_step _ _ _ _ _ 45 2 _ rfl rfl rfl ?_
      refine start_step _ _ _ _ _ 44 3 _ rfl rfl rfl ?_
      refine start_step _ _ _ _ _ 43 4 _ rfl rfl rfl ?_
      refine start_step _ _ _ _ _ 42 5 _ rfl rfl rfl ?_
      refine start_step _ _ _ _ _ 41 6 _ rfl rfl rfl ?_
      refine start_step _ _ _ _ _ 40 7 _ rfl rfl rfl ?_
      refine start_step _ _ _ _ _ 39 8 _ rfl rfl rfl ?_
      refine start_step _ _ _ _ _ 38 9 _ rfl rfl rfl ?_
      refine start_step _ _ _ _ _ 37 10 _ rfl rfl rfl ?_
      refine start_step _ _ _ _ _ 36 11 _ rfl rfl rfl ?_
      refine start_step _ _ _ _ _ 35 12 _ rfl rfl rfl ?_
      refine start_step _ _ _ _ _ 34 13 _ rfl rfl rfl ?_
      refine start_step _ _ _ _ _ 33 14 _ rfl rfl rfl ?_
      refine start_step _ _ _ _ _ 32 15 _ rfl rfl rfl ?_
      refine start_step _ _ _ _ _ 31 16 _ rfl rfl rfl ?_
      refine start_step _ _ _ _ _ 30 17 _ rfl rfl rfl ?_
      refine start_step _ _ _ _ _ 29 18 _ rfl rfl rfl ?_
      refine start_step _ _ _ _ _ 28 19 _ rfl rfl rfl ?_
      refine start_step _ _ _ _ _ 27 20 _ rfl rfl rfl ?_
      refine start_step _ _ _ _ _ 26 21 _ rfl rfl rfl ?_
      refine start_step _ _ _ _ _ 25 22 _ rfl rfl rfl ?_
      refine start_step _ _ _ _ _ 24 23 _ rfl rfl rfl ?_
      refine start_step _ _ _ _ _ 23 24 _ rfl rfl rfl ?_
      refine start_step _ _ _ _ _ 22 25 _ rfl rfl rfl ?_
      refine start_step _ _ _ _ _ 21 26 _ rfl rfl rfl ?_
      refine start_step _ _ _ _ _ 20 27 _ rfl rfl rfl ?_
      refine start_step _ _ _ _ _ 19 28 _ rfl rfl rfl ?_
      refine start_step _ _ _ _ _ 18 29 _ rfl rfl rfl ?_
      refine start_step _ _ _ _ _ 17 30 _ rfl rfl rfl ?_
      refine start_step _ _ _ _ _ 16 31 _ rfl rfl rfl ?_
      refine start_step _ _ _ _ _ 15 32 _ rfl rfl rfl ?_
      refine start_step _ _ _ _ _ 14 33 _ rfl rfl rfl ?_
      refine start_step _ _ _ _ _ 13 34 _ rfl rfl rfl ?_
      refine start_step _ _ _ _ _ 12 35 _ rfl rfl rfl ?_
      refine start_step _ _ _ _ _ 11 36 _ rfl rfl rfl ?_
      refine start_step _ _ _ _ _ 10 37 _ rfl rfl rfl ?_
      refine start_step _ _ _ _ _ 9 38 _ rfl rfl rfl ?_
      refine start_step _ _ _ _ _ 8 39 _ rfl rfl rfl ?_
      refine start_step _ _ _ _ _ 7 40 _ rfl rfl rfl ?_
      refine start_step _ _ _ _ _ 6 41 _ rfl rfl rfl ?_
      refine start_step _ _ _ _ _ 5 42 _ rfl rfl rfl ?_
      refine start_step _ _ _ _ _ 4 43 _ rfl rfl rfl ?_
      refine start_step _ _ _ _ _ 3 44 _ rfl rfl rfl ?_
      refine start_step _ _ _ _ _ 2 45 _ rfl rfl rfl ?_
      refine start_step _ _ _ _ _ 1 46 _ rfl rfl rfl ?_
      refine start_step _ _ _ _ _ 0 47 _ rfl rfl rfl ?_
      rfl
    refine when_eq (F := F) (fun _ => ?_) rfl
    unfold zBlock1 initBlock
    simp only [Prog.bind_assoc, Prog.bind_lift, Prog.bind_op, Prog.bind_ret, Prog.pure_eq_ret]
  refine when_eq (F := F) (fun h7 => ?_) ?_
  · unfold oddBlock
    simp only [Prog.bind_assoc]
    refine when_eq (F := F) (fun _ => ?_) ?_
    ·
      unfold k0_part52 k0_part53 k0_part54 k0_part55 k0_part56 k0_part57 k0_part58 k0_part59 k0_part60 k0_part61 k0_part62 k0_part63 k0_part64
      simp only [Prog.bind_lift, Prog.bind_op, Prog.bind_ret, Prog.pure_eq_ret]
      refine wait_step _ _ _ _ _ 47 0 _ rfl rfl rfl ?_
      refine wait_step _ _ _ _ _ 46 1 _ rfl rfl rfl ?_
      refine wait_step _ _ _ _ _ 45 2 _ rfl rfl rfl ?_
      refine wait_step _ _ _ _ _ 44 3 _ rfl rfl rfl ?_
      refine wait_step _ _ _ _ _ 43 4 _ rfl rfl rfl ?_
      refine wait_step _ _ _ _ _ 42 5 _ rfl rfl rfl ?_
      refine wait_step _ _ _ _ _ 41 6 _ rfl rfl rfl ?_
      refine wait_step _ _ _ _ _ 40 7 _ rfl rfl rfl ?_
      refine wait_step _ _ _ _ _ 39 8 _ rfl rfl rfl ?_
      refine wait_step _ _ _ _ _ 38 9 _ rfl rfl rfl ?_
      refine wait_step _ _ _ _ _ 37 10 _ rfl rfl rfl ?_
      refine wait_step _ _ _ _ _ 36 11 _ rfl rfl rfl ?_
      refine wait_step _ _ _ _ _ 35 12 _ rfl rfl rfl ?_
      refine wait_step _ _ _ _ _ 34 13 _ rfl rfl rfl ?_
      refine wait_step _ _ _ _ _ 33 14 _ rfl rfl rfl ?_
      refine wait_step _ _ _ _ _ 32 15 _ rfl rfl rfl ?_
      refine wait_step _ _ _ _ _ 31 16 _ rfl rfl rfl ?_
      refine wait_step _ _ _ _ _ 30 17 _ rfl rfl rfl ?_
      refine wait_step _ _ _ _ _ 29 18 _ rfl rfl rfl ?_
      refine wait_step _ _ _ _ _ 28 19 _ rfl rfl rfl ?_
      refine wait_step _ _ _ _ _ 27 20 _ rfl rfl rfl ?_
      refine wait_step _ _ _ _ _ 26 21 _ rfl rfl rfl ?_
      refine wait_step _ _ _ _ _ 25 22 _ rfl rfl rfl ?_
      refine wait_step _ _ _ _ _ 24 23 _ rfl rfl rfl ?_
      refine wait_step _ _ _ _ _ 23 24 _ rfl rfl rfl ?_
      refine wait_step _ _ _ _ _ 22 25 _ rfl rfl rfl ?_
      refine wait_step _ _ _ _ _ 21 26 _ rfl rfl rfl ?_
      refine wait_step _ _ _ _ _ 20 27 _ rfl rfl rfl ?_
      refine wait_step _ _ _ _ _ 19 28 _ rfl rfl rfl ?_
      refine wait_step _ _ _ _ _ 18 29 _ rfl rfl rfl ?_
      refine wait_step _ _ _ _ _ 17 30 _ rfl rfl rfl ?_
      refine wait_step _ _ _ _ _ 16 31 _ rfl rfl rfl ?_
      refine wait_step _ _ _ _ _ 15 32 _ rfl rfl rfl ?_
      refine wait_step _ _ _ _ _ 14 33 _ rfl rfl rfl ?_
      refine wait_step _ _ _ _ _ 13 34 _ rfl rfl rfl ?_
      refine wait_step _ _ _ _ _ 12 35 _ rfl rfl rfl ?_
      refine wait_step _ _ _ _ _ 11 36 _ rfl rfl rfl ?_
      refine wait_step _ _ _ _ _ 10 37 _ rfl rfl rfl ?_
      refine wait_step _ _ _ _ _ 9 38 _ rfl rfl rfl ?_
      refine wait_step _ _ _ _ _ 8 39 _ rfl rfl rfl ?_
      refine wait_step _ _ _ _ _ 7 40 _ rfl rfl rfl ?_
      refine wait_step _ _ _ _ _ 6 41 _ rfl rfl rfl ?_
      refine wait_step _ _ _ _ _ 5 42 _ rfl rfl rfl ?_
      refine wait_step _ _ _ _ _ 4 43 _ rfl rfl rfl ?_
      refine wait_step _ _ _ _ _ 3 44 _ rfl rfl rfl ?_
      refine wait_step _ _ _ _ _ 2 45 _ rfl rfl rfl ?_
      refine wait_step _ _ _ _ _ 1 46 _ rfl rfl rfl ?_
      refine wait_step _ _ _ _ _ 0 47 _ rfl rfl rfl ?_
      rfl
    refine when_eq (F := F) (fun _ => ?_) ?_
    ·
      unfold k0_part65 k0_part66 k0_part67 k0_part68 k0_part69 k0_part70 k0_part71 k0_part72 k0_part73 k0_part74 k0_part75 k0_part76 k0_part77
      simp only [Prog.bind_lift, Prog.bind_op, Prog.bind_ret, Prog.pure_eq_ret]
      refine start_step _ _ _ _ _ 47 0 _ rfl rfl rfl ?_
      refine start_step _ _ _ _ _ 46 1 _ rfl rfl rfl ?_
      refine start_step _ _ _ _ _ 45 2 _ rfl rfl rfl ?_
      refine start_step _ _ _ _ _ 44 3 _ rfl rfl rfl ?_
      refine start_step _ _ _ _ _ 43 4 _ rfl rfl rfl ?_
      refine start_step _ _ _ _ _ 42 5 _ rfl rfl rfl ?_
      refine start_step _ _ _ _ _ 41 6 _ rfl rfl rfl ?_
      refine start_step _ _ _ _ _ 40 7 _ rfl rfl rfl ?_
      refine start_step _ _ _ _ _ 39 8 _ rfl rfl rfl ?_
      refine start_step _ _ _ _ _ 38 9 _ rfl rfl rfl ?_
      refine start_step _ _ _ _ _ 37 10 _ rfl rfl rfl ?_
      refine start_step _ _ _ _ _ 36 11 _ rfl rfl rfl ?_
      refine start_step _ _ _ _ _ 35 12 _ rfl rfl rfl ?_
      refine start_step _ _ _ _ _ 34 13 _ rfl rfl rfl ?_
      refine start_step _ _ _ _ _ 33 14 _ rfl rfl rfl ?_
      refine start_step _ _ _ _ _ 32 15 _ rfl rfl rfl ?_
      refine start_step _ _ _ _ _ 31 16 _ rfl rfl rfl ?_
      refine start_step _ _ _ _ _ 30 17 _ rfl rfl rfl ?_
      refine start_step _ _ _ _ _ 29 18 _ rfl rfl rfl ?_
      refine start_step _ _ _ _ _ 28 19 _ rfl rfl rfl ?_
      refine start_step _ _ _ _ _ 27 20 _ rfl rfl rfl ?_
      refine start_step _ _ _ _ _ 26 21 _ rfl rfl rfl ?_
      refine start_step _ _ _ _ _ 25 22 _ rfl rfl rfl ?_
      refine start_step _ _ _ _ _ 24 23 _ rfl rfl rfl ?_
      refine start_step _ _ _ _ _ 23 24 _ rfl rfl rfl ?_
      refine start_step _ _ _ _ _ 22 25 _ rfl rfl rfl ?_
      refine start_step _ _ _ _ _ 21 26 _ rfl rfl rfl ?_
      refine start_step _ _ _ _ _ 20 27 _ rfl rfl rfl ?_
      refine start_step _ _ _ _ _ 19 28 _ rfl rfl rfl ?_
      refine start_step _ _ _ _ _ 18 29 _ rfl rfl rfl ?_
      refine start_step _ _ _ _ _ 17 30 _ rfl rfl rfl ?_
      refine start_step _ _ _ _ _ 16 31 _ rfl rfl rfl ?_
      refine start_step _ _ _ _ _ 15 32 _ rfl rfl rfl ?_
      refine start_step _ _ _ _ _ 14 33 _ rfl rfl rfl ?_
      refine start_step _ _ _ _ _ 13 34 _ rfl rfl rfl ?_
      refine start_step _ _ _ _ _ 12 35 _ rfl rfl rfl ?_
      refine start_step _ _ _ _ _ 11 36 _ rfl rfl rfl ?_
      refine start_step _ _ _ _ _ 10 37 _ rfl rfl rfl ?_
      refine start_step _ _ _ _ _ 9 38 _ rfl rfl rfl ?_
      refine start_step _ _ _ _ _ 8 39 _ rfl rfl rfl ?_
      refine start_step _ _ _ _ _ 7 40 _ rfl rfl rfl ?_
      refine start_step _ _ _ _ _ 6 41 _ rfl rfl rfl ?_
      refine start_step _ _ _ _ _ 5 42 _ rfl rfl rfl ?_
      refine start_step _ _ _ _ _ 4 43 _ rfl rfl rfl ?_
      refine start_step _ _ _ _ _ 3 44 _ rfl rfl rfl ?_
      refine start_step _ _ _ _ _ 2 45 _ rfl rfl rfl ?_
      refine start_step _ _ _ _ _ 1 46 _ rfl rfl rfl ?_
      refine start_step _ _ _ _ _ 0 47 _ rfl rfl rfl ?_
      rfl
    refine when_eq (F := F) (fun _ => ?_) rfl
    unfold zBlock2 initBlock
    simp only [Prog.bind_assoc, Prog.bind_lift, Prog.bind_op, Prog.bind_ret, Prog.pure_eq_ret]
  rfl

end Cert.KernelIdeal.Own
-- ==== Proof.K.Dma.lean ====
/- The copies of one image: 48 transfers on eight cells, six on each, and the waits for them. What is in flight is one
   batch per cell; what every transfer hands over at the end is its slab of the stage and its slab of the input. -/
module

public import proofs.«01_k».proof.Proof.K.Blocks
public import Idealize.ShloMosaic.Lib.Pipeline.Frame
public import Idealize.ShloMosaic.Lib.Tactic
public import Idealize.ShloMosaic.Lib.Transfers
public import Idealize.ShloMosaic.Lib.Batch
public import Idealize.ShloMosaic.Lib.ViewIndex
public import Idealize.SL.BI.BigOpNat

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD) (X : Memref sig .tc .hbm S8x3x32x16x32x16 .f32) (M : Memref sig .tc .vmem S48x32x32x16 .f32)
  (g : DmaSems sig S8) (n : ℕ) (hn : n < 8)
  (f : Buf (Elt F) (X.view.loc (c : Thread nD τ))) (s : Buf (Elt F) (M.view.loc (c : Thread nD τ)))
  (G : Buf (Elt F) (M.view.loc (c : Thread nD τ)))

/-- The places of slab `j` of image `n` in the input. -/
def srcSet (j : ℕ) : Finset (Idx (X.view.loc (c : Thread nD τ))) :=
  if h : j < 48 then (srcW X n j hn h).view.set else ∅
/-- The places of slab `j` in a stage. -/
def dstSet (j : ℕ) : Finset (Idx (M.view.loc (c : Thread nD τ))) :=
  if h : j < 48 then (dstW M j h).view.set else ∅

theorem srcSet_eq (j : ℕ) (h : j < 48) : srcSet c X n hn j = (srcW X n j hn h).view.set := dif_pos h
theorem dstSet_eq (j : ℕ) (h : j < 48) : dstSet c M j = (dstW M j h).view.set := dif_pos h

theorem dstSet_slice (j : ℕ) (h : j < 48) :
    dstSet c M j = (M.view.slice (Rect.unit (s := S48x32x32x16) ![j, 0, 0, 0] S1x32x32x16.size (dstIn j h))).set :=
  (dstSet_eq c M j h).trans (View.set_reshape _ _)

/-- The stage's slabs together are the stage. -/
theorem dstSet_cover : (Finset.range 48).biUnion (dstSet c M) = M.view.set := by
  ext i
  simp only [Finset.mem_biUnion, Finset.mem_range]
  constructor
  · rintro ⟨j, hj, h⟩
    rw [dstSet_slice c M j hj] at h
    exact View.set_slice_subset _ _ h
  · intro h
    obtain ⟨x, -, rfl⟩ := Finset.mem_map.mp h
    have hx : (x 0).val < 48 := (x 0).isLt
    refine ⟨(x 0).val, hx, ?_⟩
    rw [dstSet_slice c M _ hx, View.set_slice]
    refine Finset.mem_map_of_mem _ (Rect.mem_set_unit.mpr fun a => ?_)
    have h1 : (x 1).val < 32 := (x 1).isLt
    have h2 : (x 2).val < 32 := (x 2).isLt
    have h3 : (x 3).val < 16 := (x 3).isLt
    fin_cases a <;> simp [S1x32x32x16] <;> omega

theorem dstSet_disjoint (j j' : ℕ) (hj : j < 48) (hj' : j' < 48) (hne : j ≠ j') :
    Disjoint (dstSet c M j) (dstSet c M j') := by
  rw [dstSet_eq c M j hj, dstSet_eq c M j' hj']
  refine (congrArg₂ Disjoint (View.set_reshape _ _) (View.set_reshape _ _)).mpr ?_
  refine View.disjoint_slice (Finset.disjoint_left.mpr fun x h h' => ?_)
  have a := Rect.mem_set_unit.mp h 0
  have b := Rect.mem_set_unit.mp h' 0
  simp [S1x32x32x16] at a b
  omega

theorem srcSet_disjoint (j j' : ℕ) (hj : j < 48) (hj' : j' < 48) (hne : j ≠ j') :
    Disjoint (srcSet c X n hn j) (srcSet c X n hn j') := by
  rw [srcSet_eq c X n hn j hj, srcSet_eq c X n hn j' hj']
  refine (congrArg₂ Disjoint (View.set_reshape _ _) (View.set_reshape _ _)).mpr ?_
  refine View.disjoint_slice (Finset.disjoint_left.mpr fun x h h' => ?_)
  have a := Rect.mem_set_unit.mp h 1
  have b := Rect.mem_set_unit.mp h' 1
  have a3 := Rect.mem_set_unit.mp h 3
  have b3 := Rect.mem_set_unit.mp h' 3
  simp [S1x1x32x1x32x16] at a b a3 b3
  omega

/-- The places of image `n` in the input. -/
def imgSet : Finset (Idx (X.view.loc (c : Thread nD τ))) := (Finset.range 48).biUnion (srcSet c X n hn)

/-- What transfer `j` hands over: its slab of the stage, filled, and its slab of the input. -/
def Dlv (j : ℕ) : sProp 𝕄 :=
  iprop((M.view.loc (c : Thread nD τ) ↦[dstSet c M j]{fullShare} G) ∗ (X.view.loc (c : Thread nD τ) ↦[srcSet c X n hn j]{fullShare} f))

/-- What transfer `j` takes. -/
def Tak (j : ℕ) : sProp 𝕄 :=
  iprop((X.view.loc (c : Thread nD τ) ↦[srcSet c X n hn j]{fullShare} f) ∗ (M.view.loc (c : Thread nD τ) ↦[dstSet c M j]{fullShare} s))

instance Dlv_storable (j : ℕ) : Storable (upEmb : UEmb _ 𝕄) (Dlv c X M n hn f G j) := by
  unfold Dlv; infer_instance

/-- The units of one slab. -/
def slabN : ℕ := (dstW M 0 (by decide)).view.amount (SemLoc.dma (sig := sig) (semW g 0).sem)

/-- The counters' place in the ghost state. -/
abbrev EC : UEmb Counters 𝕄 := countersEmb (U := Pipeline.UD sig nD τ)

/-- Cell `k` with `a` of its six transfers started and `u` units waited for. -/
def cellB (k a u : ℕ) : sProp 𝕄 :=
  Transfers.Batch EC (c : Thread nD τ) (.dma (semW g k).sem) () (slabN M g)
    (fun i : Fin 6 => Dlv c X M n hn f G (8 * i.val + k)) a u

/-- The stage and the image's places hold exactly what the transfers take. -/
theorem tak_eq :
    (bigSep (Finset.range 48) (Tak c X M n hn f s) : sProp 𝕄)
      = iprop((X.view.loc (c : Thread nD τ) ↦[imgSet c X n hn]{fullShare} f) ∗ (M.view.loc (c : Thread nD τ) ↦[M.view.set]{fullShare} s)) := by
  unfold Tak imgSet
  rw [bigSep_sep', ← dstSet_cover c M,
    pointsTo_biUnion _ _ (fun t ht t' ht' h => srcSet_disjoint c X n hn t t' (Finset.mem_range.mp ht) (Finset.mem_range.mp ht') h),
    pointsTo_biUnion _ _ (fun t ht t' ht' h => dstSet_disjoint c M t t' (Finset.mem_range.mp ht) (Finset.mem_range.mp ht') h)]

theorem dlv_eq :
    (bigSep (Finset.range 48) (Dlv c X M n hn f G) : sProp 𝕄)
      = iprop((M.view.loc (c : Thread nD τ) ↦[M.view.set]{fullShare} G) ∗ (X.view.loc (c : Thread nD τ) ↦[imgSet c X n hn]{fullShare} f)) := by
  unfold Dlv imgSet
  rw [bigSep_sep', ← dstSet_cover c M,
    pointsTo_biUnion _ _ (fun t ht t' ht' h => srcSet_disjoint c X n hn t t' (Finset.mem_range.mp ht) (Finset.mem_range.mp ht') h),
    pointsTo_biUnion _ _ (fun t ht t' ht' h => dstSet_disjoint c M t t' (Finset.mem_range.mp ht) (Finset.mem_range.mp ht') h)]

/-- The cells after the first `j` starts. -/
def startSt (j : ℕ) : sProp 𝕄 := bigSep (Finset.range 8) fun k => cellB c X M g n hn f G k ((j + 7 - k) / 8) 0
/-- The cells after all starts and the first `j` waits. -/
def waitSt (j : ℕ) : sProp 𝕄 := bigSep (Finset.range 8) fun k => cellB c X M g n hn f G k 6 ((j + 7 - k) / 8 * slabN M g)

theorem semW_mod (k i : ℕ) (h : i % 8 = k) : semW g i = semW g k := by
  subst h
  have h' : i % 8 % 8 = i % 8 := Nat.mod_mod _ _
  unfold semW
  congr 3
  rw [h']

theorem start_wp (hG : ∀ j hj, (dstW M j hj).view.read (Elt F) G = (srcW X n j hn hj).view.read (Elt F) f)
    (Q : PUnit → sProp 𝕄) : ∀ (r j : ℕ) (h : j + r = 48),
    iprop(startSt c X M g n hn f G j ∗ bigSep (Finset.Ico j 48) (Tak c X M n hn f s)
        ∗ (startSt c X M g n hn f G 48 -∗ Q ⟨⟩))
      ⊢ wp frame (wpE (defs₀ (F := F)) Variants.none (c : Thread nD τ) none) Set.univ (startFrom X M g n hn r j h) Q := by
  intro r
  induction r with
  | zero =>
    intro j h
    obtain rfl : j = 48 := by omega
    iintro ⟨HS, -, Hk⟩
    unfold startFrom
    simp only [Prog.pure_eq_ret]
    sl_step
    iapply Hk; iexact HS
  | succ r ih =>
    intro j h
    have hj : j < 48 := by omega
    have h' : j + 1 + r = 48 := by omega
    have hk : j % 8 ∈ Finset.range 8 := Finset.mem_range.mpr (Nat.mod_lt _ (by decide))
    unfold startFrom
    simp only [Prog.bind_lift, Prog.bind_op, Prog.bind_ret]
    have hst : startSt c X M g n hn f G j = iprop(cellB c X M g n hn f G (j % 8) (j / 8) 0
        ∗ bigSep ((Finset.range 8).erase (j % 8)) fun k => cellB c X M g n hn f G k ((j + 7 - k) / 8) 0) := by
      unfold startSt; rw [bigSep_erase hk, show (j + 7 - j % 8) / 8 = j / 8 by omega]; rfl
    have hst' : startSt c X M g n hn f G (j + 1) = iprop(cellB c X M g n hn f G (j % 8) (j / 8 + 1) 0
        ∗ bigSep ((Finset.range 8).erase (j % 8)) fun k => cellB c X M g n hn f G k ((j + 7 - k) / 8) 0) := by
      unfold startSt; rw [bigSep_erase hk, show (j + 1 + 7 - j % 8) / 8 = j / 8 + 1 by omega]
      refine congrArg (BI.sep (cellB c X M g n hn f G (j % 8) (j / 8 + 1) 0)) (bigSep_congr fun k hk => ?_)
      rw [Finset.mem_erase, Finset.mem_range] at hk
      rw [show (j + 1 + 7 - k) / 8 = (j + 7 - k) / 8 by omega]
    rw [hst, bigSep_Ico_succ_bot hj]
    iintro ⟨⟨HB, HR⟩, ⟨HT, HTs⟩, Hk⟩
    unfold Tak cellB
    rw [srcSet_eq c X n hn j hj, dstSet_eq c M j hj, ← semW_mod g (j % 8) j rfl]
    icases HT with ⟨HX, HM⟩
    iapply (Transfers.wp_dmaBatch EC Variants.none (c : Thread nD τ) none (src := srcW X n j hn hj) (dst := dstW M j hj)
      (D := fun i : Fin 6 => Dlv c X M n hn f G (8 * i.val + j % 8)) (j := j / 8) (u := 0) (fs := f) (fd := s) (q := fullShare)
      () (slabN M g) rfl subset_rfl (by omega) (Nat.zero_le _) (by
        show _ ⊢ Dlv c X M n hn f G (8 * (j / 8) + j % 8)
        rw [show 8 * (j / 8) + j % 8 = j by omega]
        unfold Dlv
        rw [srcSet_eq c X n hn j hj, dstSet_eq c M j hj]
        refine sep_mono (Entails.of_eq (pointsTo_congr fun i hi => ?_)) .rfl
        obtain ⟨y, -, rfl⟩ := Finset.mem_map.mp hi
        refine View.eq_of_read_eq (v := (dstW M j hj).view) ?_
        rw [View.read_write_univ, hG j hj])) $$ [HX HM HB]
    · isplitl [HX]; · iexact HX
      isplitl [HM]; · iexact HM
      iexact HB
    iintro HB
    iapply (ih (j + 1) h')
    rw [hst']
    unfold Tak cellB
    rw [← semW_mod g (j % 8) j rfl]
    isplitl [HB HR]
    · isplitl [HB]; · iexact HB
      iexact HR
    isplitl [HTs]; · iexact HTs
    iexact Hk

/-- The eight cells at zero. -/
def sems0 : sProp 𝕄 := bigSep (Finset.range 8) fun k => semVal ((c : Thread nD τ), SemLoc.dma (semW g k).sem) 0

/-- All 48 copies of image `n` under way. -/
def flying : sProp 𝕄 := bigSep (Finset.range 8) fun k => cellB c X M g n hn f G k 6 0

theorem startSt_zero : sems0 c g ⊢ |={Set.univ}=> startSt c X M g n hn f G 0 := by
  unfold sems0 startSt
  refine (bigSep_mono fun k hk => ?_).trans (bigSep_fupd (Finset.range 8) fun k => cellB c X M g n hn f G k ((0 + 7 - k) / 8) 0)
  rw [show (0 + 7 - k) / 8 = 0 by omega]
  exact Transfers.batch_alloc' EC (c : Thread nD τ) () (slabN M g) _

theorem startSt_all : startSt c X M g n hn f G 48 = flying c X M g n hn f G := by
  unfold startSt flying
  refine bigSep_congr fun k hk => ?_
  rw [Finset.mem_range] at hk
  rw [show (48 + 7 - k) / 8 = 6 by omega]

/-- All copies of an image started: the cells at zero, the image and the stage go in. -/
theorem start_all (hG : ∀ j hj, (dstW M j hj).view.read (Elt F) G = (srcW X n j hn hj).view.read (Elt F) f)
    (Q : PUnit → sProp 𝕄) :
    iprop(sems0 c g ∗ (X.view.loc (c : Thread nD τ) ↦[imgSet c X n hn]{fullShare} f)
        ∗ (M.view.loc (c : Thread nD τ) ↦[M.view.set]{fullShare} s)
        ∗ (flying c X M g n hn f G -∗ Q ⟨⟩))
      ⊢ wp frame (wpE (defs₀ (F := F)) Variants.none (c : Thread nD τ) none) Set.univ (startFrom X M g n hn 48 0 rfl) Q := by
  iintro ⟨HS, HX, HM, Hk⟩
  imod (startSt_zero c X M g n hn f G) $$ HS with HS
  iapply (start_wp c X M g n hn f s G hG Q 48 0 rfl)
  isplitl [HS]; · iexact HS
  isplitl [HX HM]
  · rw [← Finset.range_eq_Ico, tak_eq]
    isplitl [HX]; · iexact HX
    iexact HM
  rw [startSt_all]
  iexact Hk

theorem wait_wp (Q : PUnit → sProp 𝕄) : ∀ (r j : ℕ) (h : j + r = 48) (W : Waits sig Unit),
    iprop(waitSt c X M g n hn f G j ∗ owes (c : Thread nD τ) 0 W
        ∗ (iprop(waitSt c X M g n hn f G 48 ∗ ∃ W', owes (c : Thread nD τ) 0 W') -∗ Q ⟨⟩))
      ⊢ wp frame (wpE (defs₀ (F := F)) Variants.none (c : Thread nD τ) none) Set.univ (waitFrom X M g n hn r j h) Q := by
  intro r
  induction r with
  | zero =>
    intro j h W
    obtain rfl : j = 48 := by omega
    iintro ⟨HS, HO, Hk⟩
    unfold waitFrom
    simp only [Prog.pure_eq_ret]
    sl_step
    iapply Hk
    isplitl [HS]; · iexact HS
    iexists _; iexact HO
  | succ r ih =>
    intro j h W
    have hj : j < 48 := by omega
    have h' : j + 1 + r = 48 := by omega
    have hk : j % 8 ∈ Finset.range 8 := Finset.mem_range.mpr (Nat.mod_lt _ (by decide))
    unfold waitFrom
    simp only [Prog.bind_lift, Prog.bind_op, Prog.bind_ret]
    have hst : waitSt c X M g n hn f G j = iprop(cellB c X M g n hn f G (j % 8) 6 (j / 8 * slabN M g)
        ∗ bigSep ((Finset.range 8).erase (j % 8)) fun k => cellB c X M g n hn f G k 6 ((j + 7 - k) / 8 * slabN M g)) := by
      unfold waitSt; rw [bigSep_erase hk, show (j + 7 - j % 8) / 8 = j / 8 by omega]; rfl
    have hst' : waitSt c X M g n hn f G (j + 1) = iprop(cellB c X M g n hn f G (j % 8) 6 ((j / 8 + 1) * slabN M g)
        ∗ bigSep ((Finset.range 8).erase (j % 8)) fun k => cellB c X M g n hn f G k 6 ((j + 7 - k) / 8 * slabN M g)) := by
      unfold waitSt; rw [bigSep_erase hk, show (j + 1 + 7 - j % 8) / 8 = j / 8 + 1 by omega]
      refine congrArg (BI.sep (cellB c X M g n hn f G (j % 8) 6 ((j / 8 + 1) * slabN M g))) (bigSep_congr fun k hk => ?_)
      rw [Finset.mem_erase, Finset.mem_range] at hk
      rw [show (j + 1 + 7 - k) / 8 = (j + 7 - k) / 8 by omega]
    rw [hst]
    iintro ⟨⟨HB, HR⟩, HO, Hk⟩
    unfold cellB
    rw [← semW_mod g (j % 8) j rfl]
    have hle : j / 8 * slabN M g + 1 * slabN M g ≤ slabN M g * 6 := by
      rw [← Nat.add_mul, Nat.mul_comm]
      exact Nat.mul_le_mul_left _ (by omega)
    iapply (Transfers.wp_waitBatchMul EC Variants.none (c : Thread nD τ) none (srcw := srcW X n j hn hj) (dstw := dstW M j hj)
      (D := fun i : Fin 6 => Dlv c X M n hn f G (8 * i.val + j % 8)) (j := 6) (u := j / 8 * slabN M g) (N := slabN M g)
      () 1 (Nat.one_mul _).symm hle) $$ [HB HO]
    · isplitl [HB]; · iexact HB
      iexact HO
    iintro ⟨HB, HO⟩
    iapply (ih (j + 1) h')
    rw [hst', Nat.add_mul]
    unfold cellB
    rw [← semW_mod g (j % 8) j rfl]
    isplitl [HB HR]
    · isplitl [HB]; · iexact HB
      iexact HR
    isplitl [HO]; · iexact HO
    iexact Hk

/-- The six slabs of cell `k`. -/
def slabOf (k : ℕ) : Fin 6 ↪ ℕ := ⟨fun i => 8 * i.val + k, fun a b h => Fin.ext (by simp at h; omega)⟩

theorem slabs_cover : (Finset.range 8).biUnion (fun k => Finset.univ.map (slabOf k)) = Finset.range 48 := by
  ext j
  simp only [Finset.mem_biUnion, Finset.mem_range, Finset.mem_map, Finset.mem_univ, true_and]
  constructor
  · rintro ⟨k, hk, i, rfl⟩
    show 8 * i.val + k < 48
    omega
  · intro hj
    exact ⟨j % 8, by omega, ⟨j / 8, by omega⟩, show 8 * (j / 8) + j % 8 = j by omega⟩

/-- The 48 slabs, counted cell by cell. -/
theorem dlv_cells :
    (bigSep (Finset.range 8) (fun k => bigSep Finset.univ fun i : Fin 6 => Dlv c X M n hn f G (8 * i.val + k)) : sProp 𝕄)
      ⊢ bigSep (Finset.range 48) (Dlv c X M n hn f G) := by
  rw [← slabs_cover]
  refine .trans (bigSep_mono fun k _ => ?_) (bigSep_biUnion (Finset.range 8) (fun k => Finset.univ.map (slabOf k)))
  rw [bigSep_map]
  exact Entails.refl _

theorem wait_end (hN : 0 < slabN M g) :
    waitSt c X M g n hn f G 48 ⊢ |={Set.univ}=> iprop(sems0 c g ∗ (M.view.loc (c : Thread nD τ) ↦[M.view.set]{fullShare} G)
      ∗ (X.view.loc (c : Thread nD τ) ↦[imgSet c X n hn]{fullShare} f)) := by
  rw [← dlv_eq]
  refine .trans ?_ (fupd_mono (sep_mono_r (dlv_cells c X M n hn f G)))
  unfold waitSt sems0
  refine .trans ?_ (fupd_mono (Entails.of_eq (bigSep_sep' _ _ _)))
  refine (bigSep_mono fun k hk => ?_).trans (bigSep_fupd (Finset.range 8) _)
  rw [Finset.mem_range] at hk
  rw [show (48 + 7 - k) / 8 = 6 by omega, Nat.mul_comm]
  refine (Transfers.batch_collect' EC (c : Thread nD τ) hN).trans (fupd_mono ?_)
  iintro ⟨H1, H2⟩
  isplitl [H2]; · iexact H2
  iexact H1

theorem waitSt_zero : waitSt c X M g n hn f G 0 = flying c X M g n hn f G := by
  unfold waitSt flying
  refine bigSep_congr fun k hk => ?_
  rw [show (0 + 7 - k) / 8 = 0 by omega, Nat.zero_mul]

/-- All copies of an image waited for: the stage comes back filled, the image and the cells at zero with it. -/
theorem wait_all (hN : 0 < slabN M g) (W : Waits sig Unit) (Q : PUnit → sProp 𝕄) :
    iprop(flying c X M g n hn f G ∗ owes (c : Thread nD τ) 0 W
        ∗ (iprop(sems0 c g ∗ (M.view.loc (c : Thread nD τ) ↦[M.view.set]{fullShare} G)
            ∗ (X.view.loc (c : Thread nD τ) ↦[imgSet c X n hn]{fullShare} f) ∗ ∃ W', owes (c : Thread nD τ) 0 W') -∗ Q ⟨⟩))
      ⊢ wp frame (wpE (defs₀ (F := F)) Variants.none (c : Thread nD τ) none) Set.univ (waitFrom X M g n hn 48 0 rfl) Q := by
  iintro ⟨HS, HO, Hk⟩
  iapply wp_fupd
  iapply (wait_wp c X M g n hn f G _ 48 0 rfl W)
  rw [waitSt_zero]
  isplitl [HS]; · iexact HS
  isplitl [HO]; · iexact HO
  iintro ⟨HS, HO⟩
  imod (wait_end c X M g n hn f G hN) $$ HS with ⟨H1, H2, H3⟩
  imodintro
  iapply Hk
  isplitl [H1]; · iexact H1
  isplitl [H2]; · iexact H2
  isplitl [H3]; · iexact H3
  iexact HO

end Cert.KernelIdeal.Own

end
-- ==== Proof.K.Trips.lean ====
/- One trip of the projection loop: what half an image's rows of the projection are, as a function of the stage and the weights.
   The 48 slabs are read one after the other and their products summed in the order of the program. -/
module

public import proofs.«01_k».proof.Proof.K.Dma
public import Idealize.ShloMosaic.Lib.VecWindow
public import Idealize.ShloMosaic.Lib.WritesUnit
public import Idealize.ShloMosaic.Lib.Exec
public import Idealize.ShloMosaic.Lib.Pipeline.TableIdle

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [∀ e, Nonempty (Elt F e)]

local notation "𝕄" => MT nD τ sig Unit (Elt F) ℕ (Pipeline.UD sig nD τ) ℕ

/-- The place of a shape with the given coordinates (each taken modulo its extent). -/
def place (s : Shape) (h : ∀ a, 0 < s.size a) (v : Fin s.rank → ℕ) : s.Idx := fun a => ⟨v a % s.size a, Nat.mod_lt _ (h a)⟩

/-- Sixteen patch columns of slab `j` of a stage, from column `16 * k`. -/
def ldS (S : S48x32x32x16.Idx → Elt F .f32) (k j : ℕ) : Vec F S1x16x32x16 .f32 :=
  fun y => S (place S48x32x32x16 (by decide) ![j, 16 * k + (y 1).val, (y 2).val, (y 3).val])

/-- Sixteen rows of the weights, from row `16 * j`. -/
def ldW (W : S768x256.Idx → Elt F .f32) (j : ℕ) : Vec F S16x256 .f32 :=
  fun y => W (place S768x256 (by decide) ![16 * j + (y 0).val, (y 1).val])

theorem ldS_eq (M : Memref sig .tc .vmem S48x32x32x16 .f32) (S : S48x32x32x16.Idx → Elt F .f32) {off : Fin 4 → ℕ}
    (inb : ∀ a, off a + S1x16x32x16.size a ≤ S48x32x32x16.size a) (k j : ℕ) (h : off = ![j, 16 * k, 0, 0]) :
    M.view.readAt (Elt F) (Rect.unit (s := S48x32x32x16) off S1x16x32x16.size inb).toLoadRect (M.view.rep S) = ldS S k j := by
  subst h
  rw [View.readAt_rep_unit M.view S inb rfl inb]
  funext y
  unfold window ldS
  refine congrArg S (funext fun a => Fin.ext ?_)
  have i0 : j + 1 ≤ 48 := inb 0
  have i1 : 16 * k + 16 ≤ 32 := inb 1
  have y0 : (y 0).val < 1 := (y 0).isLt
  have y1 : (y 1).val < 16 := (y 1).isLt
  have y2 : (y 2).val < 32 := (y 2).isLt
  have y3 : (y 3).val < 16 := (y 3).isLt
  have e : ∀ a : Fin 4, ((Rect.unit (s := S48x32x32x16) ![j, 16 * k, 0, 0] S1x16x32x16.size inb).emb y a).val
      = (![j, 16 * k, 0, 0] : Fin 4 → ℕ) a + 1 * (y a).val := fun _ => rfl
  refine (e a).trans ?_
  fin_cases a
  · show j + 1 * (y 0).val = j % 48; omega
  · show 16 * k + 1 * (y 1).val = (16 * k + (y 1).val) % 32; omega
  · show 0 + 1 * (y 2).val = (y 2).val % 32; omega
  · show 0 + 1 * (y 3).val = (y 3).val % 16; omega

theorem ldW_eq (M : Memref sig .tc .vmem S768x256 .f32) (W : S768x256.Idx → Elt F .f32) {off : Fin 2 → ℕ}
    (inb : ∀ a, off a + S16x256.size a ≤ S768x256.size a) (j : ℕ) (h : off = ![16 * j, 0]) :
    M.view.readAt (Elt F) (Rect.unit (s := S768x256) off S16x256.size inb).toLoadRect (M.view.rep W) = ldW W j := by
  subst h
  rw [View.readAt_rep_unit M.view W inb rfl inb]
  funext y
  unfold window ldW
  refine congrArg W (funext fun a => Fin.ext ?_)
  have i0 : 16 * j + 16 ≤ 768 := inb 0
  have y0 : (y 0).val < 16 := (y 0).isLt
  have y1 : (y 1).val < 256 := (y 1).isLt
  have e : ∀ a : Fin 2, ((Rect.unit (s := S768x256) ![16 * j, 0] S16x256.size inb).emb y a).val
      = (![16 * j, 0] : Fin 2 → ℕ) a + 1 * (y a).val := fun _ => rfl
  refine (e a).trans ?_
  fin_cases a
  · show 16 * j + 1 * (y 0).val = (16 * j + (y 0).val) % 768; omega
  · show 0 + 1 * (y 1).val = (y 1).val % 256; omega

/-- The running sum over the 48 slabs, up to the last product, handed to `p`. -/
def zWith {α : Type} (p : FVec F S512x256 .f32 → FVec F S512x16 .f32 → FVec F S16x256 .f32 → Vec F S1x16x32x16 .f32 → Vec F S16x256 .f32 → α)
    (a : ℕ → Vec F S1x16x32x16 .f32) (w : ℕ → Vec F S16x256 .f32) : α :=
  have v67 := k0_pay28 (a 0) (w 0) (a 1) (w 1) (a 2) (w 2)
  have v74 := k0_pay29 (a 3) (w 3)
  have v107 := k0_pay30 v67 v74 (a 4) (w 4) (a 5) (w 5) (a 6) (w 6) (a 7) (w 7)
  have v139 := k0_pay31 v107 (a 8) (w 8) (a 9) (w 9) (a 10) (w 10) (a 11) (w 11)
  have v143 := k0_pay32 (a 12)
  have v171 := k0_pay33 v139 v143 (w 12) (a 13) (w 13) (a 14) (w 14) (a 15) (w 15)
  have v175 := k0_pay34 (a 16)
  have v177 := k0_pay35 (w 16)
  have v211 := k0_pay36 v171 v175 v177 (a 17) (w 17) (a 18) (w 18) (a 19) (w 19) (a 20) (w 20)
  have v243 := k0_pay37 v211 (a 21) (w 21) (a 22) (w 22) (a 23) (w 23) (a 24) (w 24)
  have v275 := k0_pay38 v243 (a 25) (w 25) (a 26) (w 26) (a 27) (w 27) (a 28) (w 28)
  have v279 := k0_pay39 (a 29)
  have v307 := k0_pay40 v275 v279 (w 29) (a 30) (w 30) (a 31) (w 31) (a 32) (w 32)
  have v314 := k0_pay41 (a 33) (w 33)
  have v347 := k0_pay42 v307 v314 (a 34) (w 34) (a 35) (w 35) (a 36) (w 36) (a 37) (w 37)
  have v379 := k0_pay43 v347 (a 38) (w 38) (a 39) (w 39) (a 40) (w 40) (a 41) (w 41)
  have v383 := k0_pay44 (a 42)
  have v411 := k0_pay45 v379 v383 (w 42) (a 43) (w 43) (a 44) (w 44) (a 45) (w 45)
  have v415 := k0_pay46 (a 46)
  have v417 := k0_pay47 (w 46)
  p v411 v415 v417 (a 47) (w 47)

/-- Half `k` of an image's rows of the projection, as it is stored in the result. -/
def zTile (S : S48x32x32x16.Idx → Elt F .f32) (W : S768x256.Idx → Elt F .f32) (k : ℕ) : FVec F S1x512x256 .f32 :=
  zWith k0_pay3 (ldS S k) (ldW W)
/-- The same rows times `-2`. -/
def zsTile (S : S48x32x32x16.Idx → Elt F .f32) (W : S768x256.Idx → Elt F .f32) (k : ℕ) : FVec F S512x256 .f32 :=
  zWith k0_pay4 (ldS S k) (ldW W)

variable (c : Dev nD) (i : grid0.Coords) (arg2 : Memref sig .tc .hbm S8x3x32x16x32x16 .f32) (harg2 : arg2.IsWhole) (arg3 : Memref sig .tc .vmem S768x256 .f32) (harg3 : arg3.IsWhole) (arg4 : Memref sig .tc .vmem S256x1024 .f32) (harg4 : arg4.IsWhole) (arg5 : Memref sig .tc .vmem S1x1024x1 .i32) (harg5 : arg5.IsWhole) (arg6 : Memref sig .tc .vmem S1x1024x256 .f32) (harg6 : arg6.IsWhole) (arg7 : Memref sig .tc .vmem S48x32x32x16 .f32) (harg7 : arg7.IsWhole) (arg8 : Memref sig .tc .vmem S48x32x32x16 .f32) (harg8 : arg8.IsWhole) (arg9 : Memref sig .tc .vmem S1024x256 .f32) (harg9 : arg9.IsWhole) (arg10 : Memref sig .tc .vmem S1x8192 .f32) (harg10 : arg10.IsWhole) (arg11 : Memref sig .tc .vmem S1024x128 .f32) (harg11 : arg11.IsWhole) (arg12 : Memref sig .tc .vmem S1024x128 .i32) (harg12 : arg12.IsWhole) (arg13 : DmaSems sig S8)

set_option maxHeartbeats 4000000 in
/-- One trip of the projection loop over stage 1. -/
theorem z_trip1 (h3 : k0_cond3 i = 1#1) (h6 : k0_cond6 i = 1#1) (k : Fin k0_t1_loop.trips)
    (W : S768x256.Idx → Elt F .f32) (S : S48x32x32x16.Idx → Elt F .f32) (x6 : S1x1024x256.Idx → Elt F .f32) (x9 : S1024x256.Idx → Elt F .f32) :
    iprop(owns (c : Thread nD τ) arg3 fullShare W ∗ owns (c : Thread nD τ) arg7 fullShare S
        ∗ owns (c : Thread nD τ) arg6 fullShare x6 ∗ owns (c : Thread nD τ) arg9 fullShare x9 : sProp 𝕄)
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 h3 h6 k ⟨⟩)
          (fun _ => iprop(owns (c : Thread nD τ) arg3 fullShare W ∗ owns (c : Thread nD τ) arg7 fullShare S
            ∗ owns (c : Thread nD τ) arg6 fullShare (put x6 ![0, 512 * k.val, 0] S1x512x256.size (zTile S W k.val))
            ∗ owns (c : Thread nD τ) arg9 fullShare (put x9 ![512 * k.val, 0] S512x256.size (zsTile S W k.val)))) := by
  have hk : k.val < 2 := Nat.lt_of_lt_of_le k.isLt k0_t1_abs.2.1
  have o0 : k0_off98 k = ![0, 16 * k.val, 0, 0] := (by decide : ∀ k : Fin k0_t1_loop.trips, k0_off98 k = ![0, 16 * k.val, 0, 0]) k
  have o1 : k0_off99 k = ![1, 16 * k.val, 0, 0] := (by decide : ∀ k : Fin k0_t1_loop.trips, k0_off99 k = ![1, 16 * k.val, 0, 0]) k
  have o2 : k0_off100 k = ![2, 16 * k.val, 0, 0] := (by decide : ∀ k : Fin k0_t1_loop.trips, k0_off100 k = ![2, 16 * k.val, 0, 0]) k
  have o3 : k0_off101 k = ![3, 16 * k.val, 0, 0] := (by decide : ∀ k : Fin k0_t1_loop.trips, k0_off101 k = ![3, 16 * k.val, 0, 0]) k
  have o4 : k0_off102 k = ![4, 16 * k.val, 0, 0] := (by decide : ∀ k : Fin k0_t1_loop.trips, k0_off102 k = ![4, 16 * k.val, 0, 0]) k
  have o5 : k0_off103 k = ![5, 16 * k.val, 0, 0] := (by decide : ∀ k : Fin k0_t1_loop.trips, k0_off103 k = ![5, 16 * k.val, 0, 0]) k
  have o6 : k0_off104 k = ![6, 16 * k.val, 0, 0] := (by decide : ∀ k : Fin k0_t1_loop.trips, k0_off104 k = ![6, 16 * k.val, 0, 0]) k
  have o7 : k0_off105 k = ![7, 16 * k.val, 0, 0] := (by decide : ∀ k : Fin k0_t1_loop.trips, k0_off105 k = ![7, 16 * k.val, 0, 0]) k
  have o8 : k0_off106 k = ![8, 16 * k.val, 0, 0] := (by decide : ∀ k : Fin k0_t1_loop.trips, k0_off106 k = ![8, 16 * k.val, 0, 0]) k
  have o9 : k0_off107 k = ![9, 16 * k.val, 0, 0] := (by decide : ∀ k : Fin k0_t1_loop.trips, k0_off107 k = ![9, 16 * k.val, 0, 0]) k
  have o10 : k0_off108 k = ![10, 16 * k.val, 0, 0] := (by decide : ∀ k : Fin k0_t1_loop.trips, k0_off108 k = ![10, 16 * k.val, 0, 0]) k
  have o11 : k0_off109 k = ![11, 16 * k.val, 0, 0] := (by decide : ∀ k : Fin k0_t1_loop.trips, k0_off109 k = ![11, 16 * k.val, 0, 0]) k
  have o12 : k0_off110 k = ![12, 16 * k.val, 0, 0] := (by decide : ∀ k : Fin k0_t1_loop.trips, k0_off110 k = ![12, 16 * k.val, 0, 0]) k
  have o13 : k0_off111 k = ![13, 16 * k.val, 0, 0] := (by decide : ∀ k : Fin k0_t1_loop.trips, k0_off111 k = ![13, 16 * k.val, 0, 0]) k
  have o14 : k0_off112 k = ![14, 16 * k.val, 0, 0] := (by decide : ∀ k : Fin k0_t1_loop.trips, k0_off112 k = ![14, 16 * k.val, 0, 0]) k
  have o15 : k0_off113 k = ![15, 16 * k.val, 0, 0] := (by decide : ∀ k : Fin k0_t1_loop.trips, k0_off113 k = ![15, 16 * k.val, 0, 0]) k
  have o16 : k0_off114 k = ![16, 16 * k.val, 0, 0] := (by decide : ∀ k : Fin k0_t1_loop.trips, k0_off114 k = ![16, 16 * k.val, 0, 0]) k
  have o17 : k0_off115 k = ![17, 16 * k.val, 0, 0] := (by decide : ∀ k : Fin k0_t1_loop.trips, k0_off115 k = ![17, 16 * k.val, 0, 0]) k
  have o18 : k0_off116 k = ![18, 16 * k.val, 0, 0] := (by decide : ∀ k : Fin k0_t1_loop.trips, k0_off116 k = ![18, 16 * k.val, 0, 0]) k
  have o19 : k0_off117 k = ![19, 16 * k.val, 0, 0] := (by decide : ∀ k : Fin k0_t1_loop.trips, k0_off117 k = ![19, 16 * k.val, 0, 0]) k
  have o20 : k0_off118 k = ![20, 16 * k.val, 0, 0] := (by decide : ∀ k : Fin k0_t1_loop.trips, k0_off118 k = ![20, 16 * k.val, 0, 0]) k
  have o21 : k0_off119 k = ![21, 16 * k.val, 0, 0] := (by decide : ∀ k : Fin k0_t1_loop.trips, k0_off119 k = ![21, 16 * k.val, 0, 0]) k
  have o22 : k0_off120 k = ![22, 16 * k.val, 0, 0] := (by decide : ∀ k : Fin k0_t1_loop.trips, k0_off120 k = ![22, 16 * k.val, 0, 0]) k
  have o23 : k0_off121 k = ![23, 16 * k.val, 0, 0] := (by decide : ∀ k : Fin k0_t1_loop.trips, k0_off121 k = ![23, 16 * k.val, 0, 0]) k
  have o24 : k0_off122 k = ![24, 16 * k.val, 0, 0] := (by decide : ∀ k : Fin k0_t1_loop.trips, k0_off122 k = ![24, 16 * k.val, 0, 0]) k
  have o25 : k0_off123 k = ![25, 16 * k.val, 0, 0] := (by decide : ∀ k : Fin k0_t1_loop.trips, k0_off123 k = ![25, 16 * k.val, 0, 0]) k
  have o26 : k0_off124 k = ![26, 16 * k.val, 0, 0] := (by decide : ∀ k : Fin k0_t1_loop.trips, k0_off124 k = ![26, 16 * k.val, 0, 0]) k
  have o27 : k0_off125 k = ![27, 16 * k.val, 0, 0] := (by decide : ∀ k : Fin k0_t1_loop.trips, k0_off125 k = ![27, 16 * k.val, 0, 0]) k
  have o28 : k0_off126 k = ![28, 16 * k.val, 0, 0] := (by decide : ∀ k : Fin k0_t1_loop.trips, k0_off126 k = ![28, 16 * k.val, 0, 0]) k
  have o29 : k0_off127 k = ![29, 16 * k.val, 0, 0] := (by decide : ∀ k : Fin k0_t1_loop.trips, k0_off127 k = ![29, 16 * k.val, 0, 0]) k
  have o30 : k0_off128 k = ![30, 16 * k.val, 0, 0] := (by decide : ∀ k : Fin k0_t1_loop.trips, k0_off128 k = ![30, 16 * k.val, 0, 0]) k
  have o31 : k0_off129 k = ![31, 16 * k.val, 0, 0] := (by decide : ∀ k : Fin k0_t1_loop.trips, k0_off129 k = ![31, 16 * k.val, 0, 0]) k
  have o32 : k0_off130 k = ![32, 16 * k.val, 0, 0] := (by decide : ∀ k : Fin k0_t1_loop.trips, k0_off130 k = ![32, 16 * k.val, 0, 0]) k
  have o33 : k0_off131 k = ![33, 16 * k.val, 0, 0] := (by decide : ∀ k : Fin k0_t1_loop.trips, k0_off131 k = ![33, 16 * k.val, 0, 0]) k
  have o34 : k0_off132 k = ![34, 16 * k.val, 0, 0] := (by decide : ∀ k : Fin k0_t1_loop.trips, k0_off132 k = ![34, 16 * k.val, 0, 0]) k
  have o35 : k0_off133 k = ![35, 16 * k.val, 0, 0] := (by decide : ∀ k : Fin k0_t1_loop.trips, k0_off133 k = ![35, 16 * k.val, 0, 0]) k
  have o36 : k0_off134 k = ![36, 16 * k.val, 0, 0] := (by decide : ∀ k : Fin k0_t1_loop.trips, k0_off134 k = ![36, 16 * k.val, 0, 0]) k
  have o37 : k0_off135 k = ![37, 16 * k.val, 0, 0] := (by decide : ∀ k : Fin k0_t1_loop.trips, k0_off135 k = ![37, 16 * k.val, 0, 0]) k
  have o38 : k0_off136 k = ![38, 16 * k.val, 0, 0] := (by decide : ∀ k : Fin k0_t1_loop.trips, k0_off136 k = ![38, 16 * k.val, 0, 0]) k
  have o39 : k0_off137 k = ![39, 16 * k.val, 0, 0] := (by decide : ∀ k : Fin k0_t1_loop.trips, k0_off137 k = ![39, 16 * k.val, 0, 0]) k
  have o40 : k0_off138 k = ![40, 16 * k.val, 0, 0] := (by decide : ∀ k : Fin k0_t1_loop.trips, k0_off138 k = ![40, 16 * k.val, 0, 0]) k
  have o41 : k0_off139 k = ![41, 16 * k.val, 0, 0] := (by decide : ∀ k : Fin k0_t1_loop.trips, k0_off139 k = ![41, 16 * k.val, 0, 0]) k
  have o42 : k0_off140 k = ![42, 16 * k.val, 0, 0] := (by decide : ∀ k : Fin k0_t1_loop.trips, k0_off140 k = ![42, 16 * k.val, 0, 0]) k
  have o43 : k0_off141 k = ![43, 16 * k.val, 0, 0] := (by decide : ∀ k : Fin k0_t1_loop.trips, k0_off141 k = ![43, 16 * k.val, 0, 0]) k
  have o44 : k0_off142 k = ![44, 16 * k.val, 0, 0] := (by decide : ∀ k : Fin k0_t1_loop.trips, k0_off142 k = ![44, 16 * k.val, 0, 0]) k
  have o45 : k0_off143 k = ![45, 16 * k.val, 0, 0] := (by decide : ∀ k : Fin k0_t1_loop.trips, k0_off143 k = ![45, 16 * k.val, 0, 0]) k
  have o46 : k0_off144 k = ![46, 16 * k.val, 0, 0] := (by decide : ∀ k : Fin k0_t1_loop.trips, k0_off144 k = ![46, 16 * k.val, 0, 0]) k
  have o47 : k0_off145 k = ![47, 16 * k.val, 0, 0] := (by decide : ∀ k : Fin k0_t1_loop.trips, k0_off145 k = ![47, 16 * k.val, 0, 0]) k
  have p6 : k0_off146 k = ![0, 512 * k.val, 0] := (by decide : ∀ k : Fin k0_t1_loop.trips, k0_off146 k = ![0, 512 * k.val, 0]) k
  have p9 : k0_off147 k = ![512 * k.val, 0] := (by decide : ∀ k : Fin k0_t1_loop.trips, k0_off147 k = ![512 * k.val, 0]) k
  rw [owns_eq_rep, owns_eq_rep, owns_eq_rep, owns_eq_rep]
  unfold k0_t1_body
  iintro ⟨H3, H7, H6, H9⟩
  sl_exec
  sl_step
  isplitl [H3]; · iexact H3
  isplitl [H7]; · iexact H7
  isplitl [H6]
  · unfold owns
    iexists _; isplitr; swap; · iexact H6
    ipureintro
    rw [View.read_writes_cons_put _ _ _ _ _ p6, View.writes_nil, View.read_rep]
    refine congrArg (put x6 ![0, 512 * k.val, 0] S1x512x256.size) ?_
    delta z_trip1.sl.r z_trip1.sl.r_1 z_trip1.sl.r_2 z_trip1.sl.r_3 z_trip1.sl.r_4 z_trip1.sl.r_5 z_trip1.sl.r_6 z_trip1.sl.r_7 z_trip1.sl.r_8 z_trip1.sl.r_9 z_trip1.sl.r_10 z_trip1.sl.r_11 z_trip1.sl.r_12 z_trip1.sl.r_13 z_trip1.sl.r_14 z_trip1.sl.r_15 z_trip1.sl.r_16 z_trip1.sl.r_17 z_trip1.sl.r_18 z_trip1.sl.r_19 z_trip1.sl.r_20
    simp only [ldS_eq arg7 S _ k.val 0 o0, ldS_eq arg7 S _ k.val 1 o1, ldS_eq arg7 S _ k.val 2 o2, ldS_eq arg7 S _ k.val 3 o3, ldS_eq arg7 S _ k.val 4 o4, ldS_eq arg7 S _ k.val 5 o5, ldS_eq arg7 S _ k.val 6 o6, ldS_eq arg7 S _ k.val 7 o7, ldS_eq arg7 S _ k.val 8 o8, ldS_eq arg7 S _ k.val 9 o9, ldS_eq arg7 S _ k.val 10 o10, ldS_eq arg7 S _ k.val 11 o11, ldS_eq arg7 S _ k.val 12 o12, ldS_eq arg7 S _ k.val 13 o13, ldS_eq arg7 S _ k.val 14 o14, ldS_eq arg7 S _ k.val 15 o15, ldS_eq arg7 S _ k.val 16 o16, ldS_eq arg7 S _ k.val 17 o17, ldS_eq arg7 S _ k.val 18 o18, ldS_eq arg7 S _ k.val 19 o19, ldS_eq arg7 S _ k.val 20 o20, ldS_eq arg7 S _ k.val 21 o21, ldS_eq arg7 S _ k.val 22 o22, ldS_eq arg7 S _ k.val 23 o23, ldS_eq arg7 S _ k.val 24 o24, ldS_eq arg7 S _ k.val 25 o25, ldS_eq arg7 S _ k.val 26 o26, ldS_eq arg7 S _ k.val 27 o27, ldS_eq arg7 S _ k.val 28 o28, ldS_eq arg7 S _ k.val 29 o29, ldS_eq arg7 S _ k.val 30 o30, ldS_eq arg7 S _ k.val 31 o31, ldS_eq arg7 S _ k.val 32 o32, ldS_eq arg7 S _ k.val 33 o33, ldS_eq arg7 S _ k.val 34 o34, ldS_eq arg7 S _ k.val 35 o35, ldS_eq arg7 S _ k.val 36 o36, ldS_eq arg7 S _ k.val 37 o37, ldS_eq arg7 S _ k.val 38 o38, ldS_eq arg7 S _ k.val 39 o39, ldS_eq arg7 S _ k.val 40 o40, ldS_eq arg7 S _ k.val 41 o41, ldS_eq arg7 S _ k.val 42 o42, ldS_eq arg7 S _ k.val 43 o43, ldS_eq arg7 S _ k.val 44 o44, ldS_eq arg7 S _ k.val 45 o45, ldS_eq arg7 S _ k.val 46 o46, ldS_eq arg7 S _ k.val 47 o47,
      ldW_eq arg3 W _ 0 rfl, ldW_eq arg3 W _ 1 rfl, ldW_eq arg3 W _ 2 rfl, ldW_eq arg3 W _ 3 rfl, ldW_eq arg3 W _ 4 rfl, ldW_eq arg3 W _ 5 rfl, ldW_eq arg3 W _ 6 rfl, ldW_eq arg3 W _ 7 rfl, ldW_eq arg3 W _ 8 rfl, ldW_eq arg3 W _ 9 rfl, ldW_eq arg3 W _ 10 rfl, ldW_eq arg3 W _ 11 rfl, ldW_eq arg3 W _ 12 rfl, ldW_eq arg3 W _ 13 rfl, ldW_eq arg3 W _ 14 rfl, ldW_eq arg3 W _ 15 rfl, ldW_eq arg3 W _ 16 rfl, ldW_eq arg3 W _ 17 rfl, ldW_eq arg3 W _ 18 rfl, ldW_eq arg3 W _ 19 rfl, ldW_eq arg3 W _ 20 rfl, ldW_eq arg3 W _ 21 rfl, ldW_eq arg3 W _ 22 rfl, ldW_eq arg3 W _ 23 rfl, ldW_eq arg3 W _ 24 rfl, ldW_eq arg3 W _ 25 rfl, ldW_eq arg3 W _ 26 rfl, ldW_eq arg3 W _ 27 rfl, ldW_eq arg3 W _ 28 rfl, ldW_eq arg3 W _ 29 rfl, ldW_eq arg3 W _ 30 rfl, ldW_eq arg3 W _ 31 rfl, ldW_eq arg3 W _ 32 rfl, ldW_eq arg3 W _ 33 rfl, ldW_eq arg3 W _ 34 rfl, ldW_eq arg3 W _ 35 rfl, ldW_eq arg3 W _ 36 rfl, ldW_eq arg3 W _ 37 rfl, ldW_eq arg3 W _ 38 rfl, ldW_eq arg3 W _ 39 rfl, ldW_eq arg3 W _ 40 rfl, ldW_eq arg3 W _ 41 rfl, ldW_eq arg3 W _ 42 rfl, ldW_eq arg3 W _ 43 rfl, ldW_eq arg3 W _ 44 rfl, ldW_eq arg3 W _ 45 rfl, ldW_eq arg3 W _ 46 rfl, ldW_eq arg3 W _ 47 rfl]
    rfl
  unfold owns
  iexists _; isplitr; swap; · iexact H9
  ipureintro
  rw [View.read_writes_cons_put _ _ _ _ _ p9, View.writes_nil, View.read_rep]
  refine congrArg (put x9 ![512 * k.val, 0] S512x256.size) ?_
  delta z_trip1.sl.r z_trip1.sl.r_1 z_trip1.sl.r_2 z_trip1.sl.r_3 z_trip1.sl.r_4 z_trip1.sl.r_5 z_trip1.sl.r_6 z_trip1.sl.r_7 z_trip1.sl.r_8 z_trip1.sl.r_9 z_trip1.sl.r_10 z_trip1.sl.r_11 z_trip1.sl.r_12 z_trip1.sl.r_13 z_trip1.sl.r_14 z_trip1.sl.r_15 z_trip1.sl.r_16 z_trip1.sl.r_17 z_trip1.sl.r_18 z_trip1.sl.r_19 z_trip1.sl.r_20
  simp only [ldS_eq arg7 S _ k.val 0 o0, ldS_eq arg7 S _ k.val 1 o1, ldS_eq arg7 S _ k.val 2 o2, ldS_eq arg7 S _ k.val 3 o3, ldS_eq arg7 S _ k.val 4 o4, ldS_eq arg7 S _ k.val 5 o5, ldS_eq arg7 S _ k.val 6 o6, ldS_eq arg7 S _ k.val 7 o7, ldS_eq arg7 S _ k.val 8 o8, ldS_eq arg7 S _ k.val 9 o9, ldS_eq arg7 S _ k.val 10 o10, ldS_eq arg7 S _ k.val 11 o11, ldS_eq arg7 S _ k.val 12 o12, ldS_eq arg7 S _ k.val 13 o13, ldS_eq arg7 S _ k.val 14 o14, ldS_eq arg7 S _ k.val 15 o15, ldS_eq arg7 S _ k.val 16 o16, ldS_eq arg7 S _ k.val 17 o17, ldS_eq arg7 S _ k.val 18 o18, ldS_eq arg7 S _ k.val 19 o19, ldS_eq arg7 S _ k.val 20 o20, ldS_eq arg7 S _ k.val 21 o21, ldS_eq arg7 S _ k.val 22 o22, ldS_eq arg7 S _ k.val 23 o23, ldS_eq arg7 S _ k.val 24 o24, ldS_eq arg7 S _ k.val 25 o25, ldS_eq arg7 S _ k.val 26 o26, ldS_eq arg7 S _ k.val 27 o27, ldS_eq arg7 S _ k.val 28 o28, ldS_eq arg7 S _ k.val 29 o29, ldS_eq arg7 S _ k.val 30 o30, ldS_eq arg7 S _ k.val 31 o31, ldS_eq arg7 S _ k.val 32 o32, ldS_eq arg7 S _ k.val 33 o33, ldS_eq arg7 S _ k.val 34 o34, ldS_eq arg7 S _ k.val 35 o35, ldS_eq arg7 S _ k.val 36 o36, ldS_eq arg7 S _ k.val 37 o37, ldS_eq arg7 S _ k.val 38 o38, ldS_eq arg7 S _ k.val 39 o39, ldS_eq arg7 S _ k.val 40 o40, ldS_eq arg7 S _ k.val 41 o41, ldS_eq arg7 S _ k.val 42 o42, ldS_eq arg7 S _ k.val 43 o43, ldS_eq arg7 S _ k.val 44 o44, ldS_eq arg7 S _ k.val 45 o45, ldS_eq arg7 S _ k.val 46 o46, ldS_eq arg7 S _ k.val 47 o47,
      ldW_eq arg3 W _ 0 rfl, ldW_eq arg3 W _ 1 rfl, ldW_eq arg3 W _ 2 rfl, ldW_eq arg3 W _ 3 rfl, ldW_eq arg3 W _ 4 rfl, ldW_eq arg3 W _ 5 rfl, ldW_eq arg3 W _ 6 rfl, ldW_eq arg3 W _ 7 rfl, ldW_eq arg3 W _ 8 rfl, ldW_eq arg3 W _ 9 rfl, ldW_eq arg3 W _ 10 rfl, ldW_eq arg3 W _ 11 rfl, ldW_eq arg3 W _ 12 rfl, ldW_eq arg3 W _ 13 rfl, ldW_eq arg3 W _ 14 rfl, ldW_eq arg3 W _ 15 rfl, ldW_eq arg3 W _ 16 rfl, ldW_eq arg3 W _ 17 rfl, ldW_eq arg3 W _ 18 rfl, ldW_eq arg3 W _ 19 rfl, ldW_eq arg3 W _ 20 rfl, ldW_eq arg3 W _ 21 rfl, ldW_eq arg3 W _ 22 rfl, ldW_eq arg3 W _ 23 rfl, ldW_eq arg3 W _ 24 rfl, ldW_eq arg3 W _ 25 rfl, ldW_eq arg3 W _ 26 rfl, ldW_eq arg3 W _ 27 rfl, ldW_eq arg3 W _ 28 rfl, ldW_eq arg3 W _ 29 rfl, ldW_eq arg3 W _ 30 rfl, ldW_eq arg3 W _ 31 rfl, ldW_eq arg3 W _ 32 rfl, ldW_eq arg3 W _ 33 rfl, ldW_eq arg3 W _ 34 rfl, ldW_eq arg3 W _ 35 rfl, ldW_eq arg3 W _ 36 rfl, ldW_eq arg3 W _ 37 rfl, ldW_eq arg3 W _ 38 rfl, ldW_eq arg3 W _ 39 rfl, ldW_eq arg3 W _ 40 rfl, ldW_eq arg3 W _ 41 rfl, ldW_eq arg3 W _ 42 rfl, ldW_eq arg3 W _ 43 rfl, ldW_eq arg3 W _ 44 rfl, ldW_eq arg3 W _ 45 rfl, ldW_eq arg3 W _ 46 rfl, ldW_eq arg3 W _ 47 rfl]
  rfl

set_option maxHeartbeats 4000000 in
/-- One trip of the projection loop over stage 2. -/
theorem z_trip2 (h7 : k0_cond7 i = 1#1) (h10 : k0_cond10 i = 1#1) (k : Fin k0_t2_loop.trips)
    (W : S768x256.Idx → Elt F .f32) (S : S48x32x32x16.Idx → Elt F .f32) (x6 : S1x1024x256.Idx → Elt F .f32) (x9 : S1024x256.Idx → Elt F .f32) :
    iprop(owns (c : Thread nD τ) arg3 fullShare W ∗ owns (c : Thread nD τ) arg8 fullShare S
        ∗ owns (c : Thread nD τ) arg6 fullShare x6 ∗ owns (c : Thread nD τ) arg9 fullShare x9 : sProp 𝕄)
      ⊢ wp frame (wpE (defs₀ (F := F)) Variants.none (c : Thread nD τ) none) Set.univ
          (k0_t2_body (F := F) i arg2 harg2 arg3 harg3 arg4 harg4 arg5 harg5 arg6 harg6 arg7 harg7 arg8 harg8 arg9 harg9 arg10 harg10 arg11 harg11 arg12 harg12 arg13 h7 h10 k ⟨⟩)
          (fun _ => iprop(owns (c : Thread nD τ) arg3 fullShare W ∗ owns (c : Thread nD τ) arg8 fullShare S
            ∗ owns (c : Thread nD τ) arg6 fullShare (put x6 ![0, 512 * k.val, 0] S1x512x256.size (zTile S W k.val))
            ∗ owns (c : Thread nD τ) arg9 fullShare (put x9 ![512 * k.val, 0] S512x256.size (zsTile S W k.val)))) := by
  have hk : k.val < 2 := Nat.lt_of_lt_of_le k.isLt k0_t2_abs.2.1
  have o0 : k0_off244 k = ![0, 16 * k.val, 0, 0] := (by decide : ∀ k : Fin k0_t2_loop.trips, k0_off244 k = ![0, 16 * k.val, 0, 0]) k
  have o1 : k0_off245 k = ![1, 16 * k.val, 0, 0] := (by decide : ∀ k : Fin k0_t2_loop.trips, k0_off245 k = ![1, 16 * k.val, 0, 0]) k
  have o2 : k0_off246 k = ![2, 16 * k.val, 0, 0] := (by decide : ∀ k : Fin k0_t2_loop.trips, k0_off246 k = ![2, 16 * k.val, 0, 0]) k
  have o3 : k0_off247 k = ![3, 16 * k.val, 0, 0] := (by decide : ∀ k : Fin k0_t2_loop.trips, k0_off247 k = ![3, 16 * k.val, 0, 0]) k
  have o4 : k0_off248 k = ![4, 16 * k.val, 0, 0] := (by decide : ∀ k : Fin k0_t2_loop.trips, k0_off248 k = ![4, 16 * k.val, 0, 0]) k
  have o5 : k0_off249 k = ![5, 16 * k.val, 0, 0] := (by decide : ∀ k : Fin k0_t2_loop.trips, k0_off249 k = ![5, 16 * k.val, 0, 0]) k
  have o6 : k0_off250 k = ![6, 16 * k.val, 0, 0] := (by decide : ∀ k : Fin k0_t2_loop.trips, k0_off250 k = ![6, 16 * k.val, 0, 0]) k
  have o7 : k0_off251 k = ![7, 16 * k.val, 0, 0] := (by decide : ∀ k : Fin k0_t2_loop.trips, k0_off251 k = ![7, 16 * k.val, 0, 0]) k
  have o8 : k0_off252 k = ![8, 16 * k.val, 0, 0] := (by decide : ∀ k : Fin k0_t2_loop.trips, k0_off252 k = ![8, 16 * k.val, 0, 0]) k
  have o9 : k0_off253 k = ![9, 16 * k.val, 0, 0] := (by decide : ∀ k : Fin k0_t2_loop.trips, k0_off253 k = ![9, 16 * k.val, 0, 0]) k
  have o10 : k0_off254 k = ![10, 16 * k.val, 0, 0] := (by decide : ∀ k : Fin k0_t2_loop.trips, k0_off254 k = ![10, 16 * k.val, 0, 0]) k
  have o11 : k0_off255 k = ![11, 16 * k.val, 0, 0] := (by decide : ∀ k : Fin k0_t2_loop.trips, k0_off255 k = ![11, 16 * k.val, 0, 0]) k
  have o12 : k0_off256 k = ![12, 16 * k.val, 0, 0] := (by decide : ∀ k : Fin k0_t2_loop.trips, k0_off256 k = ![12, 16 * k.val, 0, 0]) k
  have o13 : k0_off257 k = ![13, 16 * k.val, 0, 0] := (by decide : ∀ k : Fin k0_t2_loop.trips, k0_off257 k = ![13, 16 * k.val, 0, 0]) k
  have o14 : k0_off258 k = ![14, 16 * k.val, 0, 0] := (by decide : ∀ k : Fin k0_t2_loop.trips, k0_off258 k = ![14, 16 * k.val, 0, 0]) k
  have o15 : k0_off259 k = ![15, 16 * k.val, 0, 0] := (by decide : ∀ k : Fin k0_t2_loop.trips, k0_off259 k = ![15, 16 * k.val, 0, 0]) k
  have o16 : k0_off260 k = ![16, 16 * k.val, 0, 0] := (by decide : ∀ k : Fin k0_t2_loop.trips, k0_off260 k = ![16, 16 * k.val, 0, 0]) k
  have o17 : k0_off261 k = ![17, 16 * k.val, 0, 0] := (by decide : ∀ k : Fin k0_t2_loop.trips, k0_off261 k = ![17, 16 * k.val, 0, 0]) k
  have o18 : k0_off262 k = ![18, 16 * k.val, 0, 0] := (by decide : ∀ k : Fin k0_t2_loop.trips, k0_off262 k = ![18, 16 * k.val, 0, 0]) k
  have o19 : k0_off263 k = ![19, 16 * k.val, 0, 0] := (by decide : ∀ k : Fin k0_t2_loop.trips, k0_off263 k = ![19, 16 * k.val, 0, 0]) k
  have o20 : k0_off264 k = ![20, 16 * k.val, 0, 0] := (by decide : ∀ k : Fin k0_t2_loop.trips, k0_off264 k = ![20, 16 * k.val, 0, 0]) k
  have o21 : k0_off265 k = ![21, 16 * k.val, 0, 0] := (by decide : ∀ k : Fin k0_t2_loop.trips, k0_off265 k = ![21, 16 * k.val, 0, 0]) k
  have o22 : k0_off266 k = ![22, 16 * k.val, 0, 0] := (by decide : ∀ k : Fin k0_t2_loop.trips, k0_off266 k = ![22, 16 * k.val, 0, 0]) k
  have o23 : k0_off267 k = ![23, 16 * k.val, 0, 0] := (by decide : ∀ k : Fin k0_t2_loop.trips, k0_off267 k = ![23, 16 * k.val, 0, 0]) k
  have o24 : k0_off268 k = ![24, 16 * k.val, 0, 0] := (by decide : ∀ k : Fin k0_t2_loop.trips, k0_off268 k = ![24, 16 * k.val, 0, 0]) k
  have o25 : k0_off269 k = ![25, 16 * k.val, 0, 0] := (by decide : ∀ k : Fin k0_t2_loop.trips, k0_off269 k = ![25, 16 * k.val, 0, 0]) k
  have o26 : k0_off270 k = ![26, 16 * k.val, 0, 0] := (by decide : ∀ k : Fin k0_t2_loop.trips, k0_off270 k = ![26, 16 * k.val, 0, 0]) k
  have o27 : k0_off271 k = ![27, 16 * k.val, 0, 0] := (by decide : ∀ k : Fin k0_t2_loop.trips, k0_off271 k = ![27, 16 * k.val, 0, 0]) k
  have o28 : k0_off272 k = ![28, 16 * k.val, 0, 0] := (by decide : ∀ k : Fin k0_t2_loop.trips, k0_off272 k = ![28, 16 * k.val, 0, 0]) k
  have o29 : k0_off273 k = ![29, 16 * k.val, 0, 0] := (by decide : ∀ k : Fin k0_t2_loop.trips, k0_off273 k = ![29, 16 * k.val, 0, 0]) k
  have o30 : k0_off274 k = ![30, 16 * k.val, 0, 0] := (by decide : ∀ k : Fin k0_t2_loop.trips, k0_off274 k = ![30, 16 * k.val, 0, 0]) k
  have o31 : k0_off275 k = ![31, 16 * k.val, 0, 0] := (by decide : ∀ k : Fin k0_t2_loop.trips, k0_off275 k = ![31, 16 * k.val, 0, 0]) k
  have o32 : k0_off276 k = ![32, 16 * k.val, 0, 0] := (by decide : ∀ k : Fin k0_t2_loop.trips, k0_off276 k = ![32, 16 * k.val, 0, 0]) k
  have o33 : k0_off277 k = ![33, 16 * k.val, 0, 0] := (by decide : ∀ k : Fin k0_t2_loop.trips, k0_off277 k = ![33, 16 * k.val, 0, 0]) k
  have o34 : k0_off278 k = ![34, 16 * k.val, 0, 0] := (by decide : ∀ k : Fin k0_t2_loop.trips, k0_off278 k = ![34, 16 * k.val, 0, 0]) k
  have o35 : k0_off279 k = ![35, 16 * k.val, 0, 0] := (by decide : ∀ k : Fin k0_t2_loop.trips, k0_off279 k = ![35, 16 * k.val, 0, 0]) k
  have o36 : k0_off280 k = ![36, 16 * k.val, 0, 0] := (by decide : ∀ k : Fin k0_t2_loop.trips, k0_off280 k = ![36, 16 * k.val, 0, 0]) k
  have o37 : k0_off281 k = ![37, 16 * k.val, 0, 0] := (by decide : ∀ k : Fin k0_t2_loop.trips, k0_off281 k = ![37, 16 * k.val, 0, 0]) k
  have o38 : k0_off282 k = ![38, 16 * k.val, 0, 0] := (by decide : ∀ k : Fin k0_t2_loop.trips, k0_off282 k = ![38, 16 * k.val, 0, 0]) k
  have o39 : k0_off283 k = ![39, 16 * k.val, 0, 0] := (by decide : ∀ k : Fin k0_t2_loop.trips, k0_off283 k = ![39, 16 * k.val, 0, 0]) k
  have o40 : k0_off284 k = ![40, 16 * k.val, 0, 0] := (by decide : ∀ k : Fin k0_t2_loop.trips, k0_off284 k = ![40, 16 * k.val, 0, 0]) k
  have o41 : k0_off285 k = ![41, 16 * k.val, 0, 0] := (by decide : ∀ k : Fin k0_t2_loop.trips, k0_off285 k = ![41, 16 * k.val, 0, 0]) k
  have o42 : k0_off286 k = ![42, 16 * k.val, 0, 0] := (by decide : ∀ k : Fin k0_t2_loop.trips, k0_off286 k = ![42, 16 * k.val, 0, 0]) k
  have o43 : k0_off287 k = ![43, 16 * k.val, 0, 0] := (by decide : ∀ k : Fin k0_t2_loop.trips, k0_off287 k = ![43, 16 * k.val, 0, 0]) k
  have o44 : k0_off288 k = ![44, 16 * k.val, 0, 0] := (by decide : ∀ k : Fin k0_t2_loop.trips, k0_off288 k = ![44, 16 * k.val, 0, 0]) k
  have o45 : k0_off289 k = ![45, 16 * k.val, 0, 0] := (by decide : ∀ k : Fin k0_t2_loop.trips, k0_off289 k = ![45, 16 * k.val, 0, 0]) k
  have o46 : k0_off290 k = ![46, 16 * k.val, 0, 0] := (by decide : ∀ k : Fin k0_t2_loop.trips, k0_off290 k = ![46, 16 * k.val, 0, 0]) k
  have o47 : k0_off291 k = ![47, 16 * k.val, 0, 0] := (by decide : ∀ k : Fin k0_t2_loop.trips, k0_off291 k = ![47, 16 * k.val, 0, 0]) k
  have p6 : k0_off292 k = ![0, 512 * k.val, 0] := (by decide : ∀ k : Fin k0_t2_loop.trips, k0_off292 k = ![0, 512 * k.val, 0]) k
  have p9 : k0_off293 k = ![512 * k.val, 0] := (by decide : ∀ k : Fin k0_t2_loop.trips, k0_off293 k = ![512 * k.val, 0]) k
  rw [owns_eq_rep, owns_eq_rep, owns_eq_rep, owns_eq_rep]
  unfold k0_t2_body
  iintro ⟨H3, H7, H6, H9⟩
  sl_exec
  sl_step
  isplitl [H3]; · iexact H3
  isplitl [H7]; · iexact H7
  isplitl [H6]
  · unfold owns
    iexists _; isplitr; swap; · iexact H6
    ipureintro
    rw [View.read_writes_cons_put _ _ _ _ _ p6, View.writes_nil, View.read_rep]
    refine congrArg (put x6 ![0, 512 * k.val, 0] S1x512x256.size) ?_
    delta z_trip2.sl.r z_trip2.sl.r_1 z_trip2.sl.r_2 z_trip2.sl.r_3 z_trip2.sl.r_4 z_trip2.sl.r_5 z_trip2.sl.r_6 z_trip2.sl.r_7 z_trip2.sl.r_8 z_trip2.sl.r_9 z_trip2.sl.r_10 z_trip2.sl.r_11 z_trip2.sl.r_12 z_trip2.sl.r_13 z_trip2.sl.r_14 z_trip2.sl.r_15 z_trip2.sl.r_16 z_trip2.sl.r_17 z_trip2.sl.r_18 z_trip2.sl.r_19 z_trip2.sl.r_20
    simp only [ldS_eq arg8 S _ k.val 0 o0, ldS_eq arg8 S _ k.val 1 o1, ldS_eq arg8 S _ k.val 2 o2, ldS_eq arg8 S _ k.val 3 o3, ldS_eq arg8 S _ k.val 4 o4, ldS_eq arg8 S _ k.val 5 o5, ldS_eq arg8 S _ k.val 6 o6, ldS_eq arg8 S _ k.val 7 o7, ldS_eq arg8 S _ k.val 8 o8, ldS_eq arg8 S _ k.val 9 o9, ldS_eq arg8 S _ k.val 10 o10, ldS_eq arg8 S _ k.val 11 o11, ldS_eq arg8 S _ k.val 12 o12, ldS_eq arg8 S _ k.val 13 o13, ldS_eq arg8 S _ k.val 14 o14, ldS_eq arg8 S _ k.val 15 o15, ldS_eq arg8 S _ k.val 16 o16, ldS_eq arg8 S _ k.val 17 o17, ldS_eq arg8 S _ k.val 18 o18, ldS_eq arg8 S _ k.val 19 o19, ldS_eq arg8 S _ k.val 20 o20, ldS_eq arg8 S _ k.val 21 o21, ldS_eq arg8 S _ k.val 22 o22, ldS_eq arg8 S _ k.val 23 o23, ldS_eq arg8 S _ k.val 24 o24, ldS_eq arg8 S _ k.val 25 o25, ldS_eq arg8 S _ k.val 26 o26, ldS_eq arg8 S _ k.val 27 o27, ldS_eq arg8 S _ k.val 28 o28, ldS_eq arg8 S _ k.val 29 o29, ldS_eq arg8 S _ k.val 30 o30, ldS_eq arg8 S _ k.val 31 o31, ldS_eq arg8 S _ k.val 32 o32, ldS_eq arg8 S _ k.val 33 o33, ldS_eq arg8 S _ k.val 34 o34, ldS_eq arg8 S _ k.val 35 o35, ldS_eq arg8 S _ k.val 36 o36, ldS_eq arg8 S _ k.val 37 o37, ldS_eq arg8 S _ k.val 38 o38, ldS_eq arg8 S _ k.val 39 o39, ldS_eq arg8 S _ k.val 40 o40, ldS_eq arg8 S _ k.val 41 o41, ldS_eq arg8 S _ k.val 42 o42, ldS_eq arg8 S _ k.val 43 o43, ldS_eq arg8 S _ k.val 44 o44, ldS_eq arg8 S _ k.val 45 o45, ldS_eq arg8 S _ k.val 46 o46, ldS_eq arg8 S _ k.val 47 o47,
      ldW_eq arg3 W _ 0 rfl, ldW_eq arg3 W _ 1 rfl, ldW_eq arg3 W _ 2 rfl, ldW_eq arg3 W _ 3 rfl, ldW_eq arg3 W _ 4 rfl, ldW_eq arg3 W _ 5 rfl, ldW_eq arg3 W _ 6 rfl, ldW_eq arg3 W _ 7 rfl, ldW_eq arg3 W _ 8 rfl, ldW_eq arg3 W _ 9 rfl, ldW_eq arg3 W _ 10 rfl, ldW_eq arg3 W _ 11 rfl, ldW_eq arg3 W _ 12 rfl, ldW_eq arg3 W _ 13 rfl, ldW_eq arg3 W _ 14 rfl, ldW_eq arg3 W _ 15 rfl, ldW_eq arg3 W _ 16 rfl, ldW_eq arg3 W _ 17 rfl, ldW_eq arg3 W _ 18 rfl, ldW_eq arg3 W _ 19 rfl, ldW_eq arg3 W _ 20 rfl, ldW_eq arg3 W _ 21 rfl, ldW_eq arg3 W _ 22 rfl, ldW_eq arg3 W _ 23 rfl, ldW_eq arg3 W _ 24 rfl, ldW_eq arg3 W _ 25 rfl, ldW_eq arg3 W _ 26 rfl, ldW_eq arg3 W _ 27 rfl, ldW_eq arg3 W _ 28 rfl, ldW_eq arg3 W _ 29 rfl, ldW_eq arg3 W _ 30 rfl, ldW_eq arg3 W _ 31 rfl, ldW_eq arg3 W _ 32 rfl, ldW_eq arg3 W _ 33 rfl, ldW_eq arg3 W _ 34 rfl, ldW_eq arg3 W _ 35 rfl, ldW_eq arg3 W _ 36 rfl, ldW_eq arg3 W _ 37 rfl, ldW_eq arg3 W _ 38 rfl, ldW_eq arg3 W _ 39 rfl, ldW_eq arg3 W _ 40 rfl, ldW_eq arg3 W _ 41 rfl, ldW_eq arg3 W _ 42 rfl, ldW_eq arg3 W _ 43 rfl, ldW_eq arg3 W _ 44 rfl, ldW_eq arg3 W _ 45 rfl, ldW_eq arg3 W _ 46 rfl, ldW_eq arg3 W _ 47 rfl]
    rfl
  unfold owns
  iexists _; isplitr; swap; · iexact H9
  ipureintro
  rw [View.read_writes_cons_put _ _ _ _ _ p9, View.writes_nil, View.read_rep]
  refine congrArg (put x9 ![512 * k.val, 0] S512x256.size) ?_
  delta z_trip2.sl.r z_trip2.sl.r_1 z_trip2.sl.r_2 z_trip2.sl.r_3 z_trip2.sl.r_4 z_trip2.sl.r_5 z_trip2.sl.r_6 z_trip2.sl.r_7 z_trip2.sl.r_8 z_trip2.sl.r_9 z_trip2.sl.r_10 z_trip2.sl.r_11 z_trip2.sl.r_12 z_trip2.sl.r_13 z_trip2.sl.r_14 z_trip2.sl.r_15 z_trip2.sl.r_16 z_trip2.sl.r_17 z_trip2.sl.r_18 z_trip2.sl.r_19 z_trip2.sl.r_20
  simp only [ldS_eq arg8 S _ k.val 0 o0, ldS_eq arg8 S _ k.val 1 o1, ldS_eq arg8 S _ k.val 2 o2, ldS_eq arg8 S _ k.val 3 o3, ldS_eq arg8 S _ k.val 4 o4, ldS_eq arg8 S _ k.val 5 o5, ldS_eq arg8 S _ k.val 6 o6, ldS_eq arg8 S _ k.val 7 o7, ldS_eq arg8 S _ k.val 8 o8, ldS_eq arg8 S _ k.val 9 o9, ldS_eq arg8 S _ k.val 10 o10, ldS_eq arg8 S _ k.val 11 o11, ldS_eq arg8 S _ k.val 12 o12, ldS_eq arg8 S _ k.val 13 o13, ldS_eq arg8 S _ k.val 14 o14, ldS_eq arg8 S _ k.val 15 o15, ldS_eq arg8 S _ k.val 16 o16, ldS_eq arg8 S _ k.val 17 o17, ldS_eq arg8 S _ k.val 18 o18, ldS_eq arg8 S _ k.val 19 o19, ldS_eq arg8 S _ k.val 20 o20, ldS_eq arg8 S _ k.val 21 o21, ldS_eq arg8 S _ k.val 22 o22, ldS_eq arg8 S _ k.val 23 o23, ldS_eq arg8 S _ k.val 24 o24, ldS_eq arg8 S _ k.val 25 o25, ldS_eq arg8 S _ k.val 26 o26, ldS_eq arg8 S _ k.val 27 o27, ldS_eq arg8 S _ k.val 28 o28, ldS_eq arg8 S _ k.val 29 o29, ldS_eq arg8 S _ k.val 30 o30, ldS_eq arg8 S _ k.val 31 o31, ldS_eq arg8 S _ k.val 32 o32, ldS_eq arg8 S _ k.val 33 o33, ldS_eq arg8 S _ k.val 34 o34, ldS_eq arg8 S _ k.val 35 o35, ldS_eq arg8 S _ k.val 36 o36, ldS_eq arg8 S _ k.val 37 o37, ldS_eq arg8 S _ k.val 38 o38, ldS_eq arg8 S _ k.val 39 o39, ldS_eq arg8 S _ k.val 40 o40, ldS_eq arg8 S _ k.val 41 o41, ldS_eq arg8 S _ k.val 42 o42, ldS_eq arg8 S _ k.val 43 o43, ldS_eq arg8 S _ k.val 44 o44, ldS_eq arg8 S _ k.val 45 o45, ldS_eq arg8 S _ k.val 46 o46, ldS_eq arg8 S _ k.val 47 o47,
      ldW_eq arg3 W _ 0 rfl, ldW_eq arg3 W _ 1 rfl, ldW_eq arg3 W _ 2 rfl, ldW_eq arg3 W _ 3 rfl, ldW_eq arg3 W _ 4 rfl, ldW_eq arg3 W _ 5 rfl, ldW_eq arg3 W _ 6 rfl, ldW_eq arg3 W _ 7 rfl, ldW_eq arg3 W _ 8 rfl, ldW_eq arg3 W _ 9 rfl, ldW_eq arg3 W _ 10 rfl, ldW_eq arg3 W _ 11 rfl, ldW_eq arg3 W _ 12 rfl, ldW_eq arg3 W _ 13 rfl, ldW_eq arg3 W _ 14 rfl, ldW_eq arg3 W _ 15 rfl, ldW_eq arg3 W _ 16 rfl, ldW_eq arg3 W _ 17 rfl, ldW_eq arg3 W _ 18 rfl, ldW_eq arg3 W _ 19 rfl, ldW_eq arg3 W _ 20 rfl, ldW_eq arg3 W _ 21 rfl, ldW_eq arg3 W _ 22 rfl, ldW_eq arg3 W _ 23 rfl, ldW_eq arg3 W _ 24 rfl, ldW_eq arg3 W _ 25 rfl, ldW_eq arg3 W _ 26 rfl, ldW_eq arg3 W _ 27 rfl, ldW_eq arg3 W _ 28 rfl, ldW_eq arg3 W _ 29 rfl, ldW_eq arg3 W _ 30 rfl, ldW_eq arg3 W _ 31 rfl, ldW_eq arg3 W _ 32 rfl, ldW_eq arg3 W _ 33 rfl, ldW_eq arg3 W _ 34 rfl, ldW_eq arg3 W _ 35 rfl, ldW_eq arg3 W _ 36 rfl, ldW_eq arg3 W _ 37 rfl, ldW_eq arg3 W _ 38 rfl, ldW_eq arg3 W _ 39 rfl, ldW_eq arg3 W _ 40 rfl, ldW_eq arg3 W _ 41 rfl, ldW_eq arg3 W _ 42 rfl, ldW_eq arg3 W _ 43 rfl, ldW_eq arg3 W _ 44 rfl, ldW_eq arg3 W _ 45 rfl, ldW_eq arg3 W _ 46 rfl, ldW_eq arg3 W _ 47 rfl]
  rfl

end Cert.KernelIdeal.Own

end
-- ==== Proof.K.Search.lean ====
/- One trip of the search loop: what it makes of half the rows' running minimum and index, and, on the last tile, of their winners. -/
module

public import proofs.«01_k».proof.Proof.K.Trips

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [∀ e, Nonempty (Elt F e)]

local notation "𝕄" => MT nD τ sig Unit (Elt F) ℕ (Pipeline.UD sig nD τ) ℕ

/-- Half the rows of the scaled projection, from row `512 * k`. -/
def ldZ (Z : S1024x256.Idx → Elt F .f32) (k : ℕ) : Vec F S512x256 .f32 :=
  fun y => Z (place S1024x256 (by decide) ![512 * k + (y 0).val, (y 1).val])

/-- Half the rows of a running array, from row `512 * k`. -/
def ldV {e : EltTy} (V : S1024x128.Idx → Elt F e) (k : ℕ) : Vec F S512x128 e :=
  fun y => V (place S1024x128 (by decide) ![512 * k + (y 0).val, (y 1).val])

theorem ldZ_eq (M : Memref sig .tc .vmem S1024x256 .f32) (Z : S1024x256.Idx → Elt F .f32) {off : Fin 2 → ℕ}
    (inb : ∀ a, off a + S512x256.size a ≤ S1024x256.size a) (k : ℕ) (h : off = ![512 * k, 0]) :
    M.view.readAt (Elt F) (Rect.unit (s := S1024x256) off S512x256.size inb).toLoadRect (M.view.rep Z) = ldZ Z k := by
  subst h
  rw [View.readAt_rep_unit M.view Z inb rfl inb]
  funext y
  unfold window ldZ
  refine congrArg Z (funext fun a => Fin.ext ?_)
  have i0 : 512 * k + 512 ≤ 1024 := inb 0
  have y0 : (y 0).val < 512 := (y 0).isLt
  have y1 : (y 1).val < 256 := (y 1).isLt
  have e : ∀ a : Fin 2, ((Rect.unit (s := S1024x256) ![512 * k, 0] S512x256.size inb).emb y a).val
      = (![512 * k, 0] : Fin 2 → ℕ) a + 1 * (y a).val := fun _ => rfl
  refine (e a).trans ?_
  fin_cases a
  · show 512 * k + 1 * (y 0).val = (512 * k + (y 0).val) % 1024; omega
  · show 0 + 1 * (y 1).val = (y 1).val % 256; omega

theorem ldV_eq {e : EltTy} (M : Memref sig .tc .vmem S1024x128 e) (Z : S1024x128.Idx → Elt F e) {off : Fin 2 → ℕ}
    (inb : ∀ a, off a + S512x128.size a ≤ S1024x128.size a) (k : ℕ) (h : off = ![512 * k, 0]) :
    M.view.readAt (Elt F) (Rect.unit (s := S1024x128) off S512x128.size inb).toLoadRect (M.view.rep Z) = ldV Z k := by
  subst h
  rw [View.readAt_rep_unit M.view Z inb rfl inb]
  funext y
  unfold window ldV
  refine congrArg Z (funext fun a => Fin.ext ?_)
  have i0 : 512 * k + 512 ≤ 1024 := inb 0
  have y0 : (y 0).val < 512 := (y 0).isLt
  have y1 : (y 1).val < 128 := (y 1).isLt
  have e : ∀ a : Fin 2, ((Rect.unit (s := S1024x128) ![512 * k, 0] S512x128.size inb).emb y a).val
      = (![512 * k, 0] : Fin 2 → ℕ) a + 1 * (y a).val := fun _ => rfl
  refine (e a).trans ?_
  fin_cases a
  · show 512 * k + 1 * (y 0).val = (512 * k + (y 0).val) % 1024; omega
  · show 0 + 1 * (y 1).val = (y 1).val % 128; omega

/-- The distances of a row tile to a codebook tile. -/
def dT (C : Vec F S256x1024 .f32) (n : Vec F S1x1024 .f32) (z : Vec F S512x256 .f32) : FVec F S512x1024 .f32 := k0_pay68 (k0_pay12 C) n z

/-- The running minimum after a tile. -/
def vT (C : Vec F S256x1024 .f32) (n : Vec F S1x1024 .f32) (z : Vec F S512x256 .f32) (v : Vec F S512x128 .f32) : FVec F S512x128 .f32 :=
  k0_pay25 (dT C n z) (k0_pay80 (k0_pay12 C) n z v) (k0_pay82 (k0_pay12 C) n z)

/-- The running index after a tile. -/
def iT (i : grid0.Coords) (C : Vec F S256x1024 .f32) (n : Vec F S1x1024 .f32) (z : Vec F S512x256 .f32) (v : Vec F S512x128 .f32)
    (w : Vec F S512x128 .i32) : IVec S512x128 32 :=
  k0_pay26 i (dT C n z) (k0_pay80 (k0_pay12 C) n z v)
    (k0_pay81 (BitVec.ofNat 32 (i 1).val) (k0_pay12 C) n (iota .tc S512x128 32 [1] iota_S512x128_d1_w32) z v w)
    (k0_pay82 (k0_pay12 C) n z) (Scalar.muli (BitVec.ofNat 32 (i 1).val) 1024#32) 512#32

/-- The winners of a row tile, on the last codebook tile. -/
def oT (i : grid0.Coords) (C : Vec F S256x1024 .f32) (n : Vec F S1x1024 .f32) (z : Vec F S512x256 .f32) (v : Vec F S512x128 .f32)
    (w : Vec F S512x128 .i32) : IVec S1x512x1 32 :=
  k0_pay27 i (dT C n z) (k0_pay80 (k0_pay12 C) n z v)
    (k0_pay81 (BitVec.ofNat 32 (i 1).val) (k0_pay12 C) n (iota .tc S512x128 32 [1] iota_S512x128_d1_w32) z v w)
    (k0_pay82 (k0_pay12 C) n z) (Scalar.muli (BitVec.ofNat 32 (i 1).val) 1024#32) 512#32

section Main

variable (c : Dev nD) (i : grid0.Coords) (arg2 : Memref sig .tc .hbm S8x3x32x16x32x16 .f32) (harg2 : arg2.IsWhole) (arg3 : Memref sig .tc .vmem S768x256 .f32) (harg3 : arg3.IsWhole) (arg4 : Memref sig .tc .vmem S256x1024 .f32) (harg4 : arg4.IsWhole) (arg5 : Memref sig .tc .vmem S1x1024x1 .i32) (harg5 : arg5.IsWhole) (arg6 : Memref sig .tc .vmem S1x1024x256 .f32) (harg6 : arg6.IsWhole) (arg7 : Memref sig .tc .vmem S48x32x32x16 .f32) (harg7 : arg7.IsWhole) (arg8 : Memref sig .tc .vmem S48x32x32x16 .f32) (harg8 : arg8.IsWhole) (arg9 : Memref sig .tc .vmem S1024x256 .f32) (harg9 : arg9.IsWhole) (arg10 : Memref sig .tc .vmem S1x8192 .f32) (harg10 : arg10.IsWhole) (arg11 : Memref sig .tc .vmem S1024x128 .f32) (harg11 : arg11.IsWhole) (arg12 : Memref sig .tc .vmem S1024x128 .i32) (harg12 : arg12.IsWhole) (arg13 : DmaSems sig S8)

set_option maxHeartbeats 4000000 in
/-- One trip of the search loop before the last tile. -/
theorem m_trip (h11 : ¬ k0_cond11 i = 1#1) (k : Fin k0_t3_loop.trips) (C : Vec F S256x1024 .f32) (n : Vec F S1x1024 .f32)
    (Z : S1024x256.Idx → Elt F .f32) (V : S1024x128.Idx → Elt F .f32) (I : S1024x128.Idx → Elt F .i32) :
    iprop(owns (c : Thread nD τ) arg9 fullShare Z
        ∗ owns (c : Thread nD τ) arg11 fullShare V ∗ owns (c : Thread nD τ) arg12 fullShare I : sProp 𝕄)
      ⊢ wp frame (wpE (defs₀ (F := F)) Variants.none (c : Thread nD τ) none) Set.univ
          (k0_t3_body (F := F) i arg2 harg2 arg3 harg3 arg4 harg4 arg5 harg5 arg6 harg6 arg7 harg7 arg8 harg8 arg9 harg9 arg10 harg10 arg11 harg11 arg12 harg12 arg13 (BitVec.ofNat 32 (i 1).val) C n (iota .tc S512x128 32 [1] iota_S512x128_d1_w32) k ⟨⟩)
          (fun _ => iprop(owns (c : Thread nD τ) arg9 fullShare Z
            ∗ owns (c : Thread nD τ) arg11 fullShare (put V ![512 * k.val, 0] S512x128.size (vT C n (ldZ Z k.val) (ldV V k.val)))
            ∗ owns (c : Thread nD τ) arg12 fullShare (put I ![512 * k.val, 0] S512x128.size (iT i C n (ldZ Z k.val) (ldV V k.val) (ldV I k.val))))) := by
  have oz : k0_off295 k = ![512 * k.val, 0] := (by decide : ∀ k : Fin k0_t3_loop.trips, k0_off295 k = ![512 * k.val, 0]) k
  have ov : k0_off296 k = ![512 * k.val, 0] := (by decide : ∀ k : Fin k0_t3_loop.trips, k0_off296 k = ![512 * k.val, 0]) k
  have oo : k0_off297 k = ![0, 512 * k.val, 0] := (by decide : ∀ k : Fin k0_t3_loop.trips, k0_off297 k = ![0, 512 * k.val, 0]) k
  rw [owns_eq_rep, owns_eq_rep, owns_eq_rep]
  unfold k0_t3_body
  simp only [k0_part89_eq_skeleton, dif_neg h11]
  unfold k0_part89_skel
  iintro ⟨H9, H11, H12⟩
  sl_exec
  sl_step
  isplitl [H9]; · iexact H9
  isplitl [H11]
  · unfold owns
    iexists _; isplitr; swap; · iexact H11
    ipureintro
    rw [View.read_writes_cons_put _ _ _ _ _ ov, View.writes_nil, View.read_rep]
    refine congrArg (put V ![512 * k.val, 0] S512x128.size) ?_
    skip
    simp only [ldZ_eq arg9 Z _ k.val oz, ldV_eq arg11 V _ k.val ov, ldV_eq arg12 I _ k.val ov]
    rfl
  unfold owns
  iexists _; isplitr; swap; · iexact H12
  ipureintro
  rw [View.read_writes_cons_put _ _ _ _ _ ov, View.writes_nil, View.read_rep]
  refine congrArg (put I ![512 * k.val, 0] S512x128.size) ?_
  skip
  simp only [ldZ_eq arg9 Z _ k.val oz, ldV_eq arg11 V _ k.val ov, ldV_eq arg12 I _ k.val ov]
  rfl

set_option maxHeartbeats 4000000 in
/-- One trip of the search loop on the last tile. -/
theorem m_trip_last (h11 : k0_cond11 i = 1#1) (k : Fin k0_t3_loop.trips) (C : Vec F S256x1024 .f32) (n : Vec F S1x1024 .f32)
    (Z : S1024x256.Idx → Elt F .f32) (V : S1024x128.Idx → Elt F .f32) (I : S1024x128.Idx → Elt F .i32) (x5 : S1x1024x1.Idx → Elt F .i32) :
    iprop(owns (c : Thread nD τ) arg5 fullShare x5 ∗ owns (c : Thread nD τ) arg9 fullShare Z
        ∗ owns (c : Thread nD τ) arg11 fullShare V ∗ owns (c : Thread nD τ) arg12 fullShare I : sProp 𝕄)
      ⊢ wp frame (wpE (defs₀ (F := F)) Variants.none (c : Thread nD τ) none) Set.univ
          (k0_t3_body (F := F) i arg2 harg2 arg3 harg3 arg4 harg4 arg5 harg5 arg6 harg6 arg7 harg7 arg8 harg8 arg9 harg9 arg10 harg10 arg11 harg11 arg12 harg12 arg13 (BitVec.ofNat 32 (i 1).val) C n (iota .tc S512x128 32 [1] iota_S512x128_d1_w32) k ⟨⟩)
          (fun _ => iprop(owns (c : Thread nD τ) arg5 fullShare (put x5 ![0, 512 * k.val, 0] S1x512x1.size (oT i C n (ldZ Z k.val) (ldV V k.val) (ldV I k.val))) ∗ owns (c : Thread nD τ) arg9 fullShare Z
            ∗ owns (c : Thread nD τ) arg11 fullShare (put V ![512 * k.val, 0] S512x128.size (vT C n (ldZ Z k.val) (ldV V k.val)))
            ∗ owns (c : Thread nD τ) arg12 fullShare (put I ![512 * k.val, 0] S512x128.size (iT i C n (ldZ Z k.val) (ldV V k.val) (ldV I k.val))))) := by
  have oz : k0_off295 k = ![512 * k.val, 0] := (by decide : ∀ k : Fin k0_t3_loop.trips, k0_off295 k = ![512 * k.val, 0]) k
  have ov : k0_off296 k = ![512 * k.val, 0] := (by decide : ∀ k : Fin k0_t3_loop.trips, k0_off296 k = ![512 * k.val, 0]) k
  have oo : k0_off297 k = ![0, 512 * k.val, 0] := (by decide : ∀ k : Fin k0_t3_loop.trips, k0_off297 k = ![0, 512 * k.val, 0]) k
  rw [owns_eq_rep, owns_eq_rep, owns_eq_rep, owns_eq_rep]
  unfold k0_t3_body
  simp only [k0_part89_eq_skeleton, dif_pos h11]
  unfold k0_part89_skel
  iintro ⟨H5, H9, H11, H12⟩
  sl_exec
  sl_step
  isplitl [H5]
  · unfold owns
    iexists _; isplitr; swap; · iexact H5
    ipureintro
    rw [View.read_writes_cons_put _ _ _ _ _ oo, View.writes_nil, View.read_rep]
    refine congrArg (put x5 ![0, 512 * k.val, 0] S1x512x1.size) ?_
    skip
    simp only [ldZ_eq arg9 Z _ k.val oz, ldV_eq arg11 V _ k.val ov, ldV_eq arg12 I _ k.val ov]
    rfl
  isplitl [H9]; · iexact H9
  isplitl [H11]
  · unfold owns
    iexists _; isplitr; swap; · iexact H11
    ipureintro
    rw [View.read_writes_cons_put _ _ _ _ _ ov, View.writes_nil, View.read_rep]
    refine congrArg (put V ![512 * k.val, 0] S512x128.size) ?_
    skip
    simp only [ldZ_eq arg9 Z _ k.val oz, ldV_eq arg11 V _ k.val ov, ldV_eq arg12 I _ k.val ov]
    rfl
  unfold owns
  iexists _; isplitr; swap; · iexact H12
  ipureintro
  rw [View.read_writes_cons_put _ _ _ _ _ ov, View.writes_nil, View.read_rep]
  refine congrArg (put I ![512 * k.val, 0] S512x128.size) ?_
  skip
  simp only [ldZ_eq arg9 Z _ k.val oz, ldV_eq arg11 V _ k.val ov, ldV_eq arg12 I _ k.val ov]
  rfl

end Main

end Cert.KernelIdeal.Own
-- ==== Proof.K.Halves.lean ====
/- The two trips of a loop together: what they make of an image's rows, as whole arrays. -/
module

public import proofs.«01_k».proof.Proof.K.Search

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [∀ e, Nonempty (Elt F e)]

local notation "𝕄" => MT nD τ sig Unit (Elt F) ℕ (Pipeline.UD sig nD τ) ℕ

/-- Two windows that together cover an array determine it. -/
theorem put_two {s : Shape} {α : Type} (x : s.Idx → α) (o0 o1 size : Fin s.rank → ℕ) (w0 w1 : ((a : Fin s.rank) → Fin (size a)) → α)
    (f : s.Idx → α)
    (h0 : ∀ (y : s.Idx) (h : ∀ a, o0 a ≤ (y a).val ∧ (y a).val < o0 a + size a), w0 (Rect.unitLocal (s := s) (off := o0) (size := size) y h) = f y)
    (h1 : ∀ (y : s.Idx) (h : ∀ a, o1 a ≤ (y a).val ∧ (y a).val < o1 a + size a), w1 (Rect.unitLocal (s := s) (off := o1) (size := size) y h) = f y)
    (hc : ∀ y : s.Idx, (∀ a, o0 a ≤ (y a).val ∧ (y a).val < o0 a + size a) ∨ (∀ a, o1 a ≤ (y a).val ∧ (y a).val < o1 a + size a)) :
    put (put x o0 size w0) o1 size w1 = f := by
  funext y
  unfold put
  by_cases c1 : ∀ a, o1 a ≤ (y a).val ∧ (y a).val < o1 a + size a
  · rw [dif_pos c1]; exact h1 y c1
  · rw [dif_neg c1]
    have c0 := (hc y).resolve_right c1
    rw [dif_pos c0]; exact h0 y c0

/-- Two halves as one array. -/
def rowsE (A : ℕ → Vec F S1x512x256 .f32) : S1x1024x256.Idx → Elt F .f32 :=
  fun y => A ((y 1).val / 512) (place S1x512x256 (by decide) ![(y 0).val, (y 1).val % 512, (y 2).val])

theorem rowsE_put (x : S1x1024x256.Idx → Elt F .f32) (A : ℕ → Vec F S1x512x256 .f32) :
    put (put x ![0, 512 * 0, 0] S1x512x256.size (A 0)) ![0, 512 * 1, 0] S1x512x256.size (A 1) = rowsE A := by
  refine put_two x _ _ _ _ _ _ (fun y h => ?_) (fun y h => ?_) (fun y => ?_)
  · have h0 : (512 * 0 : ℕ) ≤ (y 1).val ∧ (y 1).val < 512 * 0 + 512 := h 1
    have e : (y 1).val / 512 = 0 := by omega
    unfold rowsE
    rw [e]
    refine congrArg (A 0) (funext fun a => Fin.ext ?_)
    rw [Rect.unitLocal_val]
    fin_cases a
    · have := (y 0).isLt
      show (y 0).val - 0 = (y 0).val % 1; have : (y 0).val < 1 := (y 0).isLt; omega
    · show (y 1).val - 512 * 0 = (y 1).val % 512 % 512; omega
    · have := (y 2).isLt
      show (y 2).val - 0 = (y 2).val % 256; have : (y 2).val < 256 := (y 2).isLt; omega
  · have h0 : (512 * 1 : ℕ) ≤ (y 1).val ∧ (y 1).val < 512 * 1 + 512 := h 1
    have e : (y 1).val / 512 = 1 := by omega
    unfold rowsE
    rw [e]
    refine congrArg (A 1) (funext fun a => Fin.ext ?_)
    rw [Rect.unitLocal_val]
    fin_cases a
    · have := (y 0).isLt
      show (y 0).val - 0 = (y 0).val % 1; have : (y 0).val < 1 := (y 0).isLt; omega
    · show (y 1).val - 512 * 1 = (y 1).val % 512 % 512; omega
    · have := (y 2).isLt
      show (y 2).val - 0 = (y 2).val % 256; have : (y 2).val < 256 := (y 2).isLt; omega
  · have y0 : (y 1).val < 1024 := (y 1).isLt
    rcases Nat.lt_or_ge (y 1).val 512 with hl | hl
    · refine Or.inl fun a => ?_
      fin_cases a
      · show 0 ≤ (y 0).val ∧ (y 0).val < 0 + 1; have : (y 0).val < 1 := (y 0).isLt; omega
      · show 512 * 0 ≤ (y 1).val ∧ (y 1).val < 512 * 0 + 512; omega
      · show 0 ≤ (y 2).val ∧ (y 2).val < 0 + 256; have : (y 2).val < 256 := (y 2).isLt; omega
    · refine Or.inr fun a => ?_
      fin_cases a
      · show 0 ≤ (y 0).val ∧ (y 0).val < 0 + 1; have : (y 0).val < 1 := (y 0).isLt; omega
      · show 512 * 1 ≤ (y 1).val ∧ (y 1).val < 512 * 1 + 512; omega
      · show 0 ≤ (y 2).val ∧ (y 2).val < 0 + 256; have : (y 2).val < 256 := (y 2).isLt; omega

/-- Two halves as one array. -/
def rowsZ (A : ℕ → Vec F S512x256 .f32) : S1024x256.Idx → Elt F .f32 :=
  fun y => A ((y 0).val / 512) (place S512x256 (by decide) ![(y 0).val % 512, (y 1).val])

theorem rowsZ_put (x : S1024x256.Idx → Elt F .f32) (A : ℕ → Vec F S512x256 .f32) :
    put (put x ![512 * 0, 0] S512x256.size (A 0)) ![512 * 1, 0] S512x256.size (A 1) = rowsZ A := by
  refine put_two x _ _ _ _ _ _ (fun y h => ?_) (fun y h => ?_) (fun y => ?_)
  · have h0 : (512 * 0 : ℕ) ≤ (y 0).val ∧ (y 0).val < 512 * 0 + 512 := h 0
    have e : (y 0).val / 512 = 0 := by omega
    unfold rowsZ
    rw [e]
    refine congrArg (A 0) (funext fun a => Fin.ext ?_)
    rw [Rect.unitLocal_val]
    fin_cases a
    · show (y 0).val - 512 * 0 = (y 0).val % 512 % 512; omega
    · have := (y 1).isLt
      show (y 1).val - 0 = (y 1).val % 256; have : (y 1).val < 256 := (y 1).isLt; omega
  · have h0 : (512 * 1 : ℕ) ≤ (y 0).val ∧ (y 0).val < 512 * 1 + 512 := h 0
    have e : (y 0).val / 512 = 1 := by omega
    unfold rowsZ
    rw [e]
    refine congrArg (A 1) (funext fun a => Fin.ext ?_)
    rw [Rect.unitLocal_val]
    fin_cases a
    · show (y 0).val - 512 * 1 = (y 0).val % 512 % 512; omega
    · have := (y 1).isLt
      show (y 1).val - 0 = (y 1).val % 256; have : (y 1).val < 256 := (y 1).isLt; omega
  · have y0 : (y 0).val < 1024 := (y 0).isLt
    rcases Nat.lt_or_ge (y 0).val 512 with hl | hl
    · refine Or.inl fun a => ?_
      fin_cases a
      · show 512 * 0 ≤ (y 0).val ∧ (y 0).val < 512 * 0 + 512; omega
      · show 0 ≤ (y 1).val ∧ (y 1).val < 0 + 256; have : (y 1).val < 256 := (y 1).isLt; omega
    · refine Or.inr fun a => ?_
      fin_cases a
      · show 512 * 1 ≤ (y 0).val ∧ (y 0).val < 512 * 1 + 512; omega
      · show 0 ≤ (y 1).val ∧ (y 1).val < 0 + 256; have : (y 1).val < 256 := (y 1).isLt; omega

/-- Two halves as one array. -/
def rowsV {e : EltTy} (A : ℕ → Vec F S512x128 e) : S1024x128.Idx → Elt F e :=
  fun y => A ((y 0).val / 512) (place S512x128 (by decide) ![(y 0).val % 512, (y 1).val])

theorem rowsV_put {e : EltTy} (x : S1024x128.Idx → Elt F e) (A : ℕ → Vec F S512x128 e) :
    put (put x ![512 * 0, 0] S512x128.size (A 0)) ![512 * 1, 0] S512x128.size (A 1) = rowsV A := by
  refine put_two x _ _ _ _ _ _ (fun y h => ?_) (fun y h => ?_) (fun y => ?_)
  · have h0 : (512 * 0 : ℕ) ≤ (y 0).val ∧ (y 0).val < 512 * 0 + 512 := h 0
    have e : (y 0).val / 512 = 0 := by omega
    unfold rowsV
    rw [e]
    refine congrArg (A 0) (funext fun a => Fin.ext ?_)
    rw [Rect.unitLocal_val]
    fin_cases a
    · show (y 0).val - 512 * 0 = (y 0).val % 512 % 512; omega
    · have := (y 1).isLt
      show (y 1).val - 0 = (y 1).val % 128; have : (y 1).val < 128 := (y 1).isLt; omega
  · have h0 : (512 * 1 : ℕ) ≤ (y 0).val ∧ (y 0).val < 512 * 1 + 512 := h 0
    have e : (y 0).val / 512 = 1 := by omega
    unfold rowsV
    rw [e]
    refine congrArg (A 1) (funext fun a => Fin.ext ?_)
    rw [Rect.unitLocal_val]
    fin_cases a
    · show (y 0).val - 512 * 1 = (y 0).val % 512 % 512; omega
    · have := (y 1).isLt
      show (y 1).val - 0 = (y 1).val % 128; have : (y 1).val < 128 := (y 1).isLt; omega
  · have y0 : (y 0).val < 1024 := (y 0).isLt
    rcases Nat.lt_or_ge (y 0).val 512 with hl | hl
    · refine Or.inl fun a => ?_
      fin_cases a
      · show 512 * 0 ≤ (y 0).val ∧ (y 0).val < 512 * 0 + 512; omega
      · show 0 ≤ (y 1).val ∧ (y 1).val < 0 + 128; have : (y 1).val < 128 := (y 1).isLt; omega
    · refine Or.inr fun a => ?_
      fin_cases a
      · show 512 * 1 ≤ (y 0).val ∧ (y 0).val < 512 * 1 + 512; omega
      · show 0 ≤ (y 1).val ∧ (y 1).val < 0 + 128; have : (y 1).val < 128 := (y 1).isLt; omega

/-- Two halves as one array. -/
def rowsO (A : ℕ → Vec F S1x512x1 .i32) : S1x1024x1.Idx → Elt F .i32 :=
  fun y => A ((y 1).val / 512) (place S1x512x1 (by decide) ![(y 0).val, (y 1).val % 512, (y 2).val])

theorem rowsO_put (x : S1x1024x1.Idx → Elt F .i32) (A : ℕ → Vec F S1x512x1 .i32) :
    put (put x ![0, 512 * 0, 0] S1x512x1.size (A 0)) ![0, 512 * 1, 0] S1x512x1.size (A 1) = rowsO A := by
  refine put_two x _ _ _ _ _ _ (fun y h => ?_) (fun y h => ?_) (fun y => ?_)
  · have h0 : (512 * 0 : ℕ) ≤ (y 1).val ∧ (y 1).val < 512 * 0 + 512 := h 1
    have e : (y 1).val / 512 = 0 := by omega
    unfold rowsO
    rw [e]
    refine congrArg (A 0) (funext fun a => Fin.ext ?_)
    rw [Rect.unitLocal_val]
    fin_cases a
    · have := (y 0).isLt
      show (y 0).val - 0 = (y 0).val % 1; have : (y 0).val < 1 := (y 0).isLt; omega
    · show (y 1).val - 512 * 0 = (y 1).val % 512 % 512; omega
    · have := (y 2).isLt
      show (y 2).val - 0 = (y 2).val % 1; have : (y 2).val < 1 := (y 2).isLt; omega
  · have h0 : (512 * 1 : ℕ) ≤ (y 1).val ∧ (y 1).val < 512 * 1 + 512 := h 1
    have e : (y 1).val / 512 = 1 := by omega
    unfold rowsO
    rw [e]
    refine congrArg (A 1) (funext fun a => Fin.ext ?_)
    rw [Rect.unitLocal_val]
    fin_cases a
    · have := (y 0).isLt
      show (y 0).val - 0 = (y 0).val % 1; have : (y 0).val < 1 := (y 0).isLt; omega
    · show (y 1).val - 512 * 1 = (y 1).val % 512 % 512; omega
    · have := (y 2).isLt
      show (y 2).val - 0 = (y 2).val % 1; have : (y 2).val < 1 := (y 2).isLt; omega
  · have y0 : (y 1).val < 1024 := (y 1).isLt
    rcases Nat.lt_or_ge (y 1).val 512 with hl | hl
    · refine Or.inl fun a => ?_
      fin_cases a
      · show 0 ≤ (y 0).val ∧ (y 0).val < 0 + 1; have : (y 0).val < 1 := (y 0).isLt; omega
      · show 512 * 0 ≤ (y 1).val ∧ (y 1).val < 512 * 0 + 512; omega
      · show 0 ≤ (y 2).val ∧ (y 2).val < 0 + 1; have : (y 2).val < 1 := (y 2).isLt; omega
    · refine Or.inr fun a => ?_
      fin_cases a
      · show 0 ≤ (y 0).val ∧ (y 0).val < 0 + 1; have : (y 0).val < 1 := (y 0).isLt; omega
      · show 512 * 1 ≤ (y 1).val ∧ (y 1).val < 512 * 1 + 512; omega
      · show 0 ≤ (y 2).val ∧ (y 2).val < 0 + 1; have : (y 2).val < 1 := (y 2).isLt; omega

/-- The second half does not see what was put into the first. -/
theorem ldV_put {e : EltTy} (V : S1024x128.Idx → Elt F e) (A : Vec F S512x128 e) :
    ldV (put V ![512 * 0, 0] S512x128.size A) 1 = ldV V 1 := by
  funext y
  unfold ldV put
  rw [dif_neg]
  intro h
  have h0 : (512 * 0 : ℕ) ≤ (512 * 1 + (y 0).val) % 1024 ∧ (512 * 1 + (y 0).val) % 1024 < 512 * 0 + 512 := h 0
  have y0 : (y 0).val < 512 := (y 0).isLt
  omega

/-- An image's projection. -/
def zAll (S : S48x32x32x16.Idx → Elt F .f32) (W : S768x256.Idx → Elt F .f32) : S1x1024x256.Idx → Elt F .f32 := rowsE fun k => zTile S W k
/-- An image's scaled projection. -/
def zsAll (S : S48x32x32x16.Idx → Elt F .f32) (W : S768x256.Idx → Elt F .f32) : S1024x256.Idx → Elt F .f32 := rowsZ fun k => zsTile S W k
/-- The running minimum after a codebook tile. -/
def vAll (C : Vec F S256x1024 .f32) (n : Vec F S1x1024 .f32) (Z : S1024x256.Idx → Elt F .f32) (V : S1024x128.Idx → Elt F .f32) :
    S1024x128.Idx → Elt F .f32 := rowsV fun k => vT C n (ldZ Z k) (ldV V k)
/-- The running index after a codebook tile. -/
def iAll (i : grid0.Coords) (C : Vec F S256x1024 .f32) (n : Vec F S1x1024 .f32) (Z : S1024x256.Idx → Elt F .f32) (V : S1024x128.Idx → Elt F .f32)
    (I : S1024x128.Idx → Elt F .i32) : S1024x128.Idx → Elt F .i32 := rowsV fun k => iT i C n (ldZ Z k) (ldV V k) (ldV I k)
/-- The winners after the last codebook tile. -/
def oAll (i : grid0.Coords) (C : Vec F S256x1024 .f32) (n : Vec F S1x1024 .f32) (Z : S1024x256.Idx → Elt F .f32) (V : S1024x128.Idx → Elt F .f32)
    (I : S1024x128.Idx → Elt F .i32) : S1x1024x1.Idx → Elt F .i32 := rowsO fun k => oT i C n (ldZ Z k) (ldV V k) (ldV I k)

/-- The columns of the norms that belong to tile `k`. -/
def ldN (N : S1x8192.Idx → Elt F .f32) (k : ℕ) : Vec F S1x1024 .f32 :=
  fun y => N (place S1x8192 (by decide) ![0, 1024 * k + (y 1).val])

theorem ldN_eq (M : Memref sig .tc .vmem S1x8192 .f32) (N : S1x8192.Idx → Elt F .f32) {off : Fin 2 → ℕ}
    (inb : ∀ a, off a + S1x1024.size a ≤ S1x8192.size a) (k : ℕ) (h : off = ![0, 1024 * k]) :
    M.view.readAt (Elt F) (Rect.unit (s := S1x8192) off S1x1024.size inb).toLoadRect (M.view.rep N) = ldN N k := by
  subst h
  rw [View.readAt_rep_unit M.view N inb rfl inb]
  funext y
  unfold window ldN
  refine congrArg N (funext fun a => Fin.ext ?_)
  have i1 : 1024 * k + 1024 ≤ 8192 := inb 1
  have y0 : (y 0).val < 1 := (y 0).isLt
  have y1 : (y 1).val < 1024 := (y 1).isLt
  have e : ∀ a : Fin 2, ((Rect.unit (s := S1x8192) ![0, 1024 * k] S1x1024.size inb).emb y a).val
      = (![0, 1024 * k] : Fin 2 → ℕ) a + 1 * (y a).val := fun _ => rfl
  refine (e a).trans ?_
  fin_cases a
  · show 0 + 1 * (y 0).val = 0 % 1; omega
  · show 1024 * k + 1 * (y 1).val = (1024 * k + (y 1).val) % 8192; omega

/-- The norms of the tile just written. -/
theorem ldN_put_same (N : S1x8192.Idx → Elt F .f32) (k : ℕ) (hk : k < 8) (A : Vec F S1x1024 .f32) :
    ldN (put N ![0, 1024 * k] S1x1024.size A) k = A := by
  funext y
  unfold ldN put
  have y0 : (y 0).val < 1 := (y 0).isLt
  have y1 : (y 1).val < 1024 := (y 1).isLt
  rw [dif_pos]
  · refine congrArg A (funext fun a => Fin.ext ?_)
    rw [Rect.unitLocal_val]
    fin_cases a
    · show 0 % 1 - 0 = (y 0).val; omega
    · show (1024 * k + (y 1).val) % 8192 - 1024 * k = (y 1).val; omega
  · intro a
    fin_cases a
    · show 0 ≤ 0 % 1 ∧ 0 % 1 < 0 + 1; omega
    · show 1024 * k ≤ (1024 * k + (y 1).val) % 8192 ∧ (1024 * k + (y 1).val) % 8192 < 1024 * k + 1024; omega

/-- The norms of another tile stay. -/
theorem ldN_put_ne (N : S1x8192.Idx → Elt F .f32) (k j : ℕ) (hk : k < 8) (hj : j < 8) (h : j ≠ k) (A : Vec F S1x1024 .f32) :
    ldN (put N ![0, 1024 * k] S1x1024.size A) j = ldN N j := by
  funext y
  unfold ldN put
  have y1 : (y 1).val < 1024 := (y 1).isLt
  rw [dif_neg]
  intro h
  have h1 : 1024 * k ≤ (1024 * j + (y 1).val) % 8192 ∧ (1024 * j + (y 1).val) % 8192 < 1024 * k + 1024 := h 1
  omega

/-- A loop of two trips runs them one after the other. -/
theorem for_two {E : Type → Type} {σ : Type} {w : ℕ} (l : Scf.Loop w) (hok : l.OK) (h : l.trips = 2) (init : σ)
    (body : Fin l.trips → σ → Prog E σ) :
    l.for hok init body = (body ⟨0, by omega⟩ init >>= fun a => body ⟨1, by omega⟩ a) := by
  have key : ∀ (n : ℕ) (hn : n = 2) (b : Fin n → σ → Prog E σ),
      Scf.forFrom b (List.finRange n) init = (b ⟨0, by omega⟩ init >>= fun a => b ⟨1, by omega⟩ a >>= fun a => .ret a) := by
    intro n hn b; subst hn; rfl
  have e := Scf.for_eq l.lb l.ub l.st hok init body
  refine (e.trans (key _ h body)).trans ?_
  refine congrArg (fun k => body ⟨0, by omega⟩ init >>= k) (funext fun a => ?_)
  exact Prog.bind_pure _

end Cert.KernelIdeal.Own
-- ==== Proof.K.Steps.lean ====
/- The blocks of the body: what each leaves where it writes. -/
module

public import proofs.«01_k».proof.Proof.K.Halves

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [∀ e, Nonempty (Elt F e)]

local notation "𝕄" => MT nD τ sig Unit (Elt F) ℕ (Pipeline.UD sig nD τ) ℕ

theorem off1_eq (i : grid0.Coords) : k0_off1 i = ![0, 1024 * (i 1).val] :=
  (by decide : ∀ k : Fin 8, (![0, (Scalar.indexCast (Scalar.muli (BitVec.ofNat 32 k.val) 1024#32) : Index).toNat] : Fin 2 → ℕ) = ![0, 1024 * k.val]) (i 1)

theorem off294_eq (i : grid0.Coords) : k0_off294 i = ![0, 1024 * (i 1).val] := off1_eq i

/-- The running minimum's start. -/
def vInit : S1024x128.Idx → Elt F .f32 := k0_pay5
/-- The running index's start. -/
def iInit : S1024x128.Idx → Elt F .i32 := k0_pay6

section Steps

variable (c : Dev nD) (i : grid0.Coords) (arg2 : Memref sig .tc .hbm S8x3x32x16x32x16 .f32) (harg2 : arg2.IsWhole) (arg3 : Memref sig .tc .vmem S768x256 .f32) (harg3 : arg3.IsWhole) (arg4 : Memref sig .tc .vmem S256x1024 .f32) (harg4 : arg4.IsWhole) (arg5 : Memref sig .tc .vmem S1x1024x1 .i32) (harg5 : arg5.IsWhole) (arg6 : Memref sig .tc .vmem S1x1024x256 .f32) (harg6 : arg6.IsWhole) (arg7 : Memref sig .tc .vmem S48x32x32x16 .f32) (harg7 : arg7.IsWhole) (arg8 : Memref sig .tc .vmem S48x32x32x16 .f32) (harg8 : arg8.IsWhole) (arg9 : Memref sig .tc .vmem S1024x256 .f32) (harg9 : arg9.IsWhole) (arg10 : Memref sig .tc .vmem S1x8192 .f32) (harg10 : arg10.IsWhole) (arg11 : Memref sig .tc .vmem S1024x128 .f32) (harg11 : arg11.IsWhole) (arg12 : Memref sig .tc .vmem S1024x128 .i32) (harg12 : arg12.IsWhole) (arg13 : DmaSems sig S8)

theorem cn_block (h1 : k0_cond1 i = 1#1) (C : S256x1024.Idx → Elt F .f32) (N : S1x8192.Idx → Elt F .f32) :
    iprop(owns (c : Thread nD τ) arg4 fullShare C ∗ owns (c : Thread nD τ) arg10 fullShare N : sProp 𝕄)
      ⊢ wp frame (wpE (defs₀ (F := F)) Variants.none (c : Thread nD τ) none) Set.univ (cnBlock (F := F) i arg4 arg10 h1)
          (fun _ => iprop(owns (c : Thread nD τ) arg4 fullShare C ∗ owns (c : Thread nD τ) arg10 fullShare (put N ![0, 1024 * (i 1).val] S1x1024.size (k0_pay1 C)))) := by
  rw [owns_eq_rep, owns_eq_rep]
  unfold cnBlock
  iintro ⟨H4, H10⟩
  sl_exec
  sl_step
  isplitl [H4]; · iexact H4
  unfold owns
  iexists _; isplitr; swap; · iexact H10
  ipureintro
  rw [View.read_writes_cons_put _ _ _ _ _ (off1_eq i), View.writes_nil, View.read_rep]
  refine congrArg (put N ![0, 1024 * (i 1).val] S1x1024.size) (congrArg k0_pay1 ?_)
  exact View.readAt_rep_full arg4.view C _

set_option maxHeartbeats 2000000 in
theorem init_block (p : FVec F S1024x128 .f32) (q : IVec S1024x128 32) (V : S1024x128.Idx → Elt F .f32) (I : S1024x128.Idx → Elt F .i32) :
    iprop(owns (c : Thread nD τ) arg11 fullShare V ∗ owns (c : Thread nD τ) arg12 fullShare I : sProp 𝕄)
      ⊢ wp frame (wpE (defs₀ (F := F)) Variants.none (c : Thread nD τ) none) Set.univ (initBlock (F := F) arg11 arg12 p q)
          (fun _ => iprop(owns (c : Thread nD τ) arg11 fullShare p ∗ owns (c : Thread nD τ) arg12 fullShare q)) := by
  rw [owns_eq_rep, owns_eq_rep]
  unfold initBlock
  iintro ⟨H11, H12⟩
  sl_exec
  sl_step
  isplitl [H11]
  · unfold owns
    iexists _; isplitr; swap; · iexact H11
    ipureintro
    rw [View.read_writes_full]
  unfold owns
  iexists _; isplitr; swap; · iexact H12
  ipureintro
  rw [View.read_writes_full]

theorem z_block1 (h3 : k0_cond3 i = 1#1) (h6 : k0_cond6 i = 1#1) (W : S768x256.Idx → Elt F .f32) (S : S48x32x32x16.Idx → Elt F .f32)
    (x6 : S1x1024x256.Idx → Elt F .f32) (x9 : S1024x256.Idx → Elt F .f32) (V : S1024x128.Idx → Elt F .f32) (I : S1024x128.Idx → Elt F .i32) :
    iprop(owns (c : Thread nD τ) arg3 fullShare W ∗ owns (c : Thread nD τ) arg7 fullShare S ∗ owns (c : Thread nD τ) arg6 fullShare x6 ∗ owns (c : Thread nD τ) arg9 fullShare x9 ∗ owns (c : Thread nD τ) arg11 fullShare V ∗ owns (c : Thread nD τ) arg12 fullShare I : sProp 𝕄)
      ⊢ wp frame (wpE (defs₀ (F := F)) Variants.none (c : Thread nD τ) none) Set.univ (zBlock1 (F := F) i arg2 harg2 arg3 harg3 arg4 harg4 arg5 harg5 arg6 harg6 arg7 harg7 arg8 harg8 arg9 harg9 arg10 harg10 arg11 harg11 arg12 harg12 arg13 h3 h6)
          (fun _ => iprop(owns (c : Thread nD τ) arg3 fullShare W ∗ owns (c : Thread nD τ) arg7 fullShare S ∗ owns (c : Thread nD τ) arg6 fullShare (zAll S W) ∗ owns (c : Thread nD τ) arg9 fullShare (zsAll S W)
            ∗ owns (c : Thread nD τ) arg11 fullShare vInit ∗ owns (c : Thread nD τ) arg12 fullShare iInit)) := by
  have ht : k0_t1_loop.trips = 2 := by decide
  have l0 : 0 < k0_t1_loop.trips := by rw [ht]; decide
  have l1 : 1 < k0_t1_loop.trips := by rw [ht]; decide
  unfold zBlock1
  rw [for_two _ _ ht, wp_bind, wp_bind]
  iintro ⟨H3, HS, H6, H9, H11, H12⟩
  iapply (wp_wand_r frame (wpE (defs₀ (F := F)) Variants.none (c : Thread nD τ) none) Set.univ)
  isplitl [H3 HS H6 H9]
  · iapply (z_trip1 c i arg2 harg2 arg3 harg3 arg4 harg4 arg5 harg5 arg6 harg6 arg7 harg7 arg8 harg8 arg9 harg9 arg10 harg10 arg11 harg11 arg12 harg12 arg13 h3 h6 ⟨0, l0⟩ W S x6 x9)
    isplitl [H3]; · iexact H3
    isplitl [HS]; · iexact HS
    isplitl [H6]; · iexact H6
    iexact H9
  iintro %_ ⟨H3, HS, H6, H9⟩
  iapply (wp_wand_r frame (wpE (defs₀ (F := F)) Variants.none (c : Thread nD τ) none) Set.univ)
  isplitl [H3 HS H6 H9]
  · iapply (z_trip1 c i arg2 harg2 arg3 harg3 arg4 harg4 arg5 harg5 arg6 harg6 arg7 harg7 arg8 harg8 arg9 harg9 arg10 harg10 arg11 harg11 arg12 harg12 arg13 h3 h6 ⟨1, l1⟩ W S _ _)
    isplitl [H3]; · iexact H3
    isplitl [HS]; · iexact HS
    isplitl [H6]; · iexact H6
    iexact H9
  iintro %_ ⟨H3, HS, H6, H9⟩
  iapply (wp_wand_r frame (wpE (defs₀ (F := F)) Variants.none (c : Thread nD τ) none) Set.univ)
  isplitl [H11 H12]
  · iapply (init_block c arg11 arg12 _ _ V I)
    isplitl [H11]; · iexact H11
    iexact H12
  iintro %_ ⟨H11, H12⟩
  rw [rowsE_put x6 (fun k => zTile S W k), rowsZ_put x9 (fun k => zsTile S W k)]
  isplitl [H3]; · iexact H3
  isplitl [HS]; · iexact HS
  isplitl [H6]; · iexact H6
  isplitl [H9]; · iexact H9
  isplitl [H11]; · iexact H11
  iexact H12

theorem z_block2 (h7 : k0_cond7 i = 1#1) (h10 : k0_cond10 i = 1#1) (W : S768x256.Idx → Elt F .f32) (S : S48x32x32x16.Idx → Elt F .f32)
    (x6 : S1x1024x256.Idx → Elt F .f32) (x9 : S1024x256.Idx → Elt F .f32) (V : S1024x128.Idx → Elt F .f32) (I : S1024x128.Idx → Elt F .i32) :
    iprop(owns (c : Thread nD τ) arg3 fullShare W ∗ owns (c : Thread nD τ) arg8 fullShare S ∗ owns (c : Thread nD τ) arg6 fullShare x6 ∗ owns (c : Thread nD τ) arg9 fullShare x9 ∗ owns (c : Thread nD τ) arg11 fullShare V ∗ owns (c : Thread nD τ) arg12 fullShare I : sProp 𝕄)
      ⊢ wp frame (wpE (defs₀ (F := F)) Variants.none (c : Thread nD τ) none) Set.univ (zBlock2 (F := F) i arg2 harg2 arg3 harg3 arg4 harg4 arg5 harg5 arg6 harg6 arg7 harg7 arg8 harg8 arg9 harg9 arg10 harg10 arg11 harg11 arg12 harg12 arg13 h7 h10)
          (fun _ => iprop(owns (c : Thread nD τ) arg3 fullShare W ∗ owns (c : Thread nD τ) arg8 fullShare S ∗ owns (c : Thread nD τ) arg6 fullShare (zAll S W) ∗ owns (c : Thread nD τ) arg9 fullShare (zsAll S W)
            ∗ owns (c : Thread nD τ) arg11 fullShare vInit ∗ owns (c : Thread nD τ) arg12 fullShare iInit)) := by
  have ht : k0_t2_loop.trips = 2 := by decide
  have l0 : 0 < k0_t2_loop.trips := by rw [ht]; decide
  have l1 : 1 < k0_t2_loop.trips := by rw [ht]; decide
  unfold zBlock2
  rw [for_two _ _ ht, wp_bind, wp_bind]
  iintro ⟨H3, HS, H6, H9, H11, H12⟩
  iapply (wp_wand_r frame (wpE (defs₀ (F := F)) Variants.none (c : Thread nD τ) none) Set.univ)
  isplitl [H3 HS H6 H9]
  · iapply (z_trip2 c i arg2 harg2 arg3 harg3 arg4 harg4 arg5 harg5 arg6 harg6 arg7 harg7 arg8 harg8 arg9 harg9 arg10 harg10 arg11 harg11 arg12 harg12 arg13 h7 h10 ⟨0, l0⟩ W S x6 x9)
    isplitl [H3]; · iexact H3
    isplitl [HS]; · iexact HS
    isplitl [H6]; · iexact H6
    iexact H9
  iintro %_ ⟨H3, HS, H6, H9⟩
  iapply (wp_wand_r frame (wpE (defs₀ (F := F)) Variants.none (c : Thread nD τ) none) Set.univ)
  isplitl [H3 HS H6 H9]
  · iapply (z_trip2 c i arg2 harg2 arg3 harg3 arg4 harg4 arg5 harg5 arg6 harg6 arg7 harg7 arg8 harg8 arg9 harg9 arg10 harg10 arg11 harg11 arg12 harg12 arg13 h7 h10 ⟨1, l1⟩ W S _ _)
    isplitl [H3]; · iexact H3
    isplitl [HS]; · iexact HS
    isplitl [H6]; · iexact H6
    iexact H9
  iintro %_ ⟨H3, HS, H6, H9⟩
  iapply (wp_wand_r frame (wpE (defs₀ (F := F)) Variants.none (c : Thread nD τ) none) Set.univ)
  isplitl [H11 H12]
  · iapply (init_block c arg11 arg12 _ _ V I)
    isplitl [H11]; · iexact H11
    iexact H12
  iintro %_ ⟨H11, H12⟩
  rw [rowsE_put x6 (fun k => zTile S W k), rowsZ_put x9 (fun k => zsTile S W k)]
  isplitl [H3]; · iexact H3
  isplitl [HS]; · iexact HS
  isplitl [H6]; · iexact H6
  isplitl [H9]; · iexact H9
  isplitl [H11]; · iexact H11
  iexact H12

set_option maxHeartbeats 4000000 in
theorem main_block (h11 : ¬ k0_cond11 i = 1#1) (C : S256x1024.Idx → Elt F .f32) (N : S1x8192.Idx → Elt F .f32) (Z : S1024x256.Idx → Elt F .f32)
    (V : S1024x128.Idx → Elt F .f32) (I : S1024x128.Idx → Elt F .i32) :
    iprop(owns (c : Thread nD τ) arg4 fullShare C ∗ owns (c : Thread nD τ) arg10 fullShare N ∗ owns (c : Thread nD τ) arg9 fullShare Z ∗ owns (c : Thread nD τ) arg11 fullShare V ∗ owns (c : Thread nD τ) arg12 fullShare I : sProp 𝕄)
      ⊢ wp frame (wpE (defs₀ (F := F)) Variants.none (c : Thread nD τ) none) Set.univ (mainBlock (F := F) i arg2 harg2 arg3 harg3 arg4 harg4 arg5 harg5 arg6 harg6 arg7 harg7 arg8 harg8 arg9 harg9 arg10 harg10 arg11 harg11 arg12 harg12 arg13)
          (fun _ => iprop(owns (c : Thread nD τ) arg4 fullShare C ∗ owns (c : Thread nD τ) arg10 fullShare N ∗ owns (c : Thread nD τ) arg9 fullShare Z
            ∗ owns (c : Thread nD τ) arg11 fullShare (vAll C (ldN N (i 1).val) Z V) ∗ owns (c : Thread nD τ) arg12 fullShare (iAll i C (ldN N (i 1).val) Z V I))) := by
  have ht : k0_t3_loop.trips = 2 := by decide
  have l0 : 0 < k0_t3_loop.trips := by rw [ht]; decide
  have l1 : 1 < k0_t3_loop.trips := by rw [ht]; decide
  have eC : arg4.view.readAt (Elt F) (Rect.unit (s := S256x1024) ![0, 0] S256x1024.size inb_S256x1024_S256x1024_0_0).toLoadRect (arg4.view.rep C) = C :=
    View.readAt_rep_full arg4.view C _
  have eN := ldN_eq arg10 N (k0_off294_inb i) (i 1).val (off294_eq i)
  rw [owns_eq_rep, owns_eq_rep]
  unfold mainBlock
  simp only [for_two _ _ ht, Prog.bind_lift]
  iintro ⟨H4, H10, H9, H11, H12⟩
  sl_step
  sl_step
  rw [eC, eN]
  rw [wp_bind, wp_bind]
  iapply (wp_wand_r frame (wpE (defs₀ (F := F)) Variants.none (c : Thread nD τ) none) Set.univ)
  isplitl [H9 H11 H12]
  · iapply (m_trip c i arg2 harg2 arg3 harg3 arg4 harg4 arg5 harg5 arg6 harg6 arg7 harg7 arg8 harg8 arg9 harg9 arg10 harg10 arg11 harg11 arg12 harg12 arg13 h11 ⟨0, l0⟩ C (ldN N (i 1).val) Z V I)
    isplitl [H9]; · iexact H9
    isplitl [H11]; · iexact H11
    iexact H12
  iintro %_ ⟨H9, H11, H12⟩
  iapply (wp_wand_r frame (wpE (defs₀ (F := F)) Variants.none (c : Thread nD τ) none) Set.univ)
  isplitl [H9 H11 H12]
  · iapply (m_trip c i arg2 harg2 arg3 harg3 arg4 harg4 arg5 harg5 arg6 harg6 arg7 harg7 arg8 harg8 arg9 harg9 arg10 harg10 arg11 harg11 arg12 harg12 arg13 h11 ⟨1, l1⟩ C (ldN N (i 1).val) Z _ _)
    isplitl [H9]; · iexact H9
    isplitl [H11]; · iexact H11
    iexact H12
  iintro %_ ⟨H9, H11, H12⟩
  sl_step
  rw [ldV_put, ldV_put]
  isplitl [H4]; · iexact H4
  isplitl [H10]; · iexact H10
  isplitl [H9]; · iexact H9
  isplitl [H11]
  · rw [rowsV_put V (fun k => vT C (ldN N (i 1).val) (ldZ Z k) (ldV V k))]
    iexact H11
  rw [rowsV_put I (fun k => iT i C (ldN N (i 1).val) (ldZ Z k) (ldV V k) (ldV I k))]
  iexact H12

set_option maxHeartbeats 4000000 in
theorem main_block_last (h11 : k0_cond11 i = 1#1) (C : S256x1024.Idx → Elt F .f32) (N : S1x8192.Idx → Elt F .f32) (Z : S1024x256.Idx → Elt F .f32)
    (V : S1024x128.Idx → Elt F .f32) (I : S1024x128.Idx → Elt F .i32) (x5 : S1x1024x1.Idx → Elt F .i32) :
    iprop(owns (c : Thread nD τ) arg4 fullShare C ∗ owns (c : Thread nD τ) arg10 fullShare N ∗ owns (c : Thread nD τ) arg5 fullShare x5 ∗ owns (c : Thread nD τ) arg9 fullShare Z ∗ owns (c : Thread nD τ) arg11 fullShare V ∗ owns (c : Thread nD τ) arg12 fullShare I : sProp 𝕄)
      ⊢ wp frame (wpE (defs₀ (F := F)) Variants.none (c : Thread nD τ) none) Set.univ (mainBlock (F := F) i arg2 harg2 arg3 harg3 arg4 harg4 arg5 harg5 arg6 harg6 arg7 harg7 arg8 harg8 arg9 harg9 arg10 harg10 arg11 harg11 arg12 harg12 arg13)
          (fun _ => iprop(owns (c : Thread nD τ) arg4 fullShare C ∗ owns (c : Thread nD τ) arg10 fullShare N ∗ owns (c : Thread nD τ) arg5 fullShare (oAll i C (ldN N (i 1).val) Z V I) ∗ owns (c : Thread nD τ) arg9 fullShare Z
            ∗ owns (c : Thread nD τ) arg11 fullShare (vAll C (ldN N (i 1).val) Z V) ∗ owns (c : Thread nD τ) arg12 fullShare (iAll i C (ldN N (i 1).val) Z V I))) := by
  have ht : k0_t3_loop.trips = 2 := by decide
  have l0 : 0 < k0_t3_loop.trips := by rw [ht]; decide
  have l1 : 1 < k0_t3_loop.trips := by rw [ht]; decide
  have eC : arg4.view.readAt (Elt F) (Rect.unit (s := S256x1024) ![0, 0] S256x1024.size inb_S256x1024_S256x1024_0_0).toLoadRect (arg4.view.rep C) = C :=
    View.readAt_rep_full arg4.view C _
  have eN := ldN_eq arg10 N (k0_off294_inb i) (i 1).val (off294_eq i)
  rw [owns_eq_rep, owns_eq_rep]
  unfold mainBlock
  simp only [for_two _ _ ht, Prog.bind_lift]
  iintro ⟨H4, H10, H5, H9, H11, H12⟩
  sl_step
  sl_step
  rw [eC, eN]
  rw [wp_bind, wp_bind]
  iapply (wp_wand_r frame (wpE (defs₀ (F := F)) Variants.none (c : Thread nD τ) none) Set.univ)
  isplitl [H5 H9 H11 H12]
  · iapply (m_trip_last c i arg2 harg2 arg3 harg3 arg4 harg4 arg5 harg5 arg6 harg6 arg7 harg7 arg8 harg8 arg9 harg9 arg10 harg10 arg11 harg11 arg12 harg12 arg13 h11 ⟨0, l0⟩ C (ldN N (i 1).val) Z V I x5)
    isplitl [H5]; · iexact H5
    isplitl [H9]; · iexact H9
    isplitl [H11]; · iexact H11
    iexact H12
  iintro %_ ⟨H5, H9, H11, H12⟩
  iapply (wp_wand_r frame (wpE (defs₀ (F := F)) Variants.none (c : Thread nD τ) none) Set.univ)
  isplitl [H5 H9 H11 H12]
  · iapply (m_trip_last c i arg2 harg2 arg3 harg3 arg4 harg4 arg5 harg5 arg6 harg6 arg7 harg7 arg8 harg8 arg9 harg9 arg10 harg10 arg11 harg11 arg12 harg12 arg13 h11 ⟨1, l1⟩ C (ldN N (i 1).val) Z _ _ _)
    isplitl [H5]; · iexact H5
    isplitl [H9]; · iexact H9
    isplitl [H11]; · iexact H11
    iexact H12
  iintro %_ ⟨H5, H9, H11, H12⟩
  sl_step
  rw [ldV_put, ldV_put]
  isplitl [H4]; · iexact H4
  isplitl [H10]; · iexact H10
  isplitl [H5]
  · rw [rowsO_put x5 (fun k => oT i C (ldN N (i 1).val) (ldZ Z k) (ldV V k) (ldV I k))]
    iexact H5
  isplitl [H9]; · iexact H9
  isplitl [H11]
  · rw [rowsV_put V (fun k => vT C (ldN N (i 1).val) (ldZ Z k) (ldV V k))]
    iexact H11
  rw [rowsV_put I (fun k => iT i C (ldN N (i 1).val) (ldZ Z k) (ldV V k) (ldV I k))]
  iexact H12

end Steps

end Cert.KernelIdeal.Own
-- ==== Proof.K.Moves.lean ====
/- Where the images are between two points, and what the blocks that move them do. -/
module

public import proofs.«01_k».proof.Proof.K.Steps
public import Idealize.ShloMosaic.Lib.ValueIdxRank6

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [∀ e, Nonempty (Elt F e)]

local notation "𝕄" => MT nD τ sig Unit (Elt F) ℕ (Pipeline.UD sig nD τ) ℕ

/-- What the stage holds once image `n` has landed in it: slab `j` is channel `j / 16`, row `j % 16` of every patch. -/
def imgS (X : Memref sig .tc .hbm S8x3x32x16x32x16 .f32) {c : Dev nD} (f : Buf (Elt F) (X.view.loc (c : Thread nD τ))) (n : ℕ) :
    S48x32x32x16.Idx → Elt F .f32 :=
  fun y => X.view.read (Elt F) f (place S8x3x32x16x32x16 (by decide)
    ![n, (y 0).val / 16, (y 1).val, (y 0).val % 16, (y 2).val, (y 3).val])

theorem dst_emb (j : ℕ) (hj : j < 48) (y : S32x32x16.Idx) :
    (Rect.unit (s := S48x32x32x16) ![j, 0, 0, 0] S1x32x32x16.size (dstIn j hj)).emb
      (Shape.reshapeEquiv (s := S1x32x32x16) (s' := S32x32x16) squeezes_S1x32x32x16_S32x32x16.numel_eq y)
      = place S48x32x32x16 (by decide) ![j, (y 0).val, (y 1).val, (y 2).val] := by
  have y0 : (y 0).val < 32 := (y 0).isLt
  have y1 : (y 1).val < 32 := (y 1).isLt
  have y2 : (y 2).val < 16 := (y 2).isLt
  have e : Shape.reshapeEquiv (s := S1x32x32x16) (s' := S32x32x16) squeezes_S1x32x32x16_S32x32x16.numel_eq y
      = (place S1x32x32x16 (by decide) ![0, (y 0).val, (y 1).val, (y 2).val]) := by
    refine Shape.reshapeEquiv_eq_of_rowMajor _ ?_
    refine (Shape.rowMajor_val_four _).trans ?_
    refine Eq.trans ?_ (Shape.rowMajor_val_three y).symm
    show (((0 % 1) * 32 + (y 0).val % 32) * 32 + (y 1).val % 32) * 16 + (y 2).val % 16 = ((y 0).val * 32 + (y 1).val) * 16 + (y 2).val
    omega
  rw [e]
  funext a
  refine Fin.ext ?_
  fin_cases a
  · show j + 1 * (0 % 1) = j % 48; omega
  · show 0 + 1 * ((y 0).val % 32) = (y 0).val % 32; omega
  · show 0 + 1 * ((y 1).val % 32) = (y 1).val % 32; omega
  · show 0 + 1 * ((y 2).val % 16) = (y 2).val % 16; omega

theorem src_emb (n j : ℕ) (hn : n < 8) (hj : j < 48) (y : S32x32x16.Idx) :
    (Rect.unit (s := S8x3x32x16x32x16) ![n, j / 16, 0, j % 16, 0, 0] S1x1x32x1x32x16.size (srcIn n j hn hj)).emb
      (Shape.reshapeEquiv (s := S1x1x32x1x32x16) (s' := S32x32x16) squeezes_S1x1x32x1x32x16_S32x32x16.numel_eq y)
      = place S8x3x32x16x32x16 (by decide) ![n, j / 16, (y 0).val, j % 16, (y 1).val, (y 2).val] := by
  have y0 : (y 0).val < 32 := (y 0).isLt
  have y1 : (y 1).val < 32 := (y 1).isLt
  have y2 : (y 2).val < 16 := (y 2).isLt
  have e : Shape.reshapeEquiv (s := S1x1x32x1x32x16) (s' := S32x32x16) squeezes_S1x1x32x1x32x16_S32x32x16.numel_eq y
      = (place S1x1x32x1x32x16 (by decide) ![0, 0, (y 0).val, 0, (y 1).val, (y 2).val]) := by
    refine Shape.reshapeEquiv_eq_of_rowMajor _ ?_
    refine (Shape.rowMajor_val_six _).trans ?_
    refine Eq.trans ?_ (Shape.rowMajor_val_three y).symm
    show (((((0 % 1) * 1 + 0 % 1) * 32 + (y 0).val % 32) * 1 + 0 % 1) * 32 + (y 1).val % 32) * 16 + (y 2).val % 16
      = ((y 0).val * 32 + (y 1).val) * 16 + (y 2).val
    omega
  rw [e]
  funext a
  refine Fin.ext ?_
  fin_cases a
  · show n + 1 * (0 % 1) = n % 8; omega
  · show j / 16 + 1 * (0 % 1) = j / 16 % 3; omega
  · show 0 + 1 * ((y 0).val % 32) = (y 0).val % 32; omega
  · show j % 16 + 1 * (0 % 1) = j % 16 % 16; omega
  · show 0 + 1 * ((y 1).val % 32) = (y 1).val % 32; omega
  · show 0 + 1 * ((y 2).val % 16) = (y 2).val % 16; omega

theorem img_ok (X : Memref sig .tc .hbm S8x3x32x16x32x16 .f32) (M : Memref sig .tc .vmem S48x32x32x16 .f32) {c : Dev nD}
    (f : Buf (Elt F) (X.view.loc (c : Thread nD τ))) (n : ℕ) (hn : n < 8) (j : ℕ) (hj : j < 48) :
    (dstW M j hj).view.read (Elt F) (M.view.rep (imgS X f n)) = (srcW X n j hn hj).view.read (Elt F) f := by
  funext y
  have y0 : (y 0).val < 32 := (y 0).isLt
  have y1 : (y 1).val < 32 := (y 1).isLt
  have y2 : (y 2).val < 16 := (y 2).isLt
  show M.view.read (Elt F) (M.view.rep (imgS X f n)) ((Rect.unit (s := S48x32x32x16) ![j, 0, 0, 0] S1x32x32x16.size (dstIn j hj)).emb
      (Shape.reshapeEquiv (s := S1x32x32x16) (s' := S32x32x16) squeezes_S1x32x32x16_S32x32x16.numel_eq y))
    = X.view.read (Elt F) f ((Rect.unit (s := S8x3x32x16x32x16) ![n, j / 16, 0, j % 16, 0, 0] S1x1x32x1x32x16.size (srcIn n j hn hj)).emb
      (Shape.reshapeEquiv (s := S1x1x32x1x32x16) (s' := S32x32x16) squeezes_S1x1x32x1x32x16_S32x32x16.numel_eq y))
  rw [View.read_rep, dst_emb j hj, src_emb n j hn hj]
  unfold imgS
  refine congrArg (X.view.read (Elt F) f) (funext fun a => Fin.ext ?_)
  fin_cases a
  · rfl
  · show (j % 48) / 16 % 3 = j / 16 % 3; omega
  · show (y 0).val % 32 % 32 = (y 0).val % 32; omega
  · show (j % 48) % 16 % 16 = j % 16 % 16; omega
  · show (y 1).val % 32 % 32 = (y 1).val % 32; omega
  · show (y 2).val % 16 % 16 = (y 2).val % 16; omega

section Moves

variable (c : Dev nD) (i : grid0.Coords) (arg2 : Memref sig .tc .hbm S8x3x32x16x32x16 .f32) (harg2 : arg2.IsWhole) (arg3 : Memref sig .tc .vmem S768x256 .f32) (harg3 : arg3.IsWhole) (arg4 : Memref sig .tc .vmem S256x1024 .f32) (harg4 : arg4.IsWhole) (arg5 : Memref sig .tc .vmem S1x1024x1 .i32) (harg5 : arg5.IsWhole) (arg6 : Memref sig .tc .vmem S1x1024x256 .f32) (harg6 : arg6.IsWhole) (arg7 : Memref sig .tc .vmem S48x32x32x16 .f32) (harg7 : arg7.IsWhole) (arg8 : Memref sig .tc .vmem S48x32x32x16 .f32) (harg8 : arg8.IsWhole) (arg9 : Memref sig .tc .vmem S1024x256 .f32) (harg9 : arg9.IsWhole) (arg10 : Memref sig .tc .vmem S1x8192 .f32) (harg10 : arg10.IsWhole) (arg11 : Memref sig .tc .vmem S1024x128 .f32) (harg11 : arg11.IsWhole) (arg12 : Memref sig .tc .vmem S1024x128 .i32) (harg12 : arg12.IsWhole) (arg13 : DmaSems sig S8)
variable (f : Buf (Elt F) (arg2.view.loc (c : Thread nD τ)))

/-- Image `n` under way into `M`, the other stage `M'` at rest. -/
def under (M M' : Memref sig .tc .vmem S48x32x32x16 .f32) (n : ℕ) (hn : n < 8) : sProp 𝕄 :=
  iprop(flying c arg2 M arg13 n hn f (M.view.rep (imgS arg2 f n)) ∗ (∃ s, owns (c : Thread nD τ) M' fullShare s)
    ∗ (arg2.view.loc (c : Thread nD τ) ↦[Finset.univ \ imgSet c arg2 n hn]{fullShare} f))

/-- No image under way. -/
def atRest : sProp 𝕄 :=
  iprop((∃ s, owns (c : Thread nD τ) arg7 fullShare s) ∗ (∃ s, owns (c : Thread nD τ) arg8 fullShare s) ∗ sems0 c arg13 ∗ (arg2.view.loc (c : Thread nD τ) ↦{fullShare} f))

/-- The whole input is an image and the others. -/
theorem split_img (n : ℕ) (hn : n < 8) :
    (arg2.view.loc (c : Thread nD τ) ↦{fullShare} f : sProp 𝕄)
      ⊢ iprop((arg2.view.loc (c : Thread nD τ) ↦[imgSet c arg2 n hn]{fullShare} f)
        ∗ (arg2.view.loc (c : Thread nD τ) ↦[Finset.univ \ imgSet c arg2 n hn]{fullShare} f)) :=
  (pointsTo_split_subset (Finset.subset_univ _)).1

theorem join_img (n : ℕ) (hn : n < 8) :
    iprop((arg2.view.loc (c : Thread nD τ) ↦[imgSet c arg2 n hn]{fullShare} f)
        ∗ (arg2.view.loc (c : Thread nD τ) ↦[Finset.univ \ imgSet c arg2 n hn]{fullShare} f))
      ⊢ (arg2.view.loc (c : Thread nD τ) ↦{fullShare} f : sProp 𝕄) :=
  (pointsTo_split_subset (Finset.subset_univ _)).2

/-- The copies of an image started. -/
theorem start_img (M M' : Memref sig .tc .vmem S48x32x32x16 .f32) (n : ℕ) (hn : n < 8) (Q : PUnit → sProp 𝕄) :
    iprop(sems0 c arg13 ∗ (arg2.view.loc (c : Thread nD τ) ↦{fullShare} f) ∗ (∃ s, owns (c : Thread nD τ) M fullShare s)
        ∗ (∃ s, owns (c : Thread nD τ) M' fullShare s) ∗ (under c arg2 arg13 f M M' n hn -∗ Q ⟨⟩))
      ⊢ wp frame (wpE (defs₀ (F := F)) Variants.none (c : Thread nD τ) none) Set.univ (startFrom arg2 M arg13 n hn 48 0 rfl) Q := by
  iintro ⟨HS, HX, ⟨%s, HM⟩, HM', Hk⟩
  ihave HX := (split_img c arg2 f n hn) $$ HX
  icases HX with ⟨HX, HC⟩
  ihave HM := (rep_of_owns (c : Thread nD τ) M fullShare s) $$ HM
  iapply (start_all c arg2 M arg13 n hn f (M.view.rep s) (M.view.rep (imgS arg2 f n)) (fun j hj => img_ok arg2 M f n hn j hj) Q)
  isplitl [HS]; · iexact HS
  isplitl [HX]; · iexact HX
  isplitl [HM]; · iexact HM
  iintro HF
  iapply Hk
  unfold under
  isplitl [HF]; · iexact HF
  isplitl [HM']; · iexact HM'
  iexact HC

/-- The copies of an image waited for: the stage holds the image. -/
theorem wait_img (M M' : Memref sig .tc .vmem S48x32x32x16 .f32) (n : ℕ) (hn : n < 8) (hN : 0 < slabN M arg13) (W : Waits sig Unit)
    (Q : PUnit → sProp 𝕄) :
    iprop(under c arg2 arg13 f M M' n hn ∗ owes (c : Thread nD τ) 0 W
        ∗ (iprop(owns (c : Thread nD τ) M fullShare (imgS arg2 f n) ∗ (∃ s, owns (c : Thread nD τ) M' fullShare s)
            ∗ sems0 c arg13 ∗ (arg2.view.loc (c : Thread nD τ) ↦{fullShare} f) ∗ ∃ W', owes (c : Thread nD τ) 0 W') -∗ Q ⟨⟩))
      ⊢ wp frame (wpE (defs₀ (F := F)) Variants.none (c : Thread nD τ) none) Set.univ (waitFrom arg2 M arg13 n hn 48 0 rfl) Q := by
  unfold under
  iintro ⟨⟨HF, HM', HC⟩, HO, Hk⟩
  iapply (wait_all c arg2 M arg13 n hn f (M.view.rep (imgS arg2 f n)) hN W Q)
  isplitl [HF]; · iexact HF
  isplitl [HO]; · iexact HO
  iintro ⟨HS, HM, HX, HO⟩
  iapply Hk
  isplitl [HM]; · iapply (owns_of_rep (c : Thread nD τ) M fullShare (imgS arg2 f n)); iexact HM
  isplitl [HM']; · iexact HM'
  isplitl [HS]; · iexact HS
  isplitl [HX HC]
  · iapply (join_img c arg2 f n hn)
    isplitl [HX]; · iexact HX
    iexact HC
  iexact HO

theorem whenP_pos {p : Prop} [Decidable p] (h : p) (k : p → Prog (TpuEff nD τ sig (Elt F) Λ₀ .tc) PUnit) : whenP p k = k h := dif_pos h
theorem whenP_neg {p : Prop} [Decidable p] (h : ¬ p) (k : p → Prog (TpuEff nD τ sig (Elt F) Λ₀ .tc) PUnit) : whenP p k = pure ⟨⟩ := dif_neg h

theorem even_next (h3 : k0_cond3 i = 1#1) (h4 : k0_cond4 i = 1#1) (h5 : k0_cond5 i = 1#1) (h6 : k0_cond6 i = 1#1) (hN : 0 < slabN arg7 arg13) (Ws : Waits sig Unit)
    (W : S768x256.Idx → Elt F .f32) (x6 : S1x1024x256.Idx → Elt F .f32) (x9 : S1024x256.Idx → Elt F .f32) (V : S1024x128.Idx → Elt F .f32)
    (I : S1024x128.Idx → Elt F .i32) :
    iprop(under c arg2 arg13 f arg7 arg8 (imgOf i) (imgOf_lt i) ∗ owes (c : Thread nD τ) 0 Ws ∗ owns (c : Thread nD τ) arg3 fullShare W ∗ owns (c : Thread nD τ) arg6 fullShare x6 ∗ owns (c : Thread nD τ) arg9 fullShare x9 ∗ owns (c : Thread nD τ) arg11 fullShare V ∗ owns (c : Thread nD τ) arg12 fullShare I)
      ⊢ wp frame (wpE (defs₀ (F := F)) Variants.none (c : Thread nD τ) none) Set.univ (evenBlock (F := F) i arg2 harg2 arg3 harg3 arg4 harg4 arg5 harg5 arg6 harg6 arg7 harg7 arg8 harg8 arg9 harg9 arg10 harg10 arg11 harg11 arg12 harg12 arg13 h3)
          (fun _ => iprop(under c arg2 arg13 f arg8 arg7 (nextOf i) (nextOf_lt3 i h3 h5) ∗ (∃ W', owes (c : Thread nD τ) 0 W') ∗ owns (c : Thread nD τ) arg3 fullShare W ∗ owns (c : Thread nD τ) arg6 fullShare (zAll (imgS arg2 f (imgOf i)) W) ∗ owns (c : Thread nD τ) arg9 fullShare (zsAll (imgS arg2 f (imgOf i)) W) ∗ owns (c : Thread nD τ) arg11 fullShare vInit ∗ owns (c : Thread nD τ) arg12 fullShare iInit)) := by
  unfold evenBlock
  rw [whenP_pos h4, whenP_pos h5, whenP_pos h6, wp_bind, wp_bind]
  iintro ⟨HU, HO, H3, H6, H9, H11, H12⟩
  iapply (wait_img c arg2 arg13 f arg7 arg8 (imgOf i) (imgOf_lt i) hN Ws)
  isplitl [HU]; · iexact HU
  isplitl [HO]; · iexact HO
  iintro ⟨HM, HM', HS, HX, HO⟩
  ihave HX := (split_img c arg2 f (nextOf i) (nextOf_lt3 i h3 h5)) $$ HX
  icases HX with ⟨HX, HC⟩
  icases HM' with ⟨%s, HM'⟩
  ihave HM' := (rep_of_owns (c : Thread nD τ) arg8 fullShare s) $$ HM'
  iapply (start_all c arg2 arg8 arg13 (nextOf i) (nextOf_lt3 i h3 h5) f (arg8.view.rep s) (arg8.view.rep (imgS arg2 f (nextOf i)))
    (fun j hj => img_ok arg2 arg8 f (nextOf i) (nextOf_lt3 i h3 h5) j hj))
  isplitl [HS]; · iexact HS
  isplitl [HX]; · iexact HX
  isplitl [HM']; · iexact HM'
  iintro HF
  iapply (wp_wand_r frame (wpE (defs₀ (F := F)) Variants.none (c : Thread nD τ) none) Set.univ)
  isplitl [HM H3 H6 H9 H11 H12]
  · iapply (z_block1 c i arg2 harg2 arg3 harg3 arg4 harg4 arg5 harg5 arg6 harg6 arg7 harg7 arg8 harg8 arg9 harg9 arg10 harg10 arg11 harg11 arg12 harg12 arg13 h3 h6 W (imgS arg2 f (imgOf i)) x6 x9 V I)
    isplitl [H3]; · iexact H3
    isplitl [HM]; · iexact HM
    isplitl [H6]; · iexact H6
    isplitl [H9]; · iexact H9
    isplitl [H11]; · iexact H11
    iexact H12
  iintro %_ ⟨H3, HM, H6, H9, H11, H12⟩
  isplitl [HF HM HC]
  · unfold under
    isplitl [HF]; · iexact HF
    isplitl [HM]; · iexists _; iexact HM
    iexact HC
  isplitl [HO]; · iexact HO
  isplitl [H3]; · iexact H3
  isplitl [H6]; · iexact H6
  isplitl [H9]; · iexact H9
  isplitl [H11]; · iexact H11
  iexact H12

theorem odd_next (h7 : k0_cond7 i = 1#1) (h8 : k0_cond8 i = 1#1) (h9 : k0_cond9 i = 1#1) (h10 : k0_cond10 i = 1#1) (hN : 0 < slabN arg8 arg13) (Ws : Waits sig Unit)
    (W : S768x256.Idx → Elt F .f32) (x6 : S1x1024x256.Idx → Elt F .f32) (x9 : S1024x256.Idx → Elt F .f32) (V : S1024x128.Idx → Elt F .f32)
    (I : S1024x128.Idx → Elt F .i32) :
    iprop(under c arg2 arg13 f arg8 arg7 (imgOf i) (imgOf_lt i) ∗ owes (c : Thread nD τ) 0 Ws ∗ owns (c : Thread nD τ) arg3 fullShare W ∗ owns (c : Thread nD τ) arg6 fullShare x6 ∗ owns (c : Thread nD τ) arg9 fullShare x9 ∗ owns (c : Thread nD τ) arg11 fullShare V ∗ owns (c : Thread nD τ) arg12 fullShare I)
      ⊢ wp frame (wpE (defs₀ (F := F)) Variants.none (c : Thread nD τ) none) Set.univ (oddBlock (F := F) i arg2 harg2 arg3 harg3 arg4 harg4 arg5 harg5 arg6 harg6 arg7 harg7 arg8 harg8 arg9 harg9 arg10 harg10 arg11 harg11 arg12 harg12 arg13 h7)
          (fun _ => iprop(under c arg2 arg13 f arg7 arg8 (nextOf i) (nextOf_lt7 i h7 h9) ∗ (∃ W', owes (c : Thread nD τ) 0 W') ∗ owns (c : Thread nD τ) arg3 fullShare W ∗ owns (c : Thread nD τ) arg6 fullShare (zAll (imgS arg2 f (imgOf i)) W) ∗ owns (c : Thread nD τ) arg9 fullShare (zsAll (imgS arg2 f (imgOf i)) W) ∗ owns (c : Thread nD τ) arg11 fullShare vInit ∗ owns (c : Thread nD τ) arg12 fullShare iInit)) := by
  unfold oddBlock
  rw [whenP_pos h8, whenP_pos h9, whenP_pos h10, wp_bind, wp_bind]
  iintro ⟨HU, HO, H3, H6, H9, H11, H12⟩
  iapply (wait_img c arg2 arg13 f arg8 arg7 (imgOf i) (imgOf_lt i) hN Ws)
  isplitl [HU]; · iexact HU
  isplitl [HO]; · iexact HO
  iintro ⟨HM, HM', HS, HX, HO⟩
  ihave HX := (split_img c arg2 f (nextOf i) (nextOf_lt7 i h7 h9)) $$ HX
  icases HX with ⟨HX, HC⟩
  icases HM' with ⟨%s, HM'⟩
  ihave HM' := (rep_of_owns (c : Thread nD τ) arg7 fullShare s) $$ HM'
  iapply (start_all c arg2 arg7 arg13 (nextOf i) (nextOf_lt7 i h7 h9) f (arg7.view.rep s) (arg7.view.rep (imgS arg2 f (nextOf i)))
    (fun j hj => img_ok arg2 arg7 f (nextOf i) (nextOf_lt7 i h7 h9) j hj))
  isplitl [HS]; · iexact HS
  isplitl [HX]; · iexact HX
  isplitl [HM']; · iexact HM'
  iintro HF
  iapply (wp_wand_r frame (wpE (defs₀ (F := F)) Variants.none (c : Thread nD τ) none) Set.univ)
  isplitl [HM H3 H6 H9 H11 H12]
  · iapply (z_block2 c i arg2 harg2 arg3 harg3 arg4 harg4 arg5 harg5 arg6 harg6 arg7 harg7 arg8 harg8 arg9 harg9 arg10 harg10 arg11 harg11 arg12 harg12 arg13 h7 h10 W (imgS arg2 f (imgOf i)) x6 x9 V I)
    isplitl [H3]; · iexact H3
    isplitl [HM]; · iexact HM
    isplitl [H6]; · iexact H6
    isplitl [H9]; · iexact H9
    isplitl [H11]; · iexact H11
    iexact H12
  iintro %_ ⟨H3, HM, H6, H9, H11, H12⟩
  isplitl [HF HM HC]
  · unfold under
    isplitl [HF]; · iexact HF
    isplitl [HM]; · iexists _; iexact HM
    iexact HC
  isplitl [HO]; · iexact HO
  isplitl [H3]; · iexact H3
  isplitl [H6]; · iexact H6
  isplitl [H9]; · iexact H9
  isplitl [H11]; · iexact H11
  iexact H12

theorem odd_last (h7 : k0_cond7 i = 1#1) (h8 : k0_cond8 i = 1#1) (h9 : ¬ k0_cond9 i = 1#1) (h10 : k0_cond10 i = 1#1) (hN : 0 < slabN arg8 arg13) (Ws : Waits sig Unit)
    (W : S768x256.Idx → Elt F .f32) (x6 : S1x1024x256.Idx → Elt F .f32) (x9 : S1024x256.Idx → Elt F .f32) (V : S1024x128.Idx → Elt F .f32)
    (I : S1024x128.Idx → Elt F .i32) :
    iprop(under c arg2 arg13 f arg8 arg7 (imgOf i) (imgOf_lt i) ∗ owes (c : Thread nD τ) 0 Ws ∗ owns (c : Thread nD τ) arg3 fullShare W ∗ owns (c : Thread nD τ) arg6 fullShare x6 ∗ owns (c : Thread nD τ) arg9 fullShare x9 ∗ owns (c : Thread nD τ) arg11 fullShare V ∗ owns (c : Thread nD τ) arg12 fullShare I)
      ⊢ wp frame (wpE (defs₀ (F := F)) Variants.none (c : Thread nD τ) none) Set.univ (oddBlock (F := F) i arg2 harg2 arg3 harg3 arg4 harg4 arg5 harg5 arg6 harg6 arg7 harg7 arg8 harg8 arg9 harg9 arg10 harg10 arg11 harg11 arg12 harg12 arg13 h7)
          (fun _ => iprop(atRest c arg2 arg7 arg8 arg13 f ∗ (∃ W', owes (c : Thread nD τ) 0 W') ∗ owns (c : Thread nD τ) arg3 fullShare W ∗ owns (c : Thread nD τ) arg6 fullShare (zAll (imgS arg2 f (imgOf i)) W) ∗ owns (c : Thread nD τ) arg9 fullShare (zsAll (imgS arg2 f (imgOf i)) W) ∗ owns (c : Thread nD τ) arg11 fullShare vInit ∗ owns (c : Thread nD τ) arg12 fullShare iInit)) := by
  unfold oddBlock
  rw [whenP_pos h8, whenP_neg h9, whenP_pos h10, wp_bind, wp_bind]
  iintro ⟨HU, HO, H3, H6, H9, H11, H12⟩
  iapply (wait_img c arg2 arg13 f arg8 arg7 (imgOf i) (imgOf_lt i) hN Ws)
  isplitl [HU]; · iexact HU
  isplitl [HO]; · iexact HO
  iintro ⟨HM, HM', HS, HX, HO⟩
  rw [Prog.pure_eq_ret, wp_ret]
  imodintro
  iapply (wp_wand_r frame (wpE (defs₀ (F := F)) Variants.none (c : Thread nD τ) none) Set.univ)
  isplitl [HM H3 H6 H9 H11 H12]
  · iapply (z_block2 c i arg2 harg2 arg3 harg3 arg4 harg4 arg5 harg5 arg6 harg6 arg7 harg7 arg8 harg8 arg9 harg9 arg10 harg10 arg11 harg11 arg12 harg12 arg13 h7 h10 W (imgS arg2 f (imgOf i)) x6 x9 V I)
    isplitl [H3]; · iexact H3
    isplitl [HM]; · iexact HM
    isplitl [H6]; · iexact H6
    isplitl [H9]; · iexact H9
    isplitl [H11]; · iexact H11
    iexact H12
  iintro %_ ⟨H3, HM, H6, H9, H11, H12⟩
  isplitl [HM HM' HS HX]
  · unfold atRest
    isplitl [HM']; · iexact HM'
    isplitl [HM]; · iexists _; iexact HM
    isplitl [HS]; · iexact HS
    iexact HX
  isplitl [HO]; · iexact HO
  isplitl [H3]; · iexact H3
  isplitl [H6]; · iexact H6
  isplitl [H9]; · iexact H9
  isplitl [H11]; · iexact H11
  iexact H12

theorem even_idle (h3 : k0_cond3 i = 1#1) (h4 : ¬ k0_cond4 i = 1#1) (h5 : ¬ k0_cond5 i = 1#1) (h6 : ¬ k0_cond6 i = 1#1) : evenBlock (F := F) i arg2 harg2 arg3 harg3 arg4 harg4 arg5 harg5 arg6 harg6 arg7 harg7 arg8 harg8 arg9 harg9 arg10 harg10 arg11 harg11 arg12 harg12 arg13 h3 = pure ⟨⟩ := by
  unfold evenBlock
  rw [whenP_neg h4, whenP_neg h5, whenP_neg h6]
  rfl

theorem odd_idle (h7 : k0_cond7 i = 1#1) (h8 : ¬ k0_cond8 i = 1#1) (h9 : ¬ k0_cond9 i = 1#1) (h10 : ¬ k0_cond10 i = 1#1) : oddBlock (F := F) i arg2 harg2 arg3 harg3 arg4 harg4 arg5 harg5 arg6 harg6 arg7 harg7 arg8 harg8 arg9 harg9 arg10 harg10 arg11 harg11 arg12 harg12 arg13 h7 = pure ⟨⟩ := by
  unfold oddBlock
  rw [whenP_neg h8, whenP_neg h9, whenP_neg h10]
  rfl

end Moves

end Cert.KernelIdeal.Own
-- ==== Proof.K.Conds.lean ====
/- At which points of the grid each part of the body runs. -/
module

public import proofs.«01_k».proof.Proof.K.Moves
public import proofs.«01_k».proof.Proof.Gen.KernelIdeal.Points
public import proofs.«01_k».proof.Proof.Gen.KernelIdeal.Launch

@[expose] public section

noncomputable section

namespace Cert.KernelIdeal.Own

open Cert.KernelIdeal Cert.KernelIdeal.Gen
open Idealize.ShloMosaic Idealize.ShloMosaic.TcCoe
open Idealize.SL Idealize.SL.Sem

theorem coord0 : ∀ t : Fin grid0.N, (grid0.coords t 0).val = t.val / 8 := by decide +kernel
theorem coord1 : ∀ t : Fin grid0.N, (grid0.coords t 1).val = t.val % 8 := by decide +kernel
theorem c1_iff : ∀ t : Fin grid0.N, k0_cond1 (grid0.coords t) = 1#1 ↔ t.val < 8 := by decide +kernel
theorem c2_iff : ∀ t : Fin grid0.N, cond2 (grid0.coords t) = 1#1 ↔ t.val = 0 := by decide +kernel
theorem c3_iff : ∀ t : Fin grid0.N, k0_cond3 (grid0.coords t) = 1#1 ↔ t.val / 8 % 2 = 0 := by decide +kernel
theorem c4_iff : ∀ t : Fin grid0.N, k0_cond4 (grid0.coords t) = 1#1 ↔ t.val % 8 = 0 := by decide +kernel
theorem c5_iff : ∀ t : Fin grid0.N, k0_cond5 (grid0.coords t) = 1#1 ↔ t.val % 8 = 0 ∧ t.val / 8 < 7 := by decide +kernel
theorem c6_iff : ∀ t : Fin grid0.N, k0_cond6 (grid0.coords t) = 1#1 ↔ t.val % 8 = 0 := by decide +kernel
theorem c7_iff : ∀ t : Fin grid0.N, k0_cond7 (grid0.coords t) = 1#1 ↔ t.val / 8 % 2 = 1 := by decide +kernel
theorem c8_iff : ∀ t : Fin grid0.N, k0_cond8 (grid0.coords t) = 1#1 ↔ t.val % 8 = 0 := by decide +kernel
theorem c9_iff : ∀ t : Fin grid0.N, k0_cond9 (grid0.coords t) = 1#1 ↔ t.val % 8 = 0 ∧ t.val / 8 < 7 := by decide +kernel
theorem c10_iff : ∀ t : Fin grid0.N, k0_cond10 (grid0.coords t) = 1#1 ↔ t.val % 8 = 0 := by decide +kernel
theorem c11_iff : ∀ t : Fin grid0.N, k0_cond11 (grid0.coords t) = 1#1 ↔ t.val % 8 = 7 := by decide +kernel
theorem imgOf_eq : ∀ t : Fin grid0.N, imgOf (grid0.coords t) = t.val / 8 := by decide +kernel
theorem nextOf_eq : ∀ t : Fin grid0.N, nextOf (grid0.coords t) = t.val / 8 + 1 := by decide +kernel

theorem idle2 : ∀ t : Fin cfg0.N, cfg0.idle 2 (cfg0.grid.coords t) = !decide (t.val % 8 = 7) := by decide +kernel
theorem idle3 : ∀ t : Fin cfg0.N, cfg0.idle 3 (cfg0.grid.coords t) = !decide (t.val % 8 = 0) := by decide +kernel
theorem fresh3 : ∀ t : Fin cfg0.N, cfg0.fresh 3 t.val = decide (t.val % 8 = 0) := by decide +kernel

end Cert.KernelIdeal.Own
-- ==== Proof.K.State.lean ====
/- What the scratch buffers hold at each point of the grid, and the body run from one point to the next. -/
module

public import proofs.«01_k».proof.Proof.K.Conds
public import Idealize.ShloMosaic.Lib.Pipeline.Frame
public import Idealize.ShloMosaic.Lib.Tactic
public import Idealize.ShloMosaic.Lib.Transfers

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

abbrev xM : Memref sig .tc .hbm S8x3x32x16x32x16 .f32 := Memref.whole main_call0_v0
abbrev aM : Memref sig .tc .vmem S48x32x32x16 .f32 := Memref.whole cc0_scratch0
abbrev bM : Memref sig .tc .vmem S48x32x32x16 .f32 := Memref.whole cc0_scratch1
abbrev zM : Memref sig .tc .vmem S1024x256 .f32 := Memref.whole cc0_scratch2
abbrev nM : Memref sig .tc .vmem S1x8192 .f32 := Memref.whole cc0_scratch3
abbrev vM : Memref sig .tc .vmem S1024x128 .f32 := Memref.whole cc0_scratch4
abbrev iM : Memref sig .tc .vmem S1024x128 .i32 := Memref.whole cc0_scratch5

theorem zero_lt8 : 0 < 8 := by decide

theorem slab_a : 0 < slabN aM cc0_scratch6 := by unfold slabN; decide
theorem slab_b : 0 < slabN bM cc0_scratch6 := by unfold slabN; decide

variable (m : (ℓ : Loc nD τ sig) → Buf (Elt F) ℓ)

/-- The buffers as the kernel finds them: the host's operations before it have run. -/
def V0 (c : Dev nD) : Valuation τ sig (Elt F) := StableHlo.after [hostOps0].flatten (fun b => m (c, b))
/-- The same, by a reference of the core's. -/
abbrev VV (c : Dev nD) (b : Ref sig .tc) : Buf (Elt F) ((c : Thread nD τ).loc b) := V0 m c (Proc.devRef .tc b)

/-- The grid's point of a number. -/
def pt (n : ℕ) : Fin cfg0.N := ⟨n % 64, Nat.mod_lt _ (by decide)⟩

theorem pt_val (t : Fin cfg0.N) : pt t.val = t := Fin.ext (Nat.mod_eq_of_lt (show t.val < 64 from t.isLt))

/-- The weights' block at a point. -/
def wB (c : Dev nD) (t : Fin cfg0.N) : S768x256.Idx → Elt F .f32 :=
  ((cfg0.win 0).blk t).view.read (Elt F) (VV m c (Pipeline.arrRef spec0 0))
/-- The codes' block at a point. -/
def cB (c : Dev nD) (t : Fin cfg0.N) : S256x1024.Idx → Elt F .f32 :=
  ((cfg0.win 1).blk t).view.read (Elt F) (VV m c (Pipeline.arrRef spec0 1))
/-- The images as the kernel finds them. -/
def xB (c : Dev nD) : Buf (Elt F) (xM.view.loc (c : Thread nD τ)) := VV m c main_call0_v0
/-- One image, as its copies leave it. -/
def imB (c : Dev nD) (n : ℕ) : S48x32x32x16.Idx → Elt F .f32 := imgS xM (c := c) (xB m c) n
/-- The squared lengths of a tile of the codes. -/
def cnV (c : Dev nD) (j : ℕ) : S1x1024.Idx → Elt F .f32 := k0_pay1 (cB m c (pt j))
/-- An image's features. -/
def ze (c : Dev nD) (b : ℕ) : S1x1024x256.Idx → Elt F .f32 := zAll (imB m c b) (wB m c (pt (8 * b)))
/-- An image's features, scaled. -/
def zs (c : Dev nD) (b : ℕ) : S1024x256.Idx → Elt F .f32 := zsAll (imB m c b) (wB m c (pt (8 * b)))

/-- One tile searched: the running minimum and its index. -/
def more (c : Dev nD) (n : ℕ) (p : (S1024x128.Idx → Elt F .f32) × (S1024x128.Idx → Elt F .i32)) :
    (S1024x128.Idx → Elt F .f32) × (S1024x128.Idx → Elt F .i32) :=
  (vAll (cB m c (pt n)) (cnV m c (n % 8)) (zs m c (n / 8)) p.1,
    iAll (grid0.coords (pt n)) (cB m c (pt n)) (cnV m c (n % 8)) (zs m c (n / 8)) p.1 p.2)

/-- The running minimum and its index after a point. -/
def acc (c : Dev nD) : ℕ → (S1024x128.Idx → Elt F .f32) × (S1024x128.Idx → Elt F .i32)
  | 0 => more m c 0 (vInit, iInit)
  | n + 1 => more m c (n + 1) (if (n + 1) % 8 = 0 then (vInit, iInit) else acc c n)

/-- The running minimum and its index where a point's search starts. -/
def start (c : Dev nD) (n : ℕ) : (S1024x128.Idx → Elt F .f32) × (S1024x128.Idx → Elt F .i32) :=
  if n % 8 = 0 then (vInit, iInit) else acc m c (n - 1)

theorem acc_eq (c : Dev nD) (n : ℕ) : acc m c n = more m c n (start m c n) := by
  cases n with
  | zero => rfl
  | succ n => rfl

theorem start_zero (c : Dev nD) (n : ℕ) (h : n % 8 = 0) : start m c n = (vInit, iInit) := if_pos h
theorem start_next (c : Dev nD) (n : ℕ) (h : ¬ (n + 1) % 8 = 0) : start m c (n + 1) = acc m c n := if_neg h

/-- The indices an image's last point writes. -/
def oF (c : Dev nD) (n : ℕ) : S1x1024x1.Idx → Elt F .i32 :=
  oAll (grid0.coords (pt n)) (cB m c (pt n)) (cnV m c (n % 8)) (zs m c (n / 8)) (start m c n).1 (start m c n).2

/-- What is known of the scratch before point `n`. -/
def Good (c : Dev nD) (n : ℕ) (Z : S1024x256.Idx → Elt F .f32) (V : S1024x128.Idx → Elt F .f32) (I : S1024x128.Idx → Elt F .i32)
    (N : S1x8192.Idx → Elt F .f32) : Prop :=
  (∀ j, j < 8 → j < n → ldN N j = cnV m c j) ∧ (¬ n % 8 = 0 → Z = zs m c (n / 8) ∧ V = (start m c n).1 ∧ I = (start m c n).2)

/-- The copies under way once `n` images have been asked for. -/
def fly (c : Dev nD) (n : ℕ) : sProp 𝕄 :=
  if h : 1 ≤ n ∧ n ≤ 7 then
    if n % 2 = 0 then under c xM cc0_scratch6 (xB m c) aM bM n (by omega) else under c xM cc0_scratch6 (xB m c) bM aM n (by omega)
  else atRest c xM aM bM cc0_scratch6 (xB m c)

theorem fly_even (c : Dev nD) (n k : ℕ) (hk : k < 8) (h : n = k) (h1 : 1 ≤ k) (h2 : k % 2 = 0) :
    (fly m c n : sProp 𝕄) = under c xM cc0_scratch6 (xB m c) aM bM k hk := by
  subst h
  unfold fly
  rw [dif_pos ⟨h1, by omega⟩, if_pos h2]

theorem fly_odd (c : Dev nD) (n k : ℕ) (hk : k < 8) (h : n = k) (h2 : k % 2 = 1) :
    (fly m c n : sProp 𝕄) = under c xM cc0_scratch6 (xB m c) bM aM k hk := by
  subst h
  unfold fly
  rw [dif_pos ⟨by omega, by omega⟩, if_neg (by omega)]

theorem fly_rest (c : Dev nD) (n : ℕ) (h : n = 0 ∨ n = 8) : (fly m c n : sProp 𝕄) = atRest c xM aM bM cc0_scratch6 (xB m c) := by
  unfold fly
  rw [dif_neg (by omega)]

/-- The state before point `n`. -/
def PhiT (c : Dev nD) (n : ℕ) : sProp 𝕄 :=
  iprop((∃ Z V I N, ⌜Good m c n Z V I N⌝ ∗ owns (c : Thread nD τ) zM fullShare Z ∗ owns (c : Thread nD τ) nM fullShare N
      ∗ owns (c : Thread nD τ) vM fullShare V ∗ owns (c : Thread nD τ) iM fullShare I)
    ∗ fly m c ((n + 7) / 8) ∗ ∃ r, prngReg c r)

section Point

variable (c : Dev nD) (t : Fin cfg0.N) (arg3 : Memref sig .tc .vmem S768x256 .f32) (harg3 : arg3.IsWhole) (arg4 : Memref sig .tc .vmem S256x1024 .f32) (harg4 : arg4.IsWhole) (arg5 : Memref sig .tc .vmem S1x1024x1 .i32) (harg5 : arg5.IsWhole) (arg6 : Memref sig .tc .vmem S1x1024x256 .f32) (harg6 : arg6.IsWhole)

/-- The squared lengths, computed during the first image. -/
theorem point_cn (N : S1x8192.Idx → Elt F .f32) (hN : ∀ j, j < 8 → j < t.val → ldN N j = cnV m c j) :
    iprop(owns (c : Thread nD τ) arg4 fullShare (cB m c t) ∗ owns (c : Thread nD τ) nM fullShare N : sProp 𝕄)
      ⊢ wp frame (wpE (defs₀ (F := F)) Variants.none (c : Thread nD τ) none) Set.univ
          (whenP (k0_cond1 (grid0.coords t) = 1#1) (fun h1 => cnBlock (F := F) (grid0.coords t) arg4 nM h1))
          (fun _ => iprop(owns (c : Thread nD τ) arg4 fullShare (cB m c t)
            ∗ ∃ N', ⌜∀ j, j < 8 → j < t.val + 1 → ldN N' j = cnV m c j⌝ ∗ owns (c : Thread nD τ) nM fullShare N')) := by
  by_cases h : k0_cond1 (grid0.coords t) = 1#1
  · have ht := (c1_iff t).1 h
    have hc : (grid0.coords t 1).val = t.val := (coord1 t).trans (Nat.mod_eq_of_lt ht)
    rw [whenP_pos h]
    iintro ⟨H4, HN⟩
    iapply (wp_wand_r frame (wpE (defs₀ (F := F)) Variants.none (c : Thread nD τ) none) Set.univ)
    isplitl [H4 HN]
    · iapply (cn_block c (grid0.coords t) arg4 nM h (cB m c t) N)
      isplitl [H4]; · iexact H4
      iexact HN
    iintro %_ ⟨H4, HN⟩
    isplitl [H4]; · iexact H4
    iexists _
    isplitr; swap; · iexact HN
    ipureintro
    intro j hj hjt
    rw [hc]
    by_cases e : j = t.val
    · subst e
      rw [ldN_put_same N _ hj]
      unfold cnV
      rw [pt_val]
    · rw [ldN_put_ne N t.val j ht hj (by omega)]
      exact hN j hj (by omega)
  · rw [whenP_neg h, Prog.pure_eq_ret]
    have ht : ¬ t.val < 8 := fun e => h ((c1_iff t).2 e)
    iintro ⟨H4, HN⟩
    rw [wp_ret]
    imodintro
    isplitl [H4]; · iexact H4
    iexists N
    isplitr; swap; · iexact HN
    ipureintro
    intro j hj _
    exact hN j hj (by omega)

/-- What the feature parts leave: the scratch as the search wants it. -/
def Moved (x6 : S1x1024x256.Idx → Elt F .f32) : sProp 𝕄 :=
  iprop(fly m c ((t.val + 1 + 7) / 8) ∗ (∃ W', owes (c : Thread nD τ) 0 W') ∗ owns (c : Thread nD τ) arg3 fullShare (wB m c t)
    ∗ owns (c : Thread nD τ) arg6 fullShare (if t.val % 8 = 0 then ze m c (t.val / 8) else x6)
    ∗ owns (c : Thread nD τ) zM fullShare (zs m c (t.val / 8)) ∗ owns (c : Thread nD τ) vM fullShare (start m c t.val).1
    ∗ owns (c : Thread nD τ) iM fullShare (start m c t.val).2)

/-- The parts as one sequence. -/
def moves : Prog (TpuEff nD τ sig (Elt F) Λ₀ .tc) PUnit :=
  whenP (k0_cond3 (grid0.coords t) = 1#1) (fun h3 => evenBlock (grid0.coords t) xM (Memref.isWhole_whole _) arg3 harg3 arg4 harg4 arg5 harg5 arg6 harg6 aM (Memref.isWhole_whole _) bM (Memref.isWhole_whole _) zM (Memref.isWhole_whole _) nM (Memref.isWhole_whole _) vM (Memref.isWhole_whole _) iM (Memref.isWhole_whole _) cc0_scratch6 h3) >>= fun _ =>
  whenP (k0_cond7 (grid0.coords t) = 1#1) (fun h7 => oddBlock (grid0.coords t) xM (Memref.isWhole_whole _) arg3 harg3 arg4 harg4 arg5 harg5 arg6 harg6 aM (Memref.isWhole_whole _) bM (Memref.isWhole_whole _) zM (Memref.isWhole_whole _) nM (Memref.isWhole_whole _) vM (Memref.isWhole_whole _) iM (Memref.isWhole_whole _) cc0_scratch6 h7)

/-- The copies the feature parts find under way. -/
def found (t : Fin cfg0.N) : sProp 𝕄 := if t.val = 0 then under c xM cc0_scratch6 (xB m c) aM bM 0 (by decide) else fly m c ((t.val + 7) / 8)

theorem moves_even (h3 : t.val / 8 % 2 = 0) :
    moves (F := F) t arg3 harg3 arg4 harg4 arg5 harg5 arg6 harg6 =
      (evenBlock (grid0.coords t) xM (Memref.isWhole_whole _) arg3 harg3 arg4 harg4 arg5 harg5 arg6 harg6 aM (Memref.isWhole_whole _) bM (Memref.isWhole_whole _) zM (Memref.isWhole_whole _) nM (Memref.isWhole_whole _) vM (Memref.isWhole_whole _) iM (Memref.isWhole_whole _) cc0_scratch6 ((c3_iff t).2 h3)
        >>= fun _ => pure ⟨⟩) := by
  unfold moves
  rw [whenP_pos ((c3_iff t).2 h3), whenP_neg (fun e => by have := (c7_iff t).1 e; omega)]

theorem moves_odd (h7 : t.val / 8 % 2 = 1) :
    moves (F := F) t arg3 harg3 arg4 harg4 arg5 harg5 arg6 harg6 =
      oddBlock (grid0.coords t) xM (Memref.isWhole_whole _) arg3 harg3 arg4 harg4 arg5 harg5 arg6 harg6 aM (Memref.isWhole_whole _) bM (Memref.isWhole_whole _) zM (Memref.isWhole_whole _) nM (Memref.isWhole_whole _) vM (Memref.isWhole_whole _) iM (Memref.isWhole_whole _) cc0_scratch6 ((c7_iff t).2 h7) := by
  unfold moves
  rw [whenP_neg (fun e => by have := (c3_iff t).1 e; omega), whenP_pos ((c7_iff t).2 h7)]
  rfl

/-- The features computed during an image's first point are those of the image. -/
theorem moved_of (x6 : S1x1024x256.Idx → Elt F .f32) (k : ℕ) (hk : k = t.val / 8) (h : t.val % 8 = 0) :
    iprop(fly m c (t.val / 8 + 1) ∗ (∃ W', owes (c : Thread nD τ) 0 W') ∗ owns (c : Thread nD τ) arg3 fullShare (wB m c t)
        ∗ owns (c : Thread nD τ) arg6 fullShare (zAll (imgS xM (c := c) (xB m c) k) (wB m c t))
        ∗ owns (c : Thread nD τ) zM fullShare (zsAll (imgS xM (c := c) (xB m c) k) (wB m c t)) ∗ owns (c : Thread nD τ) vM fullShare vInit
        ∗ owns (c : Thread nD τ) iM fullShare iInit)
      ⊢ (Moved m c t arg3 arg6 x6 : sProp 𝕄) := by
  subst hk
  have e : wB m c t = wB m c (pt (8 * (t.val / 8))) := by
    rw [show 8 * (t.val / 8) = t.val by omega, pt_val]
  unfold Moved
  rw [start_zero m c t.val h, if_pos h, show (t.val + 1 + 7) / 8 = t.val / 8 + 1 by omega]
  unfold ze zs imB
  rw [← e]

/-- The feature parts. -/
theorem point_moves (W : Waits sig Unit) (x6 : S1x1024x256.Idx → Elt F .f32) (Z : S1024x256.Idx → Elt F .f32) (V : S1024x128.Idx → Elt F .f32)
    (I : S1024x128.Idx → Elt F .i32) (hG : ¬ t.val % 8 = 0 → Z = zs m c (t.val / 8) ∧ V = (start m c t.val).1 ∧ I = (start m c t.val).2) :
    iprop(found m c t ∗ owes (c : Thread nD τ) 0 W ∗ owns (c : Thread nD τ) arg3 fullShare (wB m c t)
        ∗ owns (c : Thread nD τ) arg6 fullShare x6 ∗ owns (c : Thread nD τ) zM fullShare Z ∗ owns (c : Thread nD τ) vM fullShare V
        ∗ owns (c : Thread nD τ) iM fullShare I : sProp 𝕄)
      ⊢ wp frame (wpE (defs₀ (F := F)) Variants.none (c : Thread nD τ) none) Set.univ (moves (F := F) t arg3 harg3 arg4 harg4 arg5 harg5 arg6 harg6)
          (fun _ => Moved m c t arg3 arg6 x6) := by
  have tl : t.val < 64 := t.isLt
  have idle : ¬ t.val % 8 = 0 → iprop(found m c t ∗ owes (c : Thread nD τ) 0 W ∗ owns (c : Thread nD τ) arg3 fullShare (wB m c t)
        ∗ owns (c : Thread nD τ) arg6 fullShare x6 ∗ owns (c : Thread nD τ) zM fullShare Z ∗ owns (c : Thread nD τ) vM fullShare V
        ∗ owns (c : Thread nD τ) iM fullShare I : sProp 𝕄) ⊢ (Moved m c t arg3 arg6 x6 : sProp 𝕄) := by
    intro h0
    obtain ⟨rfl, rfl, rfl⟩ := hG h0
    unfold found Moved
    rw [if_neg (by omega), if_neg h0, show (t.val + 1 + 7) / 8 = (t.val + 7) / 8 by omega]
    iintro ⟨HF, HO, H⟩
    isplitl [HF]; · iexact HF
    isplitl [HO]; · iexists W; iexact HO
    iexact H
  rcases Nat.mod_two_eq_zero_or_one (t.val / 8) with hp | hp
  · rw [moves_even t arg3 harg3 arg4 harg4 arg5 harg5 arg6 harg6 hp]
    by_cases h0 : t.val % 8 = 0
    · have h5 := (c5_iff t).2 ⟨h0, by omega⟩
      have ef : (found m c t : sProp 𝕄) = under c xM cc0_scratch6 (xB m c) aM bM (imgOf (grid0.coords t)) (imgOf_lt _) := by
        unfold found
        by_cases e : t.val = 0
        · rw [if_pos e]; congr 1; rw [imgOf_eq, e]
        · rw [if_neg e]
          exact fly_even m c _ _ _ (by rw [imgOf_eq]; omega) (by rw [imgOf_eq]; omega) (by rw [imgOf_eq]; omega)
      have eg : (fly m c (t.val / 8 + 1) : sProp 𝕄) = under c xM cc0_scratch6 (xB m c) bM aM (nextOf (grid0.coords t)) (nextOf_lt3 _ ((c3_iff t).2 hp) h5) :=
        fly_odd m c _ _ _ (nextOf_eq t).symm (by rw [nextOf_eq]; omega)
      refine BIBase.Entails.trans ?_ (Idealize.SL.Sem.wp_mono frame (wpE (defs₀ (F := F)) Variants.none (c : Thread nD τ) none) Set.univ fun _ => moved_of m c t arg3 arg6 x6 (imgOf (grid0.coords t)) (imgOf_eq t) h0)
      rw [ef, eg, wp_bind]
      iintro H
      iapply (wp_wand_r frame (wpE (defs₀ (F := F)) Variants.none (c : Thread nD τ) none) Set.univ)
      isplitl [H]
      · iapply (even_next c (grid0.coords t) xM (Memref.isWhole_whole _) arg3 harg3 arg4 harg4 arg5 harg5 arg6 harg6 aM (Memref.isWhole_whole _) bM (Memref.isWhole_whole _) zM (Memref.isWhole_whole _) nM (Memref.isWhole_whole _) vM (Memref.isWhole_whole _) iM (Memref.isWhole_whole _) cc0_scratch6 (xB m c) ((c3_iff t).2 hp) ((c4_iff t).2 h0) h5 ((c6_iff t).2 h0) slab_a W (wB m c t) x6 Z V I)
        iexact H
      iintro %_ H
      rw [Prog.pure_eq_ret, wp_ret]
      imodintro
      iexact H
    · rw [even_idle _ _ _ _ _ _ _ _ _ _ _ _ _ _ _ _ _ _ _ _ _ _ _ _ ((c3_iff t).2 hp) (fun e => h0 ((c4_iff t).1 e)) (fun e => h0 ((c5_iff t).1 e).1) (fun e => h0 ((c6_iff t).1 e)), Prog.pure_eq_ret,
        wp_bind, wp_ret]
      iintro H
      imodintro
      rw [wp_ret]
      imodintro
      iapply (idle h0)
      iexact H
  · rw [moves_odd t arg3 harg3 arg4 harg4 arg5 harg5 arg6 harg6 hp]
    by_cases h0 : t.val % 8 = 0
    · have ef : (found m c t : sProp 𝕄) = under c xM cc0_scratch6 (xB m c) bM aM (imgOf (grid0.coords t)) (imgOf_lt _) := by
        unfold found
        rw [if_neg (by omega)]
        exact fly_odd m c _ _ _ (by rw [imgOf_eq]; omega) (by rw [imgOf_eq]; omega)
      by_cases hb : t.val / 8 < 7
      · have h9 := (c9_iff t).2 ⟨h0, hb⟩
        have eg : (fly m c (t.val / 8 + 1) : sProp 𝕄) = under c xM cc0_scratch6 (xB m c) aM bM (nextOf (grid0.coords t)) (nextOf_lt7 _ ((c7_iff t).2 hp) h9) :=
          fly_even m c _ _ _ (nextOf_eq t).symm (by rw [nextOf_eq]; omega) (by rw [nextOf_eq]; omega)
        refine BIBase.Entails.trans ?_ (Idealize.SL.Sem.wp_mono frame (wpE (defs₀ (F := F)) Variants.none (c : Thread nD τ) none) Set.univ fun _ => moved_of m c t arg3 arg6 x6 (imgOf (grid0.coords t)) (imgOf_eq t) h0)
        rw [ef, eg]
        exact odd_next c (grid0.coords t) xM (Memref.isWhole_whole _) arg3 harg3 arg4 harg4 arg5 harg5 arg6 harg6 aM (Memref.isWhole_whole _) bM (Memref.isWhole_whole _) zM (Memref.isWhole_whole _) nM (Memref.isWhole_whole _) vM (Memref.isWhole_whole _) iM (Memref.isWhole_whole _) cc0_scratch6 (xB m c) ((c7_iff t).2 hp) ((c8_iff t).2 h0) h9 ((c10_iff t).2 h0) slab_b W (wB m c t) x6 Z V I
      · have h9 : ¬ k0_cond9 (grid0.coords t) = 1#1 := fun e => hb ((c9_iff t).1 e).2
        have eg : (fly m c (t.val / 8 + 1) : sProp 𝕄) = atRest c xM aM bM cc0_scratch6 (xB m c) := fly_rest m c _ (Or.inr (by omega))
        refine BIBase.Entails.trans ?_ (Idealize.SL.Sem.wp_mono frame (wpE (defs₀ (F := F)) Variants.none (c : Thread nD τ) none) Set.univ fun _ => moved_of m c t arg3 arg6 x6 (imgOf (grid0.coords t)) (imgOf_eq t) h0)
        rw [ef, eg]
        exact odd_last c (grid0.coords t) xM (Memref.isWhole_whole _) arg3 harg3 arg4 harg4 arg5 harg5 arg6 harg6 aM (Memref.isWhole_whole _) bM (Memref.isWhole_whole _) zM (Memref.isWhole_whole _) nM (Memref.isWhole_whole _) vM (Memref.isWhole_whole _) iM (Memref.isWhole_whole _) cc0_scratch6 (xB m c) ((c7_iff t).2 hp) ((c8_iff t).2 h0) h9 ((c10_iff t).2 h0) slab_b W (wB m c t) x6 Z V I
    · rw [odd_idle _ _ _ _ _ _ _ _ _ _ _ _ _ _ _ _ _ _ _ _ _ _ _ _ ((c7_iff t).2 hp) (fun e => h0 ((c8_iff t).1 e)) (fun e => h0 ((c9_iff t).1 e).1) (fun e => h0 ((c10_iff t).1 e)), Prog.pure_eq_ret, wp_ret]
      iintro H
      imodintro
      iapply (idle h0)
      iexact H

/-- The search. -/
theorem point_main (N : S1x8192.Idx → Elt F .f32) (hN : ∀ j, j < 8 → j < t.val + 1 → ldN N j = cnV m c j) (x5 : S1x1024x1.Idx → Elt F .i32) :
    iprop(owns (c : Thread nD τ) arg4 fullShare (cB m c t) ∗ owns (c : Thread nD τ) nM fullShare N ∗ owns (c : Thread nD τ) arg5 fullShare x5
        ∗ owns (c : Thread nD τ) zM fullShare (zs m c (t.val / 8)) ∗ owns (c : Thread nD τ) vM fullShare (start m c t.val).1
        ∗ owns (c : Thread nD τ) iM fullShare (start m c t.val).2 : sProp 𝕄)
      ⊢ wp frame (wpE (defs₀ (F := F)) Variants.none (c : Thread nD τ) none) Set.univ
          (mainBlock (grid0.coords t) xM (Memref.isWhole_whole _) arg3 harg3 arg4 harg4 arg5 harg5 arg6 harg6 aM (Memref.isWhole_whole _) bM (Memref.isWhole_whole _) zM (Memref.isWhole_whole _) nM (Memref.isWhole_whole _) vM (Memref.isWhole_whole _) iM (Memref.isWhole_whole _) cc0_scratch6)
          (fun _ => iprop(owns (c : Thread nD τ) arg4 fullShare (cB m c t) ∗ owns (c : Thread nD τ) nM fullShare N
            ∗ owns (c : Thread nD τ) arg5 fullShare (if t.val % 8 = 7 then oF m c t.val else x5)
            ∗ owns (c : Thread nD τ) zM fullShare (zs m c (t.val / 8)) ∗ owns (c : Thread nD τ) vM fullShare (acc m c t.val).1
            ∗ owns (c : Thread nD τ) iM fullShare (acc m c t.val).2)) := by
  have e : ldN N (grid0.coords t 1).val = cnV m c (t.val % 8) := by
    rw [coord1 t]
    exact hN _ (Nat.mod_lt _ (by decide)) (Nat.lt_succ_of_le (Nat.mod_le _ _))
  rw [acc_eq]
  unfold more oF
  rw [pt_val, ← e]
  by_cases h : t.val % 8 = 7
  · rw [if_pos h]
    exact main_block_last c (grid0.coords t) xM (Memref.isWhole_whole _) arg3 harg3 arg4 harg4 arg5 harg5 arg6 harg6 aM (Memref.isWhole_whole _) bM (Memref.isWhole_whole _) zM (Memref.isWhole_whole _) nM (Memref.isWhole_whole _) vM (Memref.isWhole_whole _) iM (Memref.isWhole_whole _) cc0_scratch6 ((c11_iff t).2 h) (cB m c t) N (zs m c (t.val / 8)) (start m c t.val).1 (start m c t.val).2 x5
  · rw [if_neg h]
    iintro ⟨H4, HN, H5, H⟩
    iapply (wp_wand_r frame (wpE (defs₀ (F := F)) Variants.none (c : Thread nD τ) none) Set.univ)
    isplitl [H4 HN H]
    · iapply (main_block c (grid0.coords t) xM (Memref.isWhole_whole _) arg3 harg3 arg4 harg4 arg5 harg5 arg6 harg6 aM (Memref.isWhole_whole _) bM (Memref.isWhole_whole _) zM (Memref.isWhole_whole _) nM (Memref.isWhole_whole _) vM (Memref.isWhole_whole _) iM (Memref.isWhole_whole _) cc0_scratch6 (fun q => h ((c11_iff t).1 q)) (cB m c t) N (zs m c (t.val / 8)) (start m c t.val).1 (start m c t.val).2)
      isplitl [H4]; · iexact H4
      isplitl [HN]; · iexact HN
      iexact H
    iintro %_ ⟨H4, HN, H⟩
    isplitl [H4]; · iexact H4
    isplitl [HN]; · iexact HN
    isplitl [H5]; · iexact H5
    iexact H

/-- The copies of the first image, asked for at the first point. -/
theorem point_start :
    (fly m c ((t.val + 7) / 8) : sProp 𝕄)
      ⊢ wp frame (wpE (defs₀ (F := F)) Variants.none (c : Thread nD τ) none) Set.univ
          (whenP (cond2 (grid0.coords t) = 1#1) (fun _ => startFrom (F := F) xM aM cc0_scratch6 0 (by decide) 48 0 rfl))
          (fun _ => found m c t) := by
  unfold found
  by_cases h : cond2 (grid0.coords t) = 1#1
  · have ht := (c2_iff t).1 h
    rw [whenP_pos h, if_pos ht, fly_rest m c _ (Or.inl (by omega))]
    unfold atRest
    iintro ⟨HA, HB, HS, HX⟩
    iapply (start_img c xM cc0_scratch6 (xB m c) aM bM 0 zero_lt8)
    isplitl [HS]; · iexact HS
    isplitl [HX]; · iexact HX
    isplitl [HA]; · iexact HA
    isplitl [HB]; · iexact HB
    iintro H; iexact H
  · rw [whenP_neg h, if_neg (fun e => h ((c2_iff t).2 e)), Prog.pure_eq_ret, wp_ret]
    iintro H; imodintro; iexact H

/-- The body at a point. -/
theorem point_body (W : Waits sig Unit) (x5 : S1x1024x1.Idx → Elt F .i32) (x6 : S1x1024x256.Idx → Elt F .f32) :
    iprop(PhiT m c t.val ∗ owes (c : Thread nD τ) 0 W ∗ owns (c : Thread nD τ) arg3 fullShare (wB m c t)
        ∗ owns (c : Thread nD τ) arg4 fullShare (cB m c t) ∗ owns (c : Thread nD τ) arg5 fullShare x5 ∗ owns (c : Thread nD τ) arg6 fullShare x6)
      ⊢ wp frame (wpE (defs₀ (F := F)) Variants.none (c : Thread nD τ) none) Set.univ
          (cc0__vq_kernel (grid0.coords t) xM (Memref.isWhole_whole _) arg3 harg3 arg4 harg4 arg5 harg5 arg6 harg6 aM (Memref.isWhole_whole _) bM (Memref.isWhole_whole _) zM (Memref.isWhole_whole _) nM (Memref.isWhole_whole _) vM (Memref.isWhole_whole _) iM (Memref.isWhole_whole _) cc0_scratch6)
          (fun _ => iprop(PhiT m c (t.val + 1) ∗ (∃ W', owes (c : Thread nD τ) 0 W') ∗ owns (c : Thread nD τ) arg3 fullShare (wB m c t)
            ∗ owns (c : Thread nD τ) arg4 fullShare (cB m c t) ∗ owns (c : Thread nD τ) arg5 fullShare (if t.val % 8 = 7 then oF m c t.val else x5)
            ∗ owns (c : Thread nD τ) arg6 fullShare (if t.val % 8 = 0 then ze m c (t.val / 8) else x6))) := by
  rw [cc0__vq_kernel_eq_skeleton, skel_eq_kbody]
  unfold PhiT kbody
  have assoc : ∀ (p q : Prog (TpuEff nD τ sig (Elt F) Λ₀ .tc) PUnit) (r : Prog (TpuEff nD τ sig (Elt F) Λ₀ .tc) PUnit),
      (p >>= fun _ => q >>= fun _ => r) = ((p >>= fun _ => q) >>= fun _ => r) := fun p q r => (bind_assoc p _ _).symm
  rw [assoc (whenP (k0_cond3 (grid0.coords t) = 1#1) _) (whenP (k0_cond7 (grid0.coords t) = 1#1) _) _]
  iintro ⟨⟨⟨%Z, %V, %I, %N, %hG, HZ, HN, HV, HI⟩, HF, Hg⟩, HO, H3, H4, H5, H6⟩
  obtain ⟨hN, hG⟩ := hG
  rw [wp_bind]
  iapply (wp_wand_r frame (wpE (defs₀ (F := F)) Variants.none (c : Thread nD τ) none) Set.univ)
  isplitl [H4 HN]
  · iapply (point_cn m c t arg4 N hN)
    isplitl [H4]; · iexact H4
    iexact HN
  iintro %_ ⟨H4, ⟨%N', %hN', HN⟩⟩
  rw [wp_bind]
  iapply (wp_wand_r frame (wpE (defs₀ (F := F)) Variants.none (c : Thread nD τ) none) Set.univ)
  isplitl [HF]
  · iapply (point_start m c t)
    iexact HF
  iintro %_ HF
  rw [wp_bind]
  iapply (wp_wand_r frame (wpE (defs₀ (F := F)) Variants.none (c : Thread nD τ) none) Set.univ)
  isplitl [HF HO H3 H6 HZ HV HI]
  · iapply (point_moves m c t arg3 harg3 arg4 harg4 arg5 harg5 arg6 harg6 W x6 Z V I hG)
    isplitl [HF]; · iexact HF
    isplitl [HO]; · iexact HO
    isplitl [H3]; · iexact H3
    isplitl [H6]; · iexact H6
    isplitl [HZ]; · iexact HZ
    isplitl [HV]; · iexact HV
    iexact HI
  unfold Moved
  iintro %_ ⟨HF, HO, H3, H6, HZ, HV, HI⟩
  iapply (wp_wand_r frame (wpE (defs₀ (F := F)) Variants.none (c : Thread nD τ) none) Set.univ)
  isplitl [H4 HN H5 HZ HV HI]
  · iapply (point_main m c t arg3 harg3 arg4 harg4 arg5 harg5 arg6 harg6 N' hN' x5)
    isplitl [H4]; · iexact H4
    isplitl [HN]; · iexact HN
    isplitl [H5]; · iexact H5
    isplitl [HZ]; · iexact HZ
    isplitl [HV]; · iexact HV
    iexact HI
  iintro %_ ⟨H4, HN, H5, HZ, HV, HI⟩
  isplitl [HZ HN HV HI HF Hg]
  · isplitl [HZ HN HV HI]
    · iexists (zs m c (t.val / 8)); iexists (acc m c t.val).1; iexists (acc m c t.val).2; iexists N'
      isplitr
      · ipureintro
        refine ⟨hN', fun h => ⟨by rw [show (t.val + 1) / 8 = t.val / 8 by omega], ?_, ?_⟩⟩
        · rw [start_next m c t.val h]
        · rw [start_next m c t.val h]
      isplitl [HZ]; · iexact HZ
      isplitl [HN]; · iexact HN
      isplitl [HV]; · iexact HV
      iexact HI
    isplitl [HF]; · iexact HF
    iexact Hg
  isplitl [HO]; · iexact HO
  isplitl [H3]; · iexact H3
  isplitl [H4]; · iexact H4
  isplitl [H5]; · iexact H5
  iexact H6

end Point

end Cert.KernelIdeal.Own
-- ==== Proof.K.Frame.lean ====
/- The run of the whole kernel: the body's step at every point, put together by the launch. -/
module

public import proofs.«01_k».proof.Proof.K.State
public import proofs.«01_k».proof.Proof.Gen.KernelIdeal.Skeleton
public import Idealize.ShloMosaic.Lib.Pipeline.FrameSuffix
public import Idealize.ShloMosaic.Lib.StableHlo.RunRead

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The kernel's own semaphores. -/
abbrev osem0 : Fin 8 → SemLoc sig := fun j => SemLoc.dma (semW cc0_scratch6 j.val).sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = sems0 c cc0_scratch6 := by
  rw [Pipeline.ownSems0_eq_of_list c osem0 [0, 1, 2, 3, 4, 5, 6, 7] (by decide) (by decide)]
  unfold sems0
  rw [BI.bigSep_eq_bigSepL_of_eq [0, 1, 2, 3, 4, 5, 6, 7] (by decide) (by decide)]
  rfl
/-- The images stay where they are. -/
def H0 : Finset (Ref sig .tc) := {main_call0_v0}
theorem H0_sub : H0 ⊆ Pipeline.restRefs sig spec0 := by decide

/-- What the launch gives and takes back. -/
theorem PhiD0_eq (c : Dev nD) :
    (Pipeline.ΦD osem0 spec0 H0 (fun c b => VV m c b) c : sProp 𝕄)
      = iprop(((∃ d, owns (c : Thread nD τ) aM fullShare d) ∗ (∃ d, owns (c : Thread nD τ) bM fullShare d) ∗ (∃ d, owns (c : Thread nD τ) zM fullShare d)
            ∗ (∃ d, owns (c : Thread nD τ) nM fullShare d) ∗ (∃ d, owns (c : Thread nD τ) vM fullShare d) ∗ (∃ d, owns (c : Thread nD τ) iM fullShare d))
          ∗ (∃ r, prngReg c r) ∗ sems0 c cc0_scratch6 ∗ (xM.view.loc (c : Thread nD τ) ↦{fullShare} xB m c)) := by
  rw [Pipeline.ΦD_eq, scopedRest0_eq, ownSems00_eq, show (bigSep H0 (fun b => ((c : Thread nD τ).loc b) ↦{fullShare} VV m c b) : sProp 𝕄)
    = (xM.view.loc (c : Thread nD τ) ↦{fullShare} xB m c) from by rw [BI.bigSep_eq_bigSepL_of_eq [main_call0_v0] (by decide) (by decide)]; rfl]
  simp only [owns_whole]
  rfl

/-- The proof data: the blocks as found, the indices and the features as computed. -/
def dats (_ : Fin 1) (c : Dev nD) : Dat τ (Elt F) Unit ℕ (Pipeline.UD sig nD τ) ℕ cfg0 c where
  A w := VV m c (Pipeline.arrRef spec0 w)
  after w t := match w with
    | 0 => wB m c t
    | 1 => cB m c t
    | 2 => oF m c t.val
    | 3 => ze m c (t.val / 8)
    | ⟨_ + 4, h⟩ => absurd h (Nat.not_lt.2 (Nat.le_add_left _ _))
  Φ t := PhiT m c t.val
  q _ := fullShare
  owed _ := 0

theorem before0 (c : Dev nD) (t : Fin cfg0.N) (d) : (dats m 0 c).before 0 t d = wB m c t :=
  (dats m 0 c).before_in_eq_fetched 0 rfl (fun _ => rfl) (fun _ _ _ => rfl) (fun _ => rfl) t d
theorem before1 (c : Dev nD) (t : Fin cfg0.N) (d) : (dats m 0 c).before 1 t d = cB m c t :=
  (dats m 0 c).before_in_eq_fetched 1 rfl (fun _ => rfl) (fun _ _ _ => rfl) (fun _ => rfl) t d

theorem carry3 (c : Dev nD) (t : Fin cfg0.N) (h0 : ¬ t.val % 8 = 0) :
    (dats m 0 c).after 3 t = (dats m 0 c).after 3 ⟨t.val - 1, Nat.lt_of_le_of_lt (Nat.sub_le _ _) t.isLt⟩ := by
  show ze m c (t.val / 8) = ze m c ((t.val - 1) / 8)
  rw [show (t.val - 1) / 8 = t.val / 8 by omega]

theorem before3 (c : Dev nD) (t : Fin cfg0.N) (h0 : ¬ t.val % 8 = 0) (d) : (dats m 0 c).before 3 t d = ze m c (t.val / 8) := by
  have hc : ∀ t : Fin cfg0.N, t.val ≠ 0 → cfg0.idle 3 (cfg0.grid.coords t) = true → cfg0.fresh 3 t.val = false →
      (dats m 0 c).after 3 t = (dats m 0 c).after 3 ⟨t.val - 1, Nat.lt_of_le_of_lt (Nat.sub_le _ _) t.isLt⟩ := by
    intro t _ hi _
    rw [idle3] at hi
    exact carry3 m c t (by simpa using hi)
  rw [(dats m 0 c).before_out_traj 3 rfl (fun _ _ => rfl) hc t.val t rfl d, fresh3, if_neg (by simpa using h0), ← carry3 m c t h0]
  rfl

set_option maxHeartbeats 1000000 in
theorem body_obligation (c : Dev nD) : BodyObligation (dats (F := F) m 0 c) (defs₀ (F := F)) Variants.none () Set.univ := fun t => by
  have hrow : defs₀ (F := F) .tc cfg0.body (cfg0.bodyArgs t (cfg0.slots t)) = bodyAt0 t := by unfold defs₀; rw [Defs.onTc_tc]
  rw [bigSep_W0, bigSep_W0, hrow]
  unfold bodyAt0 Dat.owesAt Pipeline.owesWithin
  rw [show (dats m 0 c).owed t.castSucc = 0 from rfl, show (dats m 0 c).owed t.succ = 0 from rfl,
    show (dats m 0 c).Φ t.castSucc = PhiT m c t.val from rfl, show (dats m 0 c).Φ t.succ = PhiT m c (t.val + 1) from rfl]
  dsimp only
  simp only [before0 m c t, before1 m c t]
  iintro ⟨HP, ⟨%W, %hW, HO⟩, ⟨%d0, H3⟩, ⟨%d1, H4⟩, ⟨%d2, H5⟩, ⟨%d3, H6⟩⟩
  iapply (wp_wand_r frame (wpE (defs₀ (F := F)) Variants.none (c : Thread nD τ) none) Set.univ)
  isplitl [HP HO H3 H4 H5 H6]
  · iapply (point_body m c t _ _ _ _ _ _ _ _ W _ _)
    isplitl [HP]; · iexact HP
    isplitl [HO]; · iexact HO
    isplitl [H3]; · iexact H3
    isplitl [H4]; · iexact H4
    isplitl [H5]; · iexact H5
    iexact H6
  iintro %_ ⟨HP, ⟨%W', HO⟩, H3, H4, H5, H6⟩
  isplitl [HP]; · iexact HP
  isplitl [HO]
  · iexists W'; isplitr; · ipureintro; exact fun _ _ => Or.inl trivial
    iexact HO
  isplitl [H3]; · iexact H3
  isplitl [H4]; · iexact H4
  isplitl [H5]
  · rw [show idle0 2 (grid0.coords t) = !decide (t.val % 8 = 7) from idle2 t]
    by_cases h7 : t.val % 8 = 7
    · rw [if_pos h7, decide_eq_true h7, Bool.not_true]
      iexact H5
    · rw [if_neg h7, decide_eq_false h7, Bool.not_false, show (win0 2).flush t = false from Bool.eq_false_iff.2 (fun e => h7 ((flush0_2 t).1 e))]
      iexists d2; iexact H5
  · rw [show idle0 3 (grid0.coords t) = !decide (t.val % 8 = 0) from idle3 t]
    by_cases h0 : t.val % 8 = 0
    · rw [if_pos h0, decide_eq_true h0, Bool.not_true]
      iexact H6
    · rw [if_neg h0, decide_eq_false h0, Bool.not_false]
      by_cases h7 : t.val % 8 = 7
      · rw [show (win0 3).flush t = true from (flush0_3 t).2 h7, before3 m c t h0]
        iexact H6
      · rw [show (win0 3).flush t = false from Bool.eq_false_iff.2 (fun e => h7 ((flush0_3 t).1 e))]
        iexists d3; iexact H6

theorem hin (c : Dev nD) : (Pipeline.ΦD osem0 spec0 H0 (fun c b => VV m c b) c : sProp 𝕄) ⊢ (dats m 0 c).Φ 0 := by
  rw [PhiD0_eq, show (dats m 0 c).Φ 0 = PhiT m c 0 from rfl]
  unfold PhiT
  rw [fly_rest m c _ (Or.inl (by decide))]
  unfold atRest
  iintro ⟨⟨HA, HB, ⟨%Z, HZ⟩, ⟨%N, HN⟩, ⟨%V, HV⟩, ⟨%I, HI⟩⟩, Hg, HS, HX⟩
  isplitl [HZ HN HV HI]
  · iexists Z; iexists V; iexists I; iexists N
    isplitr
    · ipureintro
      exact ⟨fun j _ h => absurd h (Nat.not_lt_zero _), fun h => absurd rfl h⟩
    isplitl [HZ]; · iexact HZ
    isplitl [HN]; · iexact HN
    isplitl [HV]; · iexact HV
    iexact HI
  isplitl [HA HB HS HX]
  · isplitl [HA]; · iexact HA
    isplitl [HB]; · iexact HB
    isplitl [HS]; · iexact HS
    iexact HX
  iexact Hg

theorem hout (c : Dev nD) : (dats m 0 c).Φ (Fin.last cfg0.N) ⊢ (Pipeline.ΦD osem0 spec0 H0 (fun c b => VV m c b) c : sProp 𝕄) := by
  rw [PhiD0_eq, show (dats m 0 c).Φ (Fin.last cfg0.N) = PhiT m c 64 from rfl]
  unfold PhiT
  rw [fly_rest m c _ (Or.inr (by decide))]
  unfold atRest
  iintro ⟨⟨%Z, %V, %I, %N, -, HZ, HN, HV, HI⟩, ⟨HA, HB, HS, HX⟩, Hg⟩
  isplitl [HA HB HZ HN HV HI]
  · isplitl [HA]; · iexact HA
    isplitl [HB]; · iexact HB
    isplitl [HZ]; · iexists Z; iexact HZ
    isplitl [HN]; · iexists N; iexact HN
    isplitl [HV]; · iexists V; iexact HV
    iexists I; iexact HI
  isplitl [Hg]; · iexact Hg
  isplitl [HS]; · iexact HS
  iexact HX

theorem hmainK : Pipeline.HMainK (Ix := Unit) (Name := ℕ) (U := Pipeline.UD sig nD τ) (Lvl := ℕ) cfgs 0 defs₀ Variants.none m (main (F := F))
    (fun c b => V0 m c (Proc.devRef .tc b)) (fun _ => Pipeline.chain ([hostOps1].map StableHlo.seq)) :=
  Pipeline.hmain_around cfgs 0 defs₀ Variants.none m main [hostOps0] [hostOps1] hostOps0_sub ⟨rfl, rfl, rfl⟩
    (fun c => (main_chain c).trans rfl)

theorem tail_sub : ∀ ops ∈ [hostOps1 (F := F)], ∀ op ∈ ops, op.bufs ⊆ Pipeline.tailRefsBut sig Pipeline.Prefetch.none spec0 H0 := by
  have ne : ∀ b : Ref sig .tc, main_call0_v0 ≠ b → Proc.devRef (τ := τ) .tc main_call0_v0 ≠ Proc.devRef .tc b := fun b h e => h (Proc.devRef_injective _ e)
  have h : (hostOps1 (F := F)).Forall fun op => Proc.devRef .tc main_call0_v0 ∉ op.bufs := by
    have nary : Proc.devRef (τ := τ) .tc main_call0_v0 ∉ insert (Proc.devRef .tc main_v0_0)
        (Finset.univ.image fun k => Proc.devRef .tc ((![main_call0_v6, main_call0_v5, main_call0_v7] : Fin 3 → Ref sig .tc) k)) := by
      intro e
      rcases Finset.mem_insert.1 e with e | e
      · exact ne _ (by decide) e
      · obtain ⟨k, -, hk⟩ := Finset.mem_image.1 e
        exact ne _ ((by decide : ∀ k : Fin 3, main_call0_v0 ≠ (![main_call0_v6, main_call0_v5, main_call0_v7] : Fin 3 → Ref sig .tc) k) k) hk.symm
    have one : ∀ b : Ref sig .tc, main_call0_v0 ≠ b → Proc.devRef (τ := τ) .tc main_call0_v0 ∉ ({Proc.devRef .tc b} : Finset (DevRef τ sig)) :=
      fun b h e => ne b h (Finset.mem_singleton.1 e)
    have two : ∀ a b : Ref sig .tc, main_call0_v0 ≠ a → main_call0_v0 ≠ b → Proc.devRef (τ := τ) .tc main_call0_v0 ∉ ({Proc.devRef .tc a, Proc.devRef .tc b} : Finset (DevRef τ sig)) :=
      fun a b h h' e => (Finset.mem_insert.1 e).elim (ne a h) fun e => one b h' e
    refine ⟨two main_call0_v3_0 main_call0_v4 (by decide) (by decide), two main_call0_v4 main_call0_v5 (by decide) (by decide), one main_call0_c (by decide),
      two main_call0_c main_call0_v6 (by decide) (by decide), one main_call0_c_0 (by decide), two main_call0_c_0 main_call0_v7 (by decide) (by decide), ?_,
      one main_call0_c_1 (by decide), two main_call0_c_1 main_v0_1 (by decide) (by decide)⟩
    intro e
    refine nary ?_
    rcases Finset.mem_insert.1 e with e | e
    · exact Finset.mem_insert.2 (Or.inl e)
    · obtain ⟨k, hk, hk'⟩ := Finset.mem_image.1 e
      refine Finset.mem_insert.2 (Or.inr (Finset.mem_image.2 ⟨k, hk, ?_⟩))
      rw [← hk']
      match k with
      | 0 => rfl
      | 1 => rfl
      | 2 => rfl
  intro ops ho op hop
  rw [List.mem_singleton] at ho
  subst ho
  refine Pipeline.sub_tailRefsBut _ _ _ op (List.forall_iff_forall_mem.1 hostOps1_sub op hop) (fun k => k.elim0) fun b hb => ?_
  rw [show b = main_call0_v0 from Finset.mem_singleton.1 hb]
  exact List.forall_iff_forall_mem.1 h op hop

theorem tail_fresh : ∀ ops ∈ [hostOps1 (F := F)], ∀ op ∈ ops, op.fresh = ∅ := by
  have h : (hostOps1 (F := F)).Forall fun op => op.fresh = ∅ := ⟨rfl, rfl, rfl, rfl, rfl, rfl, rfl, rfl, rfl⟩
  intro ops ho op hop
  rw [List.mem_singleton] at ho
  subst ho
  exact List.forall_iff_forall_mem.1 h op hop

theorem tail_keep : ∀ ops ∈ [hostOps1 (F := F)], ∀ op ∈ ops, ∀ w, Proc.devRef .tc (Pipeline.arrRef spec0 w) ∉ op.writes := by
  have off : ∀ b : Ref sig .tc, (∀ w, Pipeline.arrRef spec0 w ≠ b) → ∀ w, Proc.devRef (τ := τ) .tc (Pipeline.arrRef spec0 w) ∉ ({Proc.devRef .tc b} : Finset (DevRef τ sig)) :=
    fun b h w e => h w (Proc.devRef_injective _ (Finset.mem_singleton.1 e))
  have h : (hostOps1 (F := F)).Forall fun op => ∀ w, Proc.devRef .tc (Pipeline.arrRef spec0 w) ∉ op.writes := by
    refine ⟨off main_call0_v4 (by decide), off main_call0_v5 (by decide), off main_call0_c (by decide), off main_call0_v6 (by decide), off main_call0_c_0 (by decide),
      off main_call0_v7 (by decide), off main_v0_0 (by decide), off main_call0_c_1 (by decide), off main_v0_1 (by decide)⟩
  intro ops ho op hop
  rw [List.mem_singleton] at ho
  subst ho
  exact List.forall_iff_forall_mem.1 h op hop

-- the launch theorem's implicit arguments are found by unfolding plain definitions in types
set_option backward.isDefEq.respectTransparency.types false in
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keep)
    (hmain := hmainK m) (hA := fun _ _ => rfl) (hin := hin m) (hout := hout m)

/-- What the host's operations before the kernel write. -/
def wrote0 : List (Ref sig .tc) := [main_call0_v0, main_call0_v1, main_call0_v2]
/-- What those after it write. -/
def wrote1 : List (Ref sig .tc) :=
  [main_call0_v4, main_call0_v5, main_call0_c, main_call0_v6, main_call0_c_0, main_call0_v7, main_v0_0, main_call0_c_1, main_v0_1]

/-- A buffer nothing writes keeps its contents. -/
theorem kept (c : Dev nD) (b : Ref sig .tc) (h0 : b ∉ wrote0) (h1 : b ∉ wrote1) (hw : ∀ w, Pipeline.arrRef spec0 w ≠ b) :
    Pipeline.afterTail₀ cfgs (dats m) 0 (V0 m) [hostOps1] c b = m ((c : Thread nD τ).loc b) := by
  unfold Pipeline.afterTail₀
  refine (StableHlo.after_unwritten (ops := hostOps1) wrote1 rfl h1 _).trans ?_
  refine (Pipeline.withArrays_of_ne spec0 c _ _ b hw).trans ?_
  exact StableHlo.after_unwritten (ops := hostOps0) wrote0 rfl h0 _

/-- The kernel runs to its end, leaves its arguments as they were and its counters at zero. -/
theorem frame_run : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) := by
  refine (θ_run defs _ _).mono (fun r h => ⟨fun c => ⟨?_, ?_, ?_⟩, h.2⟩) (run_main m ρ)
  · exact ((h.1 c).2 main_arg0 (Pipeline.mem_restRefs_of main_arg0 (by decide) (by decide))).trans (kept m c main_arg0 (by decide) (by decide) (by decide))
  · exact ((h.1 c).2 main_arg1 (Pipeline.mem_restRefs_of main_arg1 (by decide) (by decide))).trans (kept m c main_arg1 (by decide) (by decide) (by decide))
  · exact ((h.1 c).2 main_arg2 (Pipeline.mem_restRefs_of main_arg2 (by decide) (by decide))).trans (kept m c main_arg2 (by decide) (by decide) (by decide))

end Cert.KernelIdeal.Own
-- ==== Proof.R.Run.lean ====
/- The reference's run: a straight line of host operations. Every execution ends with each buffer at the fold of
   the operations' results over its launch contents, so the arguments are unchanged and no semaphore moves. -/
module

public import proofs.«01_k».proof.Proof.Gen.ReferenceIdeal
public import Idealize.ShloMosaic.Lib.StableHlo.RunRead
public import Idealize.ShloMosaic.Lib.Quiescent
public import Idealize.ShloMosaic.Init

@[expose] public section

noncomputable section

namespace Cert.ReferenceIdeal.Own

open Idealize.ShloMosaic Idealize.ShloMosaic.TcCoe Idealize.ShloMosaic.StableHlo Idealize.SL.Sem
open Cert.ReferenceIdeal Cert.ReferenceIdeal.Gen

variable {F : FTy → Type} [FloatOps F] [∀ e, Nonempty (Elt F e)]

/-- The reference's operations in order, the arg-min's body in its place. -/
abbrev ops : List (HloOp τ sig (Elt F)) :=
  [ reshape main_arg0 main_v0 (rfl : (.f32 : EltTy) = .f32) shapeCasts_S8x3x512x512_S8x3x32x16x32x16,
    unary main_v0 main_v1 ((transpose S8x32x32x3x16x16 [0, 2, 4, 1, 3, 5] · transposes_S8x3x32x16x32x16_S8x32x32x3x16x16_0_2_4_1_3_5) : (⟨S8x3x32x16x32x16, .f32⟩ : BufTy).Contents (Elt F) → (⟨S8x32x32x3x16x16, .f32⟩ : BufTy).Contents (Elt F)),
    reshape main_v1 main_v2 (rfl : (.f32 : EltTy) = .f32) shapeCasts_S8x32x32x3x16x16_S8x1024x768,
    unary main_arg1 main_v3 ((transpose S768x256 [1, 0] · transposes_S256x768_S768x256_1_0) : (⟨S256x768, .f32⟩ : BufTy).Contents (Elt F) → (⟨S768x256, .f32⟩ : BufTy).Contents (Elt F)),
    binary main_v2 main_v3 main_v4 ((fun l r => Host.dotGeneral dot_S8x1024x768_S768x256_S8x1024x256_2_0_01_1_n_n none l r) : (⟨S8x1024x768, .f32⟩ : BufTy).Contents (Elt F) → (⟨S768x256, .f32⟩ : BufTy).Contents (Elt F) → (⟨S8x1024x256, .f32⟩ : BufTy).Contents (Elt F)),
    binary main_v4 main_v4 main_v5 (mulf : (⟨S8x1024x256, .f32⟩ : BufTy).Contents (Elt F) → (⟨S8x1024x256, .f32⟩ : BufTy).Contents (Elt F) → (⟨S8x1024x256, .f32⟩ : BufTy).Contents (Elt F)),
    nullary main_cst (constant S_ .f32 0x00000000#32),
    binary main_v5 main_cst main_v6 ((fun x v => Host.reduceAdd x v reducesTo_S8x1024x256_S8x1024_d2 h_S_) : (⟨S8x1024x256, .f32⟩ : BufTy).Contents (Elt F) → (⟨S_, .f32⟩ : BufTy).Contents (Elt F) → (⟨S8x1024, .f32⟩ : BufTy).Contents (Elt F)),
    unary main_v6 main_v7 (broadcastInDim S8x1024x1 ![0, 1] bcast_S8x1024_S8x1024x1_0_1 : (⟨S8x1024, .f32⟩ : BufTy).Contents (Elt F) → (⟨S8x1024x1, .f32⟩ : BufTy).Contents (Elt F)),
    unary main_arg2 main_v8 ((transpose S256x8192 [1, 0] · transposes_S8192x256_S256x8192_1_0) : (⟨S8192x256, .f32⟩ : BufTy).Contents (Elt F) → (⟨S256x8192, .f32⟩ : BufTy).Contents (Elt F)),
    binary main_v4 main_v8 main_v9 ((fun l r => Host.dotGeneral dot_S8x1024x256_S256x8192_S8x1024x8192_2_0_01_1_n_n none l r) : (⟨S8x1024x256, .f32⟩ : BufTy).Contents (Elt F) → (⟨S256x8192, .f32⟩ : BufTy).Contents (Elt F) → (⟨S8x1024x8192, .f32⟩ : BufTy).Contents (Elt F)),
    nullary main_cst_0 (constant S_ .f32 0x40000000#32),
    unary main_cst_0 main_v10 (broadcastInDim S8x1024x8192 ![] bcast_S_S8x1024x8192 : (⟨S_, .f32⟩ : BufTy).Contents (Elt F) → (⟨S8x1024x8192, .f32⟩ : BufTy).Contents (Elt F)),
    binary main_v10 main_v9 main_v11 (mulf : (⟨S8x1024x8192, .f32⟩ : BufTy).Contents (Elt F) → (⟨S8x1024x8192, .f32⟩ : BufTy).Contents (Elt F) → (⟨S8x1024x8192, .f32⟩ : BufTy).Contents (Elt F)),
    unary main_v7 main_v12 (broadcastInDim S8x1024x8192 ![0, 1, 2] bcast_S8x1024x1_S8x1024x8192_0_1_2 : (⟨S8x1024x1, .f32⟩ : BufTy).Contents (Elt F) → (⟨S8x1024x8192, .f32⟩ : BufTy).Contents (Elt F)),
    binary main_v12 main_v11 main_v13 (subf : (⟨S8x1024x8192, .f32⟩ : BufTy).Contents (Elt F) → (⟨S8x1024x8192, .f32⟩ : BufTy).Contents (Elt F) → (⟨S8x1024x8192, .f32⟩ : BufTy).Contents (Elt F)),
    binary main_arg2 main_arg2 main_v14 (mulf : (⟨S8192x256, .f32⟩ : BufTy).Contents (Elt F) → (⟨S8192x256, .f32⟩ : BufTy).Contents (Elt F) → (⟨S8192x256, .f32⟩ : BufTy).Contents (Elt F)),
    nullary main_cst_1 (constant S_ .f32 0x00000000#32),
    binary main_v14 main_cst_1 main_v15 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v15 main_v16 (broadcastInDim S1x1x8192 ![2] bcast_S8192_S1x1x8192_2 : (⟨S8192, .f32⟩ : BufTy).Contents (Elt F) → (⟨S1x1x8192, .f32⟩ : BufTy).Contents (Elt F)),
    unary main_v16 main_v17 (broadcastInDim S8x1024x8192 ![0, 1, 2] bcast_S1x1x8192_S8x1024x8192_0_1_2 : (⟨S1x1x8192, .f32⟩ : BufTy).Contents (Elt F) → (⟨S8x1024x8192, .f32⟩ : BufTy).Contents (Elt F)),
    binary main_v13 main_v17 main_v18 (addf : (⟨S8x1024x8192, .f32⟩ : BufTy).Contents (Elt F) → (⟨S8x1024x8192, .f32⟩ : BufTy).Contents (Elt F) → (⟨S8x1024x8192, .f32⟩ : BufTy).Contents (Elt F)),
    TRef.nullary main_call0.v0 (iotaInDim S8x1024x8192 32 2),
    TRef.nullary main_call0.cst (constant S_ .f32 0x7F800000#32),
    TRef.nullary main_call0.c (constantI S_ 32 0#32),
    TRef.quaternary (.of main_v18) main_call0.v0 main_call0.cst main_call0.c main_call0.v1_0 (fun x y u v j => (Host.argReduce reducer_argmin_f32_i32 x y u v reducesTo_S8x1024x8192_S8x1024_d2 h_S_ j).1),
    TRef.quaternary (.of main_v18) main_call0.v0 main_call0.cst main_call0.c main_call0.v1_1 (fun x y u v j => (Host.argReduce reducer_argmin_f32_i32 x y u v reducesTo_S8x1024x8192_S8x1024_d2 h_S_ j).2),
    unary main_v19 main_v20 (broadcastInDim S1x8x1024 ![1, 2] bcast_S8x1024_S1x8x1024_1_2 : (⟨S8x1024, .i32⟩ : BufTy).Contents (Elt F) → (⟨S1x8x1024, .i32⟩ : BufTy).Contents (Elt F)),
    nullary main_c (constantI S_ 32 32000#32),
    unary main_c main_v21 (broadcastInDim S1x8x1024 ![] bcast_S_S1x8x1024 : (⟨S_, .i32⟩ : BufTy).Contents (Elt F) → (⟨S1x8x1024, .i32⟩ : BufTy).Contents (Elt F)),
    binary main_v20 main_v21 main_v22 (addi : (⟨S1x8x1024, .i32⟩ : BufTy).Contents (Elt F) → (⟨S1x8x1024, .i32⟩ : BufTy).Contents (Elt F) → (⟨S1x8x1024, .i32⟩ : BufTy).Contents (Elt F)),
    nullary main_c_2 (constantI S_ 32 40192#32),
    unary main_c_2 main_v23 (broadcastInDim S1x8x1 ![] bcast_S_S1x8x1 : (⟨S_, .i32⟩ : BufTy).Contents (Elt F) → (⟨S1x8x1, .i32⟩ : BufTy).Contents (Elt F)),
    nullary main_c_3 (constantI S_ 32 40193#32),
    unary main_c_3 main_v24 (broadcastInDim S1x8x1 ![] bcast_S_S1x8x1 : (⟨S_, .i32⟩ : BufTy).Contents (Elt F) → (⟨S1x8x1, .i32⟩ : BufTy).Contents (Elt F)),
    nary ![main_v23, main_v22, main_v24] main_v25 (fun u => (concatenate S1x8x1026 2 [⟨S1x8x1, (u 0 : (⟨S1x8x1, .i32⟩ : BufTy).Contents (Elt F))⟩, ⟨S1x8x1024, (u 1 : (⟨S1x8x1024, .i32⟩ : BufTy).Contents (Elt F))⟩, ⟨S1x8x1, (u 2 : (⟨S1x8x1, .i32⟩ : BufTy).Contents (Elt F))⟩] concatenates_S1x8x1_S1x8x1024_S1x8x1_S1x8x1026_d2 : (⟨S1x8x1026, .i32⟩ : BufTy).Contents (Elt F))),
    reshape main_v25 main_v26 (rfl : (.i32 : EltTy) = .i32) shapeCasts_S1x8x1026_S8x1026,
    nullary main_c_4 (constantI S_ 32 1#32),
    unary main_c_4 main_v27 (broadcastInDim S8x1026 ![] bcast_S_S8x1026 : (⟨S_, .i32⟩ : BufTy).Contents (Elt F) → (⟨S8x1026, .i32⟩ : BufTy).Contents (Elt F)) ]

/-- What the operations write, in order. -/
abbrev outs : List (Ref sig .tc) :=
  [main_v0, main_v1, main_v2, main_v3, main_v4, main_v5, main_cst, main_v6, main_v7, main_v8, main_v9, main_cst_0, main_v10, main_v11, main_v12, main_v13, main_v14, main_cst_1, main_v15, main_v16, main_v17, main_v18, main_call0_v0, main_call0_cst, main_call0_c, main_call0_v1_0, main_v19, main_v20, main_c, main_v21, main_v22, main_c_2, main_v23, main_c_3, main_v24, main_v25, main_v26, main_c_4, main_v27]

set_option maxRecDepth 8192 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., nullary_bufs_sub .., unary_bufs_sub .., nary_bufs_sub .., reshape_bufs_sub .., nullary_bufs_sub .., unary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem ops_writes : (ops : List (HloOp τ sig (Elt F))).map HloOp.writes = outs.map fun w => {Proc.devRef (τ := τ) .tc w} := rfl

theorem kept (V : Valuation τ sig (Elt F)) {b : Ref sig .tc} (h : b ∉ outs) :
    after ops V (b : DevRef τ sig) = V (b : DevRef τ sig) :=
  after_unwritten outs ops_writes h V

theorem no_sems : sig.nSem + sig.nDmaSem = 0 := rfl

/-- The frame claim of the reference. -/
theorem frame_run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c =>
      ⟨(h c main_arg0).trans (kept _ (by decide)), (h c main_arg1).trans (kept _ (by decide)),
        (h c main_arg2).trans (kept _ (by decide))⟩, sem_eq_zero_of_no_sems no_sems r.2⟩) (run_main m ρ)

end Cert.ReferenceIdeal.Own

end
-- ==== Proof.V.Proj.lean ====
/- The kernel's payloads of the projection and of the distances, read at an index over the extended reals. -/
module

public import proofs.«01_k».proof.Proof.K.Frame
public import Idealize.ShloMosaic.Lib.Pointwise

@[expose] public section

set_option maxHeartbeats 4000000

noncomputable section

namespace Cert.KernelIdeal.Own

open Cert.KernelIdeal Cert.KernelIdeal.Gen
open Idealize.ShloMosaic

/-- One slab's part of a feature: sixteen products. -/
def slabDot (a : Vec Ideal S1x16x32x16 .f32) (w : Vec Ideal S16x256 .f32) (r : Fin 512) (d : Fin 256) : EReal :=
  ∑ x : Fin 16, a (ix4 0 ⟨r.val / 32, by omega⟩ ⟨r.val % 32, by omega⟩ x) * w (ix2 x d)

/-- The projection at an index: the 48 slabs' parts added up. -/
theorem zWith3_at (a : ℕ → Vec Ideal S1x16x32x16 .f32) (w : ℕ → Vec Ideal S16x256 .f32) (r : Fin 512) (d : Fin 256) :
    zWith k0_pay3 a w (ix3 0 r d) = ∑ j ∈ Finset.range 48, slabDot (a j) (w j) r d := by
  simp only [Finset.sum_range_succ, Finset.sum_range_zero, slabDot]
  pointwise [zWith, k0_pay2, k0_pay3, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47]

/-- The scaled projection at an index. -/
theorem zWith4_at (a : ℕ → Vec Ideal S1x16x32x16 .f32) (w : ℕ → Vec Ideal S16x256 .f32) (r : Fin 512) (d : Fin 256) :
    zWith k0_pay4 a w (ix2 r d) = (∑ j ∈ Finset.range 48, slabDot (a j) (w j) r d) * Ideal.ofBits .f32 0xC0000000#32 := by
  have e : zWith k0_pay4 a w (ix2 r d) = zWith k0_pay3 a w (ix3 0 r d) * Ideal.ofBits .f32 0xC0000000#32 := by
    unfold zWith k0_pay4 k0_pay3
    pointwise []
  rw [e, zWith3_at]

/-- A tile's distances at an index. -/
theorem dT_at (C : Vec Ideal S256x1024 .f32) (n : Vec Ideal S1x1024 .f32) (z : Vec Ideal S512x256 .f32) (r : Fin 512) (k : Fin 1024) :
    dT C n z (ix2 r k) = ∑ d : Fin 256, z (ix2 r d) * C (ix2 d k) + n (ix2 0 k) := by
  unfold dT
  pointwise [k0_pay68, k0_pay12]

/-- A tile's squared lengths at an index. -/
theorem pay1_at (C : Vec Ideal S256x1024 .f32) (k : Fin 1024) :
    k0_pay1 C (ix2 0 k) = ∑ d : Fin 256, C (ix2 d k) * C (ix2 d k) := by
  pointwise [k0_pay1]

end Cert.KernelIdeal.Own

end
-- ==== Proof.V.Lane.lean ====
/- A running minimum with its index kept in 128 lanes: after all groups the lowest index among the lanes that hold the
   least value is the lowest index of the least value overall. -/
module

public import Mathlib.Data.EReal.Basic
public import Mathlib.Data.Finset.Fold
public import Mathlib.Data.Fintype.Basic

@[expose] public section

namespace Cert.Own

/-- Index `i` is the lowest at which `f` is least among the first `N`. -/
def Low {α : Type} [LinearOrder α] (f : ℕ → α) (N i : ℕ) : Prop :=
  i < N ∧ ∀ c, c < N → f i ≤ f c ∧ (c < i → f i < f c)

theorem Low.unique {α : Type} [LinearOrder α] {f : ℕ → α} {N i j : ℕ} (hi : Low f N i) (hj : Low f N j) : i = j := by
  rcases Nat.lt_trichotomy i j with h | h | h
  · exact absurd ((hj.2 i hi.1).2 h) (not_lt.2 (hi.2 j hj.1).1)
  · exact h
  · exact absurd ((hi.2 j hj.1).2 h) (not_lt.2 (hj.2 i hi.1).1)

/-- The same order of the values gives the same lowest index. -/
theorem Low.congr {α β : Type} [LinearOrder α] [LinearOrder β] {f : ℕ → α} {g : ℕ → β} {N i : ℕ} (h : Low f N i)
    (e : ∀ a, a < N → ∀ b, b < N → (f a < f b → g a < g b)) (e' : ∀ a, a < N → ∀ b, b < N → (f a ≤ f b → g a ≤ g b)) : Low g N i :=
  ⟨h.1, fun c hc => ⟨e' i h.1 c hc (h.2 c hc).1, fun hl => e i h.1 c hc ((h.2 c hc).2 hl)⟩⟩

/-- What a lane holds after `n` groups of 128 values: the least value of its lane and the lowest place of it. -/
structure Lane {α : Type} [LinearOrder α] (big : α) (f : ℕ → α) (l n : ℕ) (v : α) (i : ℕ) : Prop where
  init : n = 0 → v = big
  least : ∀ q, q < n → v ≤ f (128 * q + l)
  low : ∀ q, q < n → 128 * q + l < i → v < f (128 * q + l)
  place : 0 < n → ∃ q, q < n ∧ i = 128 * q + l ∧ v = f i

theorem Lane.start {α : Type} [LinearOrder α] (big : α) (f : ℕ → α) (l i : ℕ) : Lane big f l 0 big i :=
  ⟨fun _ => rfl, fun _ h => absurd h (Nat.not_lt_zero _), fun _ h => absurd h (Nat.not_lt_zero _), fun h => absurd h (Nat.not_lt_zero _)⟩

/-- One more group: the value is taken when it is less. -/
theorem Lane.next {α : Type} [LinearOrder α] {big : α} {f : ℕ → α} {l n : ℕ} {v : α} {i : ℕ} (h : Lane big f l n v i)
    (hb : f (128 * n + l) < big) :
    Lane big f l (n + 1) (if f (128 * n + l) < v then f (128 * n + l) else v) (if f (128 * n + l) < v then 128 * n + l else i) := by
  by_cases hl : f (128 * n + l) < v
  · rw [if_pos hl, if_pos hl]
    refine ⟨fun h => absurd h (Nat.succ_ne_zero _), fun q hq => ?_, fun q hq hi => ?_, fun _ => ⟨n, Nat.lt_succ_self n, rfl, rfl⟩⟩
    · rcases Nat.lt_succ_iff_lt_or_eq.1 hq with hq | rfl
      · exact (hl.trans_le (h.least q hq)).le
      · exact le_rfl
    · exact hl.trans_le (h.least q (by omega))
  · rw [if_neg hl, if_neg hl]
    have hn : 0 < n := by
      rcases Nat.eq_zero_or_pos n with h0 | h0
      · rw [h.init h0] at hl; exact absurd hb hl
      · exact h0
    obtain ⟨q0, hq0, hi0, hv0⟩ := h.place hn
    refine ⟨fun h => absurd h (Nat.succ_ne_zero _), fun q hq => ?_, fun q hq hi => ?_, fun _ => ⟨q0, by omega, hi0, hv0⟩⟩
    · rcases Nat.lt_succ_iff_lt_or_eq.1 hq with hq | rfl
      · exact h.least q hq
      · exact not_lt.1 hl
    · rcases Nat.lt_succ_iff_lt_or_eq.1 hq with hq | rfl
      · exact h.low q hq hi
      · omega

/-- All lanes together. -/
theorem Lane.all {α : Type} [LinearOrder α] {big : α} {f : ℕ → α} {n : ℕ} (hn : 0 < n) {v : Fin 128 → α} {i : Fin 128 → ℕ}
    (h : ∀ l, Lane big f l.val n (v l) (i l)) {g : α} (hg : ∀ l, g ≤ v l) {k : ℕ} (hk : ∃ l, v l = g ∧ k = i l)
    (hm : ∀ l, v l = g → k ≤ i l) : Low f (128 * n) k := by
  obtain ⟨l0, hv0, hk0⟩ := hk
  obtain ⟨q0, hq0, hi0, hf0⟩ := (h l0).place hn
  have hl0 := l0.isLt
  have efk : f k = g := by rw [hk0, ← hf0, hv0]
  refine ⟨by omega, fun c hc => ?_⟩
  have hcl : c = 128 * (c / 128) + (⟨c % 128, Nat.mod_lt _ (by decide)⟩ : Fin 128).val := by show c = 128 * (c / 128) + c % 128; omega
  have hcq : c / 128 < n := by omega
  generalize hl : (⟨c % 128, Nat.mod_lt _ (by decide)⟩ : Fin 128) = l at hcl
  have h1 : v l ≤ f c := by have := (h l).least _ hcq; rwa [← hcl] at this
  rw [efk]
  refine ⟨(hg l).trans h1, fun hck => ?_⟩
  rcases eq_or_lt_of_le (hg l) with e | e
  · have h2 := (h l).low _ hcq (by rw [← hcl]; exact hck.trans_le (hm l e.symm))
    rw [← hcl] at h2
    rwa [← e] at h2
  · exact e.trans_le h1

/-- A fold by a choice of the lesser of two is at most each of its values and is one of them or the start. -/
theorem fold_least {ι β : Type} (op : β → β → β) [Std.Commutative op] [Std.Associative op] (rk : β → ℤ)
    (hop : ∀ a b, (op a b = a ∧ rk a ≤ rk b) ∨ (op a b = b ∧ rk b ≤ rk a)) (b : β) (f : ι → β) [DecidableEq ι] (s : Finset ι) :
    rk (s.fold op b f) ≤ rk b ∧ (∀ i ∈ s, rk (s.fold op b f) ≤ rk (f i)) ∧ (s.fold op b f = b ∨ ∃ i ∈ s, s.fold op b f = f i) := by
  induction s using Finset.induction_on with
  | empty => rw [Finset.fold_empty]; exact ⟨le_rfl, fun i hi => absurd hi (Finset.notMem_empty i), Or.inl rfl⟩
  | insert a s ha ih =>
    rw [Finset.fold_insert ha]
    obtain ⟨h0, h1, h2⟩ := ih
    rcases hop (f a) (s.fold op b f) with ⟨e, hl⟩ | ⟨e, hl⟩ <;> rw [e]
    · refine ⟨hl.trans h0, fun i hi => ?_, Or.inr ⟨a, Finset.mem_insert_self _ _, rfl⟩⟩
      rcases Finset.mem_insert.1 hi with rfl | hi
      · exact le_rfl
      · exact hl.trans (h1 i hi)
    · refine ⟨h0, fun i hi => ?_, ?_⟩
      · rcases Finset.mem_insert.1 hi with rfl | hi
        · exact hl
        · exact h1 i hi
      · rcases h2 with h2 | ⟨i, hi, h2⟩
        · exact Or.inl h2
        · exact Or.inr ⟨i, Finset.mem_insert_of_mem hi, h2⟩

/-- The least of finitely many values, at most the start, is reached once one value is at most the start. -/
theorem fold_min_reached {ι α : Type} [LinearOrder α] [DecidableEq ι] (b : α) (f : ι → α) (s : Finset ι) :
    (∀ i ∈ s, s.fold min b f ≤ f i) ∧ (s.fold min b f = b ∨ ∃ i ∈ s, s.fold min b f = f i) := by
  induction s using Finset.induction_on with
  | empty => rw [Finset.fold_empty]; exact ⟨fun i hi => absurd hi (Finset.notMem_empty i), Or.inl rfl⟩
  | insert a s ha ih =>
    rw [Finset.fold_insert ha]
    obtain ⟨h1, h2⟩ := ih
    refine ⟨fun i hi => ?_, ?_⟩
    · rcases Finset.mem_insert.1 hi with rfl | hi
      · exact min_le_left _ _
      · exact (min_le_right _ _).trans (h1 i hi)
    · rcases le_total (f a) (s.fold min b f) with h | h
      · rw [min_eq_left h]; exact Or.inr ⟨a, Finset.mem_insert_self _ _, rfl⟩
      · rw [min_eq_right h]
        rcases h2 with h2 | ⟨i, hi, h2⟩
        · exact Or.inl h2
        · exact Or.inr ⟨i, Finset.mem_insert_of_mem hi, h2⟩

/-- A small number's word, read with its sign. -/
theorem word_toInt (n : ℕ) (hn : n < 2 ^ 31) : (BitVec.ofNat 32 n).toInt = n := by
  have h : (BitVec.ofNat 32 n).toNat = n := by rw [BitVec.toNat_ofNat]; exact Nat.mod_eq_of_lt (by omega)
  rw [BitVec.toInt_eq_toNat_of_lt (by omega), h]

end Cert.Own
-- ==== Proof.V.Tile.lean ====
/- One tile of the search read at a row and a lane: eight groups of 128 codes. -/
module

public import proofs.«01_k».proof.Proof.V.Proj
public import proofs.«01_k».proof.Proof.V.Lane

@[expose] public section

set_option maxHeartbeats 4000000

noncomputable section

namespace Cert.KernelIdeal.Own

open Cert.KernelIdeal Cert.KernelIdeal.Gen Cert.Own
open Idealize.ShloMosaic

variable (C : Vec Ideal S256x1024 .f32) (n : Vec Ideal S1x1024 .f32) (z : Vec Ideal S512x256 .f32) (v : Vec Ideal S512x128 .f32)
  (w : Vec Ideal S512x128 .i32) (i : grid0.Coords)

/-- The running minimum after the first `g` groups of a tile. -/
def vG (r : Fin 512) (l : Fin 128) : ℕ → EReal
  | 0 => v (ix2 r l)
  | g + 1 => if dT C n z (ix2 r ⟨(128 * g + l.val) % 1024, Nat.mod_lt _ (by decide)⟩) < vG r l g
      then dT C n z (ix2 r ⟨(128 * g + l.val) % 1024, Nat.mod_lt _ (by decide)⟩) else vG r l g

/-- The running index after the first `g` groups of a tile. -/
def iG (r : Fin 512) (l : Fin 128) : ℕ → BitVec 32
  | 0 => w (ix2 r l)
  | g + 1 => if dT C n z (ix2 r ⟨(128 * g + l.val) % 1024, Nat.mod_lt _ (by decide)⟩) < vG C n z v r l g
      then BitVec.ofNat 32 l.val + (BitVec.ofNat 32 (128 * g) + BitVec.ofNat 32 (i 1).val * 1024#32) else iG r l g

theorem g71 (r : Fin 512) (l : Fin 128) : k0_pay71 (k0_pay12 C) n z v (ix2 r l) = vG C n z v r l 1 := by
  have e : (⟨(128 * 0 + l.val) % 1024, Nat.mod_lt _ (by decide)⟩ : Fin 1024) = ⟨l.val, by omega⟩ := Fin.ext (by show (128 * 0 + l.val) % 1024 = l.val; omega)
  unfold vG vG dT
  rw [e]
  pointwise [k0_pay71, k0_pay70, k0_pay69]

theorem g74 (r : Fin 512) (l : Fin 128) : k0_pay74 (k0_pay12 C) n z v (ix2 r l) = vG C n z v r l 2 := by
  have e : (⟨(128 * 1 + l.val) % 1024, Nat.mod_lt _ (by decide)⟩ : Fin 1024) = ⟨128 + l.val, by omega⟩ := Fin.ext (by show (128 * 1 + l.val) % 1024 = 128 + l.val; omega)
  unfold vG dT
  rw [e, ← g71]
  pointwise [k0_pay74, k0_pay73, k0_pay72]

theorem g77 (r : Fin 512) (l : Fin 128) : k0_pay77 (k0_pay12 C) n z v (ix2 r l) = vG C n z v r l 3 := by
  have e : (⟨(128 * 2 + l.val) % 1024, Nat.mod_lt _ (by decide)⟩ : Fin 1024) = ⟨256 + l.val, by omega⟩ := Fin.ext (by show (128 * 2 + l.val) % 1024 = 256 + l.val; omega)
  unfold vG dT
  rw [e, ← g74]
  pointwise [k0_pay77, k0_pay76, k0_pay75]

theorem g80 (r : Fin 512) (l : Fin 128) : k0_pay80 (k0_pay12 C) n z v (ix2 r l) = vG C n z v r l 4 := by
  have e : (⟨(128 * 3 + l.val) % 1024, Nat.mod_lt _ (by decide)⟩ : Fin 1024) = ⟨384 + l.val, by omega⟩ := Fin.ext (by show (128 * 3 + l.val) % 1024 = 384 + l.val; omega)
  unfold vG dT
  rw [e, ← g77]
  pointwise [k0_pay80, k0_pay79, k0_pay78]

theorem g14 (r : Fin 512) (l : Fin 128) :
    k0_pay14 (k0_pay80 (k0_pay12 C) n z v) (k0_pay82 (k0_pay12 C) n z) (ix2 r l) = vG C n z v r l 5 := by
  have e : (⟨(128 * 4 + l.val) % 1024, Nat.mod_lt _ (by decide)⟩ : Fin 1024) = ⟨512 + l.val, by omega⟩ := Fin.ext (by show (128 * 4 + l.val) % 1024 = 512 + l.val; omega)
  unfold vG dT
  rw [e, ← g80]
  pointwise [k0_pay14, k0_pay13, k0_pay82]

theorem g17 (r : Fin 512) (l : Fin 128) :
    k0_pay17 (dT C n z) (k0_pay80 (k0_pay12 C) n z v) (k0_pay82 (k0_pay12 C) n z) (ix2 r l) = vG C n z v r l 6 := by
  have e : (⟨(128 * 5 + l.val) % 1024, Nat.mod_lt _ (by decide)⟩ : Fin 1024) = ⟨640 + l.val, by omega⟩ := Fin.ext (by show (128 * 5 + l.val) % 1024 = 640 + l.val; omega)
  unfold vG
  rw [e, ← g14]
  pointwise [k0_pay17, k0_pay16, k0_pay15]

theorem g20 (r : Fin 512) (l : Fin 128) :
    k0_pay20 (dT C n z) (k0_pay80 (k0_pay12 C) n z v) (k0_pay82 (k0_pay12 C) n z) (ix2 r l) = vG C n z v r l 7 := by
  have e : (⟨(128 * 6 + l.val) % 1024, Nat.mod_lt _ (by decide)⟩ : Fin 1024) = ⟨768 + l.val, by omega⟩ := Fin.ext (by show (128 * 6 + l.val) % 1024 = 768 + l.val; omega)
  unfold vG
  rw [e, ← g17]
  pointwise [k0_pay20, k0_pay19, k0_pay18]

theorem g23 (r : Fin 512) (l : Fin 128) :
    k0_pay23 (dT C n z) (k0_pay80 (k0_pay12 C) n z v) (k0_pay82 (k0_pay12 C) n z) (ix2 r l) = vG C n z v r l 8 := by
  have e : (⟨(128 * 7 + l.val) % 1024, Nat.mod_lt _ (by decide)⟩ : Fin 1024) = ⟨896 + l.val, by omega⟩ := Fin.ext (by show (128 * 7 + l.val) % 1024 = 896 + l.val; omega)
  unfold vG
  rw [e, ← g20]
  pointwise [k0_pay23, k0_pay22, k0_pay21]

/-- The index after the first four groups. -/
theorem g81 (r : Fin 512) (l : Fin 128) :
    k0_pay81 (BitVec.ofNat 32 (i 1).val) (k0_pay12 C) n (iota .tc S512x128 32 [1] iota_S512x128_d1_w32) z v w (ix2 r l)
      = iG C n z v w i r l 4 := by
  have e0 : (⟨(128 * 0 + l.val) % 1024, Nat.mod_lt _ (by decide)⟩ : Fin 1024) = ⟨l.val, by omega⟩ := Fin.ext (by show (128 * 0 + l.val) % 1024 = l.val; omega)
  have e1 : (⟨(128 * 1 + l.val) % 1024, Nat.mod_lt _ (by decide)⟩ : Fin 1024) = ⟨128 + l.val, by omega⟩ := Fin.ext (by show (128 * 1 + l.val) % 1024 = 128 + l.val; omega)
  have e2 : (⟨(128 * 2 + l.val) % 1024, Nat.mod_lt _ (by decide)⟩ : Fin 1024) = ⟨256 + l.val, by omega⟩ := Fin.ext (by show (128 * 2 + l.val) % 1024 = 256 + l.val; omega)
  have e3 : (⟨(128 * 3 + l.val) % 1024, Nat.mod_lt _ (by decide)⟩ : Fin 1024) = ⟨384 + l.val, by omega⟩ := Fin.ext (by show (128 * 3 + l.val) % 1024 = 384 + l.val; omega)
  unfold iG iG iG iG iG
  rw [e0, e1, e2, e3, ← g77, ← g74, ← g71]
  unfold vG dT
  pointwise [k0_pay81, k0_pay79, k0_pay78, k0_pay76, k0_pay75, k0_pay73, k0_pay72, k0_pay70, k0_pay69]
  rfl

/-- The index after the tile. -/
theorem g24 (r : Fin 512) (l : Fin 128) :
    k0_pay24 i (dT C n z) (k0_pay80 (k0_pay12 C) n z v)
      (k0_pay81 (BitVec.ofNat 32 (i 1).val) (k0_pay12 C) n (iota .tc S512x128 32 [1] iota_S512x128_d1_w32) z v w)
      (k0_pay82 (k0_pay12 C) n z) (Scalar.muli (BitVec.ofNat 32 (i 1).val) 1024#32) 512#32 (ix2 r l)
      = iG C n z v w i r l 8 := by
  have e4 : (⟨(128 * 4 + l.val) % 1024, Nat.mod_lt _ (by decide)⟩ : Fin 1024) = ⟨512 + l.val, by omega⟩ := Fin.ext (by show (128 * 4 + l.val) % 1024 = 512 + l.val; omega)
  have e5 : (⟨(128 * 5 + l.val) % 1024, Nat.mod_lt _ (by decide)⟩ : Fin 1024) = ⟨640 + l.val, by omega⟩ := Fin.ext (by show (128 * 5 + l.val) % 1024 = 640 + l.val; omega)
  have e6 : (⟨(128 * 6 + l.val) % 1024, Nat.mod_lt _ (by decide)⟩ : Fin 1024) = ⟨768 + l.val, by omega⟩ := Fin.ext (by show (128 * 6 + l.val) % 1024 = 768 + l.val; omega)
  have e7 : (⟨(128 * 7 + l.val) % 1024, Nat.mod_lt _ (by decide)⟩ : Fin 1024) = ⟨896 + l.val, by omega⟩ := Fin.ext (by show (128 * 7 + l.val) % 1024 = 896 + l.val; omega)
  rw [iG, iG, iG, iG, e4, e5, e6, e7, ← g20, ← g17, ← g14, ← g80, ← g81]
  unfold dT
  pointwise [k0_pay24, k0_pay22, k0_pay21, k0_pay19, k0_pay18, k0_pay16, k0_pay15, k0_pay13, k0_pay82]
  rfl

/-- The running minimum after the tile, as it is stored. -/
theorem vT_at (r : Fin 512) (l : Fin 128) : vT C n z v (ix2 r l) = vG C n z v r l 8 := by
  rw [← g23]
  unfold vT
  pointwise [k0_pay25]

/-- The running index after the tile, as it is stored. -/
theorem iT_at (r : Fin 512) (l : Fin 128) : iT i C n z v w (ix2 r l) = iG C n z v w i r l 8 := by
  rw [← g24]
  unfold iT
  pointwise [k0_pay26]

theorem inf_top : Ideal.ofBits .f32 0x7F800000#32 = ⊤ := by simp [Ideal.ofBits, Ideal.ieee]

/-- The winners, from the lanes after the tile. -/
theorem oT_at (r : Fin 512) : oT i C n z v w (ix3 0 r 0)
    = Finset.univ.fold IntOp.minsi 2147483647#32 (fun l : Fin 128 =>
        if vG C n z v r l 8 = Finset.univ.fold min (⊤ : EReal) (fun l' : Fin 128 => vG C n z v r l' 8) then iG C n z v w i r l 8
        else 8192#32) + 32000#32 := by
  simp only [← g23, ← g24 C n z v w i]
  unfold oT
  pointwise [k0_pay27]
  rw [inf_top]
  rfl

/-- The lanes of a row after a tile, when the tile's distances are `f` at its 1024 codes and below the start. -/
theorem lane_tile {f : ℕ → EReal} {big : EReal} (j : ℕ) (hj : (i 1).val = j) (r : Fin 512) (l : Fin 128)
    (hf : ∀ k : Fin 1024, dT C n z (ix2 r k) = f (1024 * j + k.val)) (hb : ∀ k : Fin 1024, f (1024 * j + k.val) < big)
    (x : ℕ) (hx : w (ix2 r l) = BitVec.ofNat 32 x) (h : Lane big f l.val (8 * j) (v (ix2 r l)) x) (g : ℕ) (hg : g ≤ 8) :
    ∃ y, iG C n z v w i r l g = BitVec.ofNat 32 y ∧ Lane big f l.val (8 * j + g) (vG C n z v r l g) y := by
  induction g with
  | zero => exact ⟨x, hx, h⟩
  | succ g ih =>
    obtain ⟨y, hy, hL⟩ := ih (by omega)
    have hk : (128 * g + l.val) % 1024 = 128 * g + l.val := Nat.mod_eq_of_lt (by omega)
    have e : 128 * (8 * j + g) + l.val = 1024 * j + (128 * g + l.val) % 1024 := by rw [hk]; omega
    have hn := hL.next (by rw [e]; exact hb ⟨_, Nat.mod_lt _ (by decide)⟩)
    rw [e, ← hf ⟨(128 * g + l.val) % 1024, Nat.mod_lt _ (by decide)⟩] at hn
    refine ⟨_, ?_, hn⟩
    unfold iG
    rw [hy, hj]
    split
    · rw [hk, ← BitVec.ofNat_mul, ← BitVec.ofNat_add, ← BitVec.ofNat_add]
      exact congrArg _ (by omega)
    · rfl

end Cert.KernelIdeal.Own

end
-- ==== Proof.V.ArgMin.lean ====
/- The reference's arg-min over the extended reals: the lowest index of the least value. -/
module

public import proofs.«01_k».proof.Proof.R.Run
public import proofs.«01_k».proof.Proof.V.Lane
public import Idealize.ShloMosaic.Lib.Pointwise

@[expose] public section

noncomputable section

namespace Cert.ReferenceIdeal.Own

open Cert.ReferenceIdeal Cert.ReferenceIdeal.Gen Cert.Own
open Idealize.ShloMosaic

/-- A pair comes no later than another: a lesser value, or the same value and an index no greater. -/
def Lex (p q : EReal × BitVec 32) : Prop := p.1 < q.1 ∨ (p.1 = q.1 ∧ p.2.toInt ≤ q.2.toInt)

theorem Lex.refl (p : EReal × BitVec 32) : Lex p p := Or.inr ⟨rfl, le_rfl⟩

theorem Lex.trans {p q r : EReal × BitVec 32} (h : Lex p q) (h' : Lex q r) : Lex p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

theorem or10 : IntOp.ori 1#1 0#1 = 1#1 := rfl
theorem or1 : ∀ t : BitVec 1, IntOp.ori 1#1 t = 1#1 := by decide
theorem and0 : ∀ t : BitVec 1, IntOp.andi 0#1 t = 0#1 := by decide

/-- The arg-min's body keeps the earlier of two pairs. -/
theorem reducer_lex (a b : EReal × BitVec 32) :
    (reducer_argmin_f32_i32 (F := Ideal) a b = a ∧ Lex a b) ∨ (reducer_argmin_f32_i32 (F := Ideal) a b = b ∧ Lex b a) := by
  obtain ⟨x, i⟩ := a
  obtain ⟨y, j⟩ := b
  have hne : Ideal.cmp .une x x = 0#1 := by simp [Ideal.cmp]
  rcases lt_trichotomy x y with h | h | h
  · refine Or.inl ⟨?_, Or.inl h⟩
    have h1 : Ideal.cmp .olt x y = 1#1 := by simp [Ideal.cmp, h]
    unfold reducer_argmin_f32_i32
    simp only [Ideal.cmpf_def, h1, hne]
    rw [or10, or1]
    rfl
  · subst h
    have h1 : Ideal.cmp .olt x x = 0#1 := by simp [Ideal.cmp]
    have h2 : Ideal.cmp .oeq x x = 1#1 := by simp [Ideal.cmp]
    unfold reducer_argmin_f32_i32
    simp only [Ideal.cmpf_def, h1, h2, hne]
    by_cases hl : i.toInt < j.toInt
    · refine Or.inl ⟨?_, Or.inr ⟨rfl, hl.le⟩⟩
      have h3 : IntOp.cmpi .slt i j = 1#1 := by simp [IntOp.cmpi, BitVec.slt_eq_decide, hl]
      rw [h3]
      rfl
    · refine Or.inr ⟨?_, Or.inr ⟨rfl, not_lt.1 hl⟩⟩
      have h3 : IntOp.cmpi .slt i j = 0#1 := by simp [IntOp.cmpi, BitVec.slt_eq_decide, hl]
      rw [h3]
      rfl
  · refine Or.inr ⟨?_, Or.inl h⟩
    have h1 : Ideal.cmp .olt x y = 0#1 := by
      show BitVec.ofBool (decide (x < y)) = 0#1
      rw [decide_eq_false h.not_gt]
      rfl
    have h2 : Ideal.cmp .oeq x y = 0#1 := by simp [Ideal.cmp, h.ne']
    unfold reducer_argmin_f32_i32
    simp only [Ideal.cmpf_def, h1, h2, hne]
    rw [and0]
    rfl

/-- The fold over a list keeps an earliest pair. -/
theorem foldl_lex (l : List (EReal × BitVec 32)) (a : EReal × BitVec 32) :
    (l.foldl (reducer_argmin_f32_i32 (F := Ideal)) a = a ∨ l.foldl (reducer_argmin_f32_i32 (F := Ideal)) a ∈ l)
      ∧ Lex (l.foldl (reducer_argmin_f32_i32 (F := Ideal)) a) a
      ∧ ∀ p ∈ l, Lex (l.foldl (reducer_argmin_f32_i32 (F := Ideal)) a) p := by
  induction l generalizing a with
  | nil => exact ⟨Or.inl rfl, Lex.refl a, fun p hp => nomatch hp⟩
  | cons b l ih =>
    rw [List.foldl_cons]
    obtain ⟨h0, h1, h2⟩ := ih (reducer_argmin_f32_i32 (F := Ideal) a b)
    rcases reducer_lex a b with ⟨e, hl⟩ | ⟨e, hl⟩ <;> rw [e] at h0 h1 h2 ⊢
    · refine ⟨h0.imp id (List.mem_cons_of_mem b), h1, fun p hp => ?_⟩
      rcases List.mem_cons.1 hp with rfl | hp
      · exact h1.trans hl
      · exact h2 p hp
    · refine ⟨Or.inr ?_, h1.trans hl, fun p hp => ?_⟩
      · rcases h0 with h0 | h0
        · rw [h0]; exact List.mem_cons_self ..
        · exact List.mem_cons_of_mem b h0
      · rcases List.mem_cons.1 hp with rfl | hp
        · exact h1
        · exact h2 p hp

/-- A result index's source indices. -/
theorem drop_iff (a : Fin 8) (b : Fin 1024) (i : S8x1024x8192.Idx) :
    reducesTo_S8x1024x8192_S8x1024_d2.drop i = ix2 a b ↔ ∃ k : Fin 8192, ix3 a b k = i := by
  have hr : S8x1024x8192.Reduces [2] S8x1024 := by decide
  exact hr.fiber_r3_a2 (ix2 a b) i

/-- The arg-min of finite values is the lowest index of the least. -/
theorem argmin_low (x : FVec Ideal S8x1024x8192 .f32) (a : Fin 8) (b : Fin 1024) (hx : ∀ k : Fin 8192, x (ix3 a b k) < ⊤) :
    ∃ k, (Host.argReduce (reducer_argmin_f32_i32 (F := Ideal)) x (iotaInDim S8x1024x8192 32 2) (constant S_ .f32 0x7F800000#32)
        (constantI S_ 32 0#32) reducesTo_S8x1024x8192_S8x1024_d2 h_S_ (ix2 a b)).2 = BitVec.ofNat 32 k
      ∧ Low (fun c => x (ix3 a b ⟨c % 8192, Nat.mod_lt _ (by decide)⟩)) 8192 k := by
  rw [Ideal.argReduce_eq_reduce2, Host.reduce2_eq_foldl_fiber]
  have htop : (constant S_ .f32 0x7F800000#32 : FVec Ideal S_ .f32) (Shape.Idx.first h_S_) = (⊤ : EReal) := by
    show Ideal.ofBits .f32 0x7F800000#32 = ⊤
    simp [Ideal.ofBits, Ideal.ieee]
  have hmem : ∀ p : EReal × BitVec 32, p ∈ Host.argReduceFiber (α := EReal) x (iotaInDim S8x1024x8192 32 2) reducesTo_S8x1024x8192_S8x1024_d2 (ix2 a b)
      ↔ ∃ k : Fin 8192, p = (x (ix3 a b k), BitVec.ofNat 32 k.val) := by
    intro p
    unfold Host.argReduceFiber
    rw [List.mem_map]
    constructor
    · rintro ⟨n, hn, rfl⟩
      rw [List.mem_filter] at hn
      have hn := hn.2
      rw [decide_eq_true_eq, drop_iff] at hn
      obtain ⟨k, hk⟩ := hn
      exact ⟨k, by rw [← hk]; rfl⟩
    · rintro ⟨k, rfl⟩
      refine ⟨S8x1024x8192.rowMajor (ix3 a b k), ?_, ?_⟩
      · rw [List.mem_filter, decide_eq_true_eq, Equiv.symm_apply_apply, drop_iff]
        exact ⟨List.mem_finRange _, k, rfl⟩
      · rw [Equiv.symm_apply_apply]; rfl
  obtain ⟨h0, h1, h2⟩ := foldl_lex (Host.argReduceFiber (α := EReal) x (iotaInDim S8x1024x8192 32 2) reducesTo_S8x1024x8192_S8x1024_d2 (ix2 a b))
    ((constant S_ .f32 0x7F800000#32 : FVec Ideal S_ .f32) (Shape.Idx.first h_S_), (constantI S_ 32 0#32) (Shape.Idx.first h_S_))
  generalize List.foldl _ _ _ = res at h0 h1 h2 ⊢
  have hk : ∃ k : Fin 8192, res = (x (ix3 a b k), BitVec.ofNat 32 k.val) := by
    rcases h0 with h0 | h0
    · exfalso
      have h3 := h2 _ ((hmem _).2 ⟨0, rfl⟩)
      rw [h0, htop] at h3
      rcases h3 with h3 | h3
      · exact absurd h3 not_top_lt
      · exact absurd h3.1.symm (hx 0).ne
    · exact (hmem _).1 h0
  obtain ⟨k, rfl⟩ := hk
  refine ⟨k.val, rfl, k.isLt, fun c hc => ?_⟩
  have h3 := h2 _ ((hmem _).2 ⟨⟨c, hc⟩, rfl⟩)
  have ec : (⟨c % 8192, Nat.mod_lt _ (by decide)⟩ : Fin 8192) = ⟨c, hc⟩ := Fin.ext (Nat.mod_eq_of_lt hc)
  have ek : (⟨k.val % 8192, Nat.mod_lt _ (by decide)⟩ : Fin 8192) = k := Fin.ext (Nat.mod_eq_of_lt k.isLt)
  simp only [ec, ek]
  rcases h3 with h3 | ⟨h3, h4⟩
  · exact ⟨h3.le, fun _ => h3⟩
  · refine ⟨h3.le, fun hl => ?_⟩
    exfalso
    have h4 : (BitVec.ofNat 32 k.val).toInt ≤ (BitVec.ofNat 32 c).toInt := h4
    rw [word_toInt _ (by omega), word_toInt _ (by omega)] at h4
    omega

end Cert.ReferenceIdeal.Own

end
-- ==== Proof.V.RefVals.lean ====
/- What the reference's results hold, read at an index over the extended reals. -/
module

public import proofs.«01_k».proof.Proof.V.ArgMin

@[expose] public section

set_option maxHeartbeats 4000000

noncomputable section

namespace Cert.ReferenceIdeal.Own

open Cert.ReferenceIdeal Cert.ReferenceIdeal.Gen Cert.Own
open Idealize.ShloMosaic Idealize.ShloMosaic.TcCoe Idealize.ShloMosaic.StableHlo

/-- The images cut in patches. -/
def x6 (x : FVec Ideal S8x3x512x512 .f32) : FVec Ideal S8x3x32x16x32x16 .f32 :=
  shapeCast S8x3x32x16x32x16 x shapeCasts_S8x3x512x512_S8x3x32x16x32x16

/-- The features. -/
def rZ (x : FVec Ideal S8x3x512x512 .f32) (w : FVec Ideal S256x768 .f32) : FVec Ideal S8x1024x256 .f32 :=
  Host.dotGeneral dot_S8x1024x768_S768x256_S8x1024x256_2_0_01_1_n_n none
    (shapeCast S8x1024x768 (transpose S8x32x32x3x16x16 [0, 2, 4, 1, 3, 5] (x6 x) transposes_S8x3x32x16x32x16_S8x32x32x3x16x16_0_2_4_1_3_5)
      shapeCasts_S8x32x32x3x16x16_S8x1024x768)
    (transpose S768x256 [1, 0] w transposes_S256x768_S768x256_1_0)

/-- The squared distances. -/
def rD (z : FVec Ideal S8x1024x256 .f32) (cb : FVec Ideal S8192x256 .f32) : FVec Ideal S8x1024x8192 .f32 :=
  addf
    (subf
      (broadcastInDim S8x1024x8192 ![0, 1, 2] bcast_S8x1024x1_S8x1024x8192_0_1_2
        (broadcastInDim S8x1024x1 ![0, 1] bcast_S8x1024_S8x1024x1_0_1
          (Host.reduceAdd (mulf z z) (constant S_ .f32 0x00000000#32) reducesTo_S8x1024x256_S8x1024_d2 h_S_)))
      (mulf (broadcastInDim S8x1024x8192 ![] bcast_S_S8x1024x8192 (constant S_ .f32 0x40000000#32))
        (Host.dotGeneral dot_S8x1024x256_S256x8192_S8x1024x8192_2_0_01_1_n_n none z
          (transpose S256x8192 [1, 0] cb transposes_S8192x256_S256x8192_1_0))))
    (broadcastInDim S8x1024x8192 ![0, 1, 2] bcast_S1x1x8192_S8x1024x8192_0_1_2
      (broadcastInDim S1x1x8192 ![2] bcast_S8192_S1x1x8192_2
        (Host.reduceAdd (mulf cb cb) (constant S_ .f32 0x00000000#32) reducesTo_S8192x256_S8192_d1 h_S_)))

/-- The indices. -/
def rI (D : FVec Ideal S8x1024x8192 .f32) : IVec S8x1024 32 := fun j =>
  (Host.argReduce (reducer_argmin_f32_i32 (F := Ideal)) D (iotaInDim S8x1024x8192 32 2) (constant S_ .f32 0x7F800000#32)
    (constantI S_ 32 0#32) reducesTo_S8x1024x8192_S8x1024_d2 h_S_ j).2

/-- The row of tokens: the start mark, the shifted indices, the end mark. -/
def rO (I : IVec S8x1024 32) : IVec S1x8x1026 32 :=
  concatenate S1x8x1026 2
    [⟨S1x8x1, broadcastInDim S1x8x1 ![] bcast_S_S1x8x1 (constantI S_ 32 40192#32)⟩,
      ⟨S1x8x1024, addi (broadcastInDim S1x8x1024 ![1, 2] bcast_S8x1024_S1x8x1024_1_2 I)
        (broadcastInDim S1x8x1024 ![] bcast_S_S1x8x1024 (constantI S_ 32 32000#32))⟩,
      ⟨S1x8x1, broadcastInDim S1x8x1 ![] bcast_S_S1x8x1 (constantI S_ 32 40193#32)⟩]
    concatenates_S1x8x1_S1x8x1024_S1x8x1_S1x8x1026_d2

theorem read_v4 (V : Valuation τ sig (Elt Ideal)) :
    StableHlo.after (ops (F := Ideal)) V (main_v4 : DevRef τ sig) = rZ (V (main_arg0 : DevRef τ sig)) (V (main_arg1 : DevRef τ sig)) := by
  after_reads_simp
  rfl

theorem read_v27 (V : Valuation τ sig (Elt Ideal)) :
    StableHlo.after (ops (F := Ideal)) V (main_v27 : DevRef τ sig) = broadcastInDim S8x1026 ![] bcast_S_S8x1026 (constantI S_ 32 1#32) := by
  after_reads_simp

theorem read_v23 (V : Valuation τ sig (Elt Ideal)) : StableHlo.upto (ops (F := Ideal)) V 35 (main_v23 : DevRef τ sig)
    = broadcastInDim S1x8x1 ![] bcast_S_S1x8x1 (constantI S_ 32 40192#32) := by
  after_reads_simp

theorem read_v24 (V : Valuation τ sig (Elt Ideal)) : StableHlo.upto (ops (F := Ideal)) V 35 (main_v24 : DevRef τ sig)
    = broadcastInDim S1x8x1 ![] bcast_S_S1x8x1 (constantI S_ 32 40193#32) := by
  after_reads_simp

theorem read_v22 (V : Valuation τ sig (Elt Ideal)) : StableHlo.upto (ops (F := Ideal)) V 35 (main_v22 : DevRef τ sig)
    = addi (broadcastInDim S1x8x1024 ![1, 2] bcast_S8x1024_S1x8x1024_1_2
          (rI (rD (rZ (V (main_arg0 : DevRef τ sig)) (V (main_arg1 : DevRef τ sig))) (V (main_arg2 : DevRef τ sig)))))
        (broadcastInDim S1x8x1024 ![] bcast_S_S1x8x1024 (constantI S_ 32 32000#32)) := by
  after_reads_simp
  rfl

theorem rO_congr {p p' : IVec S1x8x1 32} {q q' : IVec S1x8x1024 32} {r r' : IVec S1x8x1 32} (hp : p = p') (hq : q = q') (hr : r = r') :
    concatenate S1x8x1026 2 [⟨S1x8x1, p⟩, ⟨S1x8x1024, q⟩, ⟨S1x8x1, r⟩] concatenates_S1x8x1_S1x8x1024_S1x8x1_S1x8x1026_d2
      = concatenate S1x8x1026 2 [⟨S1x8x1, p'⟩, ⟨S1x8x1024, q'⟩, ⟨S1x8x1, r'⟩] concatenates_S1x8x1_S1x8x1024_S1x8x1_S1x8x1026_d2 := by
  rw [hp, hq, hr]

theorem read_v25 (V : Valuation τ sig (Elt Ideal)) :
    StableHlo.after (ops (F := Ideal)) V (main_v25 : DevRef τ sig)
      = rO (rI (rD (rZ (V (main_arg0 : DevRef τ sig)) (V (main_arg1 : DevRef τ sig))) (V (main_arg2 : DevRef τ sig)))) := by
  after_reads_simp
  exact rO_congr (read_v23 V) (read_v22 V) (read_v24 V)

/-- A feature: 768 products. -/
theorem rZ_at (x : FVec Ideal S8x3x512x512 .f32) (w : FVec Ideal S256x768 .f32) (b : Fin 8) (n : Fin 1024) (d : Fin 256) :
    rZ x w (ix3 b n d) = ∑ k : Fin 768, x6 x (ix6 b ⟨k.val / 256, by omega⟩ ⟨n.val / 32, by omega⟩ ⟨k.val / 16 % 16, by omega⟩
      ⟨n.val % 32, by omega⟩ ⟨k.val % 16, by omega⟩) * w (ix2 d k) := by
  unfold rZ
  generalize x6 x = y
  pointwise []

/-- A squared distance. -/
theorem rD_at (z : FVec Ideal S8x1024x256 .f32) (cb : FVec Ideal S8192x256 .f32) (b : Fin 8) (n : Fin 1024) (k : Fin 8192) :
    rD z cb (ix3 b n k) = ((∑ d : Fin 256, z (ix3 b n d) * z (ix3 b n d))
      - Ideal.ofBits .f32 0x40000000#32 * ∑ d : Fin 256, z (ix3 b n d) * cb (ix2 k d)) + ∑ d : Fin 256, cb (ix2 k d) * cb (ix2 k d) := by
  pointwise [rD]

/-- A token. -/
theorem rO_at (I : IVec S8x1024 32) (b : Fin 8) (t : Fin 1026) :
    rO I (ix3 0 b t) = if h : t.val < 1 then 40192#32 else if h : t.val - 1 < 1024 then I (ix2 b ⟨t.val - 1, h⟩) + 32000#32 else 40193#32 := by
  pointwise [rO]
  rfl

end Cert.ReferenceIdeal.Own

end
-- ==== Proof.V.Kern.lean ====
/- The kernel's features and distances at an index, from the arguments. -/
module

public import proofs.«01_k».proof.Proof.V.Tile
public import proofs.«01_k».proof.Proof.V.RefVals
public import Idealize.ShloMosaic.Lib.Pipeline.ValueKit

@[expose] public section

set_option maxHeartbeats 4000000

noncomputable section

namespace Cert.KernelIdeal.Own

open Cert.KernelIdeal Cert.KernelIdeal.Gen Cert.Own
open Cert.ReferenceIdeal.Own (x6 rZ rD rI rO rZ_at rD_at rO_at)
open Idealize.ShloMosaic Idealize.ShloMosaic.TcCoe Idealize.ShloMosaic.StableHlo

theorem place_eq {s : Shape} (hs : ∀ a, 0 < s.size a) (v : Fin s.rank → ℕ) (x : s.Idx) (h : ∀ a, v a = (x a).val) : place s hs v = x := by
  funext a
  refine Fin.ext ?_
  show v a % s.size a = _
  rw [h a]
  exact Nat.mod_eq_of_lt (x a).isLt

section Reads

variable {e : EltTy}

theorem rowsE_at (A : ℕ → Vec Ideal S1x512x256 .f32) (n : Fin 1024) (d : Fin 256) :
    rowsE A (ix3 0 n d) = A (n.val / 512) (ix3 0 ⟨n.val % 512, by omega⟩ d) :=
  congrArg (A _) (place_eq _ _ _ fun a => by fin_cases a <;> rfl)

theorem rowsZ_at (A : ℕ → Vec Ideal S512x256 .f32) (n : Fin 1024) (d : Fin 256) :
    rowsZ A (ix2 n d) = A (n.val / 512) (ix2 ⟨n.val % 512, by omega⟩ d) :=
  congrArg (A _) (place_eq _ _ _ fun a => by fin_cases a <;> rfl)

theorem rowsV_at (A : ℕ → Vec Ideal S512x128 e) (n : Fin 1024) (d : Fin 128) :
    rowsV A (ix2 n d) = A (n.val / 512) (ix2 ⟨n.val % 512, by omega⟩ d) :=
  congrArg (A _) (place_eq _ _ _ fun a => by fin_cases a <;> rfl)

theorem rowsO_at (A : ℕ → Vec Ideal S1x512x1 .i32) (n : Fin 1024) :
    rowsO A (ix3 0 n 0) = A (n.val / 512) (ix3 0 ⟨n.val % 512, by omega⟩ 0) :=
  congrArg (A _) (place_eq _ _ _ fun a => by fin_cases a <;> rfl)

theorem ldS_at (S : S48x32x32x16.Idx → Elt Ideal .f32) (k j : ℕ) (p : Fin 16) (q : Fin 32) (x : Fin 16) (hj : j < 48) (hk : 16 * k + p.val < 32) :
    ldS S k j (ix4 0 p q x) = S (ix4 ⟨j, hj⟩ ⟨16 * k + p.val, hk⟩ q x) :=
  congrArg S (place_eq _ _ _ fun a => by fin_cases a <;> rfl)

theorem ldW_at (W : S768x256.Idx → Elt Ideal .f32) (j : ℕ) (x : Fin 16) (d : Fin 256) (hj : 16 * j + x.val < 768) :
    ldW W j (ix2 x d) = W (ix2 ⟨16 * j + x.val, hj⟩ d) :=
  congrArg W (place_eq _ _ _ fun a => by fin_cases a <;> rfl)

theorem ldZ_at (Z : S1024x256.Idx → Elt Ideal .f32) (k : ℕ) (r : Fin 512) (d : Fin 256) (n : Fin 1024) (h : 512 * k + r.val = n.val) :
    ldZ Z k (ix2 r d) = Z (ix2 n d) :=
  congrArg Z (place_eq _ _ _ fun a => by fin_cases a; exacts [h, rfl])

theorem ldV_at (V : S1024x128.Idx → Elt Ideal e) (k : ℕ) (r : Fin 512) (l : Fin 128) (n : Fin 1024) (h : 512 * k + r.val = n.val) :
    ldV V k (ix2 r l) = V (ix2 n l) :=
  congrArg V (place_eq _ _ _ fun a => by fin_cases a; exacts [h, rfl])

end Reads

variable (m : (ℓ : Loc nD τ sig) → Buf (Elt Ideal) ℓ) (c : Dev nD)

/-- The images. -/
abbrev aX : FVec Ideal Cert.ReferenceIdeal.S8x3x512x512 .f32 := m (c.tc.loc main_arg0)
/-- The weights. -/
abbrev aW : FVec Ideal Cert.ReferenceIdeal.S256x768 .f32 := m (c.tc.loc main_arg1)
/-- The codes. -/
abbrev aC : FVec Ideal Cert.ReferenceIdeal.S8192x256 .f32 := m (c.tc.loc main_arg2)

theorem read_x : VV m c main_call0_v0 = x6 (aX m c) := by
  unfold VV V0
  after_reads_simp
  rfl

theorem read_w : VV m c main_call0_v1 = transpose S768x256 [1, 0] (aW m c) transposes_S256x768_S768x256_1_0 := by
  unfold VV V0
  after_reads_simp
  rfl

theorem read_c : VV m c main_call0_v2 = transpose S256x8192 [1, 0] (aC m c) transposes_S8192x256_S256x8192_1_0 := by
  unfold VV V0
  after_reads_simp
  rfl

theorem index0 : ∀ t : Fin cfg0.N, win0_0.index t = ![0, 0] := (by decide +kernel : ∀ t : Fin grid0.N, _)
theorem index1 : ∀ t : Fin cfg0.N, win0_1.index t = ![0, t.val % 8] := (by decide +kernel : ∀ t : Fin grid0.N, _)
theorem index2 : ∀ t : Fin cfg0.N, win0_2.index t = ![t.val / 8, 0, 0] := (by decide +kernel : ∀ t : Fin grid0.N, _)
theorem index3 : ∀ t : Fin cfg0.N, win0_3.index t = ![t.val / 8, 0, 0] := (by decide +kernel : ∀ t : Fin grid0.N, _)

theorem wB_at (t : Fin cfg0.N) (k : Fin 768) (d : Fin 256) : wB m c t (ix2 k d) = aW m c (ix2 d k) := by
  unfold wB
  blk_simp
  have e : (win0_0.blk t).view.emb (ix2 k d) = (ix2 k d : S768x256.Idx) := by
    blk_ext [index0 t]
  rw [e, show VV m c main_call0_v1 = _ from read_w m c]
  pointwise []

theorem cB_at (t : Fin cfg0.N) (d : Fin 256) (k : Fin 1024) (K : Fin 8192) (hK : K.val = 1024 * (t.val % 8) + k.val) :
    cB m c t (ix2 d k) = aC m c (ix2 K d) := by
  unfold cB
  blk_simp
  have e : (win0_1.blk t).view.emb (ix2 d k) = (ix2 d K : S256x8192.Idx) := by
    blk_ext [index1 t, hK]
  rw [e, show VV m c main_call0_v2 = _ from read_c m c]
  pointwise []

theorem imB_at (b : Fin 8) (j : Fin 48) (p q : Fin 32) (x : Fin 16) :
    imB m c b.val (ix4 j p q x) = x6 (aX m c) (ix6 b ⟨j.val / 16, by omega⟩ p ⟨j.val % 16, by omega⟩ q x) := by
  have h : imB m c b.val (ix4 j p q x) = VV m c main_call0_v0 (place S8x3x32x16x32x16 (by decide) ![b.val, j.val / 16, p.val, j.val % 16, q.val, x.val]) := by
    rfl
  rw [h, read_x]
  exact congrArg (x6 (aX m c)) (place_eq _ _ _ fun a => by fin_cases a <;> rfl)

theorem patch_congr (b : Fin 8) {i i' : Fin 3} {p p' : Fin 32} {u u' : Fin 16} {q q' : Fin 32} {x x' : Fin 16} (h : i = i') (h1 : p = p')
    (h2 : u = u') (h3 : q = q') (h4 : x = x') :
    (ix6 b i p u q x : S8x3x32x16x32x16.Idx) = ix6 b i' p' u' q' x' := by
  subst h h1 h2 h3 h4
  rfl

/-- The sum the 48 slabs give is the reference's sum over 768 products. -/
theorem slabs (b : Fin 8) (t : Fin cfg0.N) (n : Fin 1024) (d : Fin 256) :
    ∑ j ∈ Finset.range 48, slabDot (ldS (imB m c b.val) (n.val / 512) j) (ldW (wB m c t) j) ⟨n.val % 512, by omega⟩ d
      = rZ (aX m c) (aW m c) (ix3 b n d) := by
  rw [rZ_at, Fin.sum_univ_tiles 48 16 (by decide), Finset.sum_range]
  refine Finset.sum_congr rfl fun j _ => Finset.sum_congr rfl fun x _ => ?_
  have hn := n.isLt
  have hj := j.isLt
  have hx := x.isLt
  rw [ldS_at _ _ _ _ _ _ hj (by show 16 * (n.val / 512) + n.val % 512 / 32 < 32; omega), ldW_at _ _ _ _ (by omega), wB_at,
    show (⟨j.val, hj⟩ : Fin 48) = j from rfl, imB_at]
  refine congrArg₂ (· * ·) (congrArg (x6 (aX m c)) ?_) (congrArg (aW m c) ?_)
  · refine patch_congr _ (Fin.ext ?_) (Fin.ext ?_) (Fin.ext ?_) (Fin.ext ?_) (Fin.ext ?_)
    · show j.val / 16 = (j.val * 16 + x.val) / 256; omega
    · show 16 * (n.val / 512) + n.val % 512 / 32 = n.val / 32; omega
    · show j.val % 16 = (j.val * 16 + x.val) / 16 % 16; omega
    · show n.val % 512 % 32 = n.val % 32; omega
    · show x.val = (j.val * 16 + x.val) % 16; omega
  · exact congrArg (ix2 d) (Fin.ext (by show 16 * j.val + x.val = j.val * 16 + x.val; omega))

/-- The features the kernel stores are the reference's. -/
theorem ze_at (b : Fin 8) (n : Fin 1024) (d : Fin 256) : ze m c b.val (ix3 0 n d) = rZ (aX m c) (aW m c) (ix3 b n d) := by
  unfold ze zAll
  rw [rowsE_at]
  unfold zTile
  rw [zWith3_at, slabs]

/-- The scaled features are the reference's times minus two. -/
theorem zs_at (b : Fin 8) (n : Fin 1024) (d : Fin 256) :
    zs m c b.val (ix2 n d) = rZ (aX m c) (aW m c) (ix3 b n d) * Ideal.ofBits .f32 0xC0000000#32 := by
  unfold zs zsAll
  rw [rowsZ_at]
  unfold zsTile
  rw [zWith4_at, slabs]

/-- What the kernel compares: a code's distance less the feature's own length. -/
def dist (b : Fin 8) (n : Fin 1024) (k : ℕ) : EReal :=
  ∑ d : Fin 256, rZ (aX m c) (aW m c) (ix3 b n d) * Ideal.ofBits .f32 0xC0000000#32 * aC m c (ix2 ⟨k % 8192, Nat.mod_lt _ (by decide)⟩ d)
    + ∑ d : Fin 256, aC m c (ix2 ⟨k % 8192, Nat.mod_lt _ (by decide)⟩ d) * aC m c (ix2 ⟨k % 8192, Nat.mod_lt _ (by decide)⟩ d)

theorem dT_dist (b : Fin 8) (n : Fin 1024) (t : Fin cfg0.N) (k : Fin 1024) :
    dT (cB m c t) (cnV m c (t.val % 8)) (ldZ (zs m c b.val) (n.val / 512)) (ix2 ⟨n.val % 512, by omega⟩ k)
      = dist m c b n (1024 * (t.val % 8) + k.val) := by
  have hk := k.isLt
  have e : ∀ s : Fin cfg0.N, s.val % 8 = t.val % 8 → ∀ d, cB m c s (ix2 d k) = aC m c (ix2 ⟨(1024 * (t.val % 8) + k.val) % 8192, Nat.mod_lt _ (by decide)⟩ d) :=
    fun s hs d => cB_at m c s d k _ (by rw [hs]; show (1024 * (t.val % 8) + k.val) % 8192 = _; omega)
  rw [dT_at, dist]
  congr 1
  · refine Finset.sum_congr rfl fun d _ => ?_
    rw [ldZ_at _ _ _ _ n (by show 512 * (n.val / 512) + n.val % 512 = n.val; omega), zs_at, e t rfl]
  · unfold cnV
    rw [pay1_at]
    refine Finset.sum_congr rfl fun d _ => ?_
    rw [e (pt (t.val % 8)) (by show t.val % 8 % 64 % 8 = t.val % 8; omega)]

end Cert.KernelIdeal.Own

end
-- ==== Proof.V.Search.lean ====
/- The kernel's winners: the lowest code at which the compared value is least. -/
module

public import proofs.«01_k».proof.Proof.V.Kern

@[expose] public section

set_option maxHeartbeats 4000000

noncomputable section

namespace Cert.KernelIdeal.Own

open Cert.KernelIdeal Cert.KernelIdeal.Gen Cert.Own
open Idealize.ShloMosaic Idealize.ShloMosaic.TcCoe

/-- Where the running minimum starts. -/
def big : EReal := Ideal.ofBits .f32 0x7F7FFFFF#32

variable (m : (ℓ : Loc nD τ sig) → Buf (Elt Ideal) ℓ) (c : Dev nD) (b : Fin 8) (n : Fin 1024)

/-- The minimum of a lane in a tile of image `b`, after `g` groups. -/
def vAt (j : ℕ) (l : Fin 128) (g : ℕ) : EReal :=
  vG (cB m c (pt (8 * b.val + j))) (cnV m c j) (ldZ (zs m c b.val) (n.val / 512)) (ldV (start m c (8 * b.val + j)).1 (n.val / 512))
    ⟨n.val % 512, by omega⟩ l g

/-- The index of a lane in a tile of image `b`, after `g` groups. -/
def iAt (j : ℕ) (l : Fin 128) (g : ℕ) : BitVec 32 :=
  iG (cB m c (pt (8 * b.val + j))) (cnV m c j) (ldZ (zs m c b.val) (n.val / 512)) (ldV (start m c (8 * b.val + j)).1 (n.val / 512))
    (ldV (start m c (8 * b.val + j)).2 (n.val / 512)) (grid0.coords (pt (8 * b.val + j))) ⟨n.val % 512, by omega⟩ l g

theorem acc_at (j : ℕ) (hj : j < 8) (l : Fin 128) :
    (acc m c (8 * b.val + j)).1 (ix2 n l) = vAt m c b n j l 8 ∧ (acc m c (8 * b.val + j)).2 (ix2 n l) = iAt m c b n j l 8 := by
  have hq : (8 * b.val + j) / 8 = b.val := by omega
  have hr : (8 * b.val + j) % 8 = j := by omega
  rw [acc_eq]
  unfold more vAll iAll
  rw [hq, hr]
  dsimp only
  rw [rowsV_at, rowsV_at, vT_at, iT_at]
  exact ⟨rfl, rfl⟩

theorem lane_step (hb : ∀ k, k < 8192 → dist m c b n k < big) (j : ℕ) (hj : j < 8) (l : Fin 128) (x : ℕ)
    (hx : (start m c (8 * b.val + j)).2 (ix2 n l) = BitVec.ofNat 32 x)
    (h : Lane big (dist m c b n) l.val (8 * j) ((start m c (8 * b.val + j)).1 (ix2 n l)) x) :
    ∃ y, iAt m c b n j l 8 = BitVec.ofNat 32 y ∧ Lane big (dist m c b n) l.val (8 * j + 8) (vAt m c b n j l 8) y := by
  have hB := b.isLt
  have hn : 512 * (n.val / 512) + n.val % 512 = n.val := by omega
  have ht : (pt (8 * b.val + j)).val % 8 = j := by show (8 * b.val + j) % 64 % 8 = j; omega
  refine lane_tile _ _ _ _ _ _ j ((coord1 _).trans ht) _ l (fun k => ?_) (fun k => hb _ (by have := k.isLt; omega)) x ?_ ?_ 8 le_rfl
  · have := dT_dist m c b n (pt (8 * b.val + j)) k
    rw [ht] at this
    exact this
  · rw [ldV_at _ _ _ _ n hn]; exact hx
  · rw [ldV_at _ _ _ _ n hn]; exact h

theorem lane_start (hb : ∀ k, k < 8192 → dist m c b n k < big) (j : ℕ) (hj : j < 8) (l : Fin 128) :
    ∃ x, (start m c (8 * b.val + j)).2 (ix2 n l) = BitVec.ofNat 32 x
      ∧ Lane big (dist m c b n) l.val (8 * j) ((start m c (8 * b.val + j)).1 (ix2 n l)) x := by
  induction j with
  | zero =>
    refine ⟨0, ?_, ?_⟩
    · rw [start_zero _ _ _ (by omega)]
      rfl
    · rw [start_zero _ _ _ (by omega)]
      exact Lane.start _ _ _ _
  | succ j ih =>
    obtain ⟨x, hx, hL⟩ := ih (by omega)
    obtain ⟨y, hy, hM⟩ := lane_step m c b n hb j (by omega) l x hx hL
    obtain ⟨e1, e2⟩ := acc_at m c b n j (by omega) l
    refine ⟨y, ?_, ?_⟩
    · rw [← Nat.add_assoc, start_next _ _ _ (by omega), e2, hy]
    · rw [← Nat.add_assoc, start_next _ _ _ (by omega), e1]
      exact hM

theorem minsi_cases (a d : BitVec 32) : (IntOp.minsi a d = a ∧ a.toInt ≤ d.toInt) ∨ (IntOp.minsi a d = d ∧ d.toInt ≤ a.toInt) := by
  unfold IntOp.minsi
  split
  all_goals simp_all [BitVec.slt, BitVec.sle]
  all_goals omega

/-- The token the kernel stores: the lowest place of the least value, shifted. -/
theorem oF_low (hb : ∀ k, k < 8192 → dist m c b n k < big) :
    ∃ k, oF m c (8 * b.val + 7) (ix3 0 n 0) = BitVec.ofNat 32 k + 32000#32 ∧ Low (dist m c b n) 8192 k := by
  have hq : (8 * b.val + 7) / 8 = b.val := by omega
  have hr : (8 * b.val + 7) % 8 = 7 := by omega
  have hl : ∀ l : Fin 128, ∃ y, iAt m c b n 7 l 8 = BitVec.ofNat 32 y ∧ Lane big (dist m c b n) l.val 64 (vAt m c b n 7 l 8) y := fun l => by
    obtain ⟨x, hx, hL⟩ := lane_start m c b n hb 7 (by decide) l
    exact lane_step m c b n hb 7 (by decide) l x hx hL
  choose y hy hL using hl
  have hy8 : ∀ l, y l < 8192 := fun l => by
    obtain ⟨q, hq, e, _⟩ := (hL l).place (by decide)
    have := l.isLt
    omega
  have hv : ∀ l, vAt m c b n 7 l 8 < big := fun l => by
    obtain ⟨q, hq, e, e'⟩ := (hL l).place (by decide)
    rw [e']
    exact hb _ (hy8 l)
  have e : oF m c (8 * b.val + 7) (ix3 0 n 0) = Finset.univ.fold IntOp.minsi 2147483647#32 (fun l : Fin 128 =>
      if vAt m c b n 7 l 8 = Finset.univ.fold min (⊤ : EReal) (fun l' : Fin 128 => vAt m c b n 7 l' 8) then iAt m c b n 7 l 8
      else 8192#32) + 32000#32 := by
    unfold oF oAll
    rw [rowsO_at, oT_at, hq, hr]
    rfl
  rw [e]
  generalize hg : Finset.univ.fold min (⊤ : EReal) (fun l' : Fin 128 => vAt m c b n 7 l' 8) = g
  obtain ⟨hg1, hg2⟩ := fold_min_reached (⊤ : EReal) (fun l' : Fin 128 => vAt m c b n 7 l' 8) Finset.univ
  rw [hg] at hg1 hg2
  have hg3 : ∃ l, vAt m c b n 7 l 8 = g := by
    rcases hg2 with h | ⟨l, _, h⟩
    · exact absurd ((hg1 0 (Finset.mem_univ _)).trans_lt (hv 0)) (by rw [h]; exact not_top_lt)
    · exact ⟨l, h.symm⟩
  obtain ⟨l0, hl0⟩ := hg3
  obtain ⟨h0, h1, h2⟩ := fold_least IntOp.minsi BitVec.toInt minsi_cases 2147483647#32 (fun l : Fin 128 =>
      if vAt m c b n 7 l 8 = g then iAt m c b n 7 l 8 else 8192#32) Finset.univ
  generalize Finset.univ.fold IntOp.minsi 2147483647#32 (fun l : Fin 128 =>
      if vAt m c b n 7 l 8 = g then iAt m c b n 7 l 8 else 8192#32) = x at h0 h1 h2
  have hw : ∀ l, (BitVec.ofNat 32 (y l)).toInt = y l := fun l => word_toInt _ (by have := hy8 l; omega)
  have hx0 : x.toInt < 8192 := by
    have := h1 l0 (Finset.mem_univ _)
    rw [if_pos hl0, hy, hw] at this
    have := hy8 l0
    omega
  have hx1 : ∃ l, vAt m c b n 7 l 8 = g ∧ x = BitVec.ofNat 32 (y l) := by
    rcases h2 with h | ⟨l, _, h⟩
    · rw [h] at hx0; exact absurd hx0 (by decide)
    · by_cases hvl : vAt m c b n 7 l 8 = g
      · rw [if_pos hvl, hy] at h
        exact ⟨l, hvl, h⟩
      · rw [if_neg hvl] at h
        rw [h] at hx0; exact absurd hx0 (by decide)
  obtain ⟨l1, hv1, hx⟩ := hx1
  refine ⟨y l1, by rw [hx], ?_⟩
  refine Lane.all (n := 64) (by decide) hL (fun l => hg1 l (Finset.mem_univ _)) ⟨l1, hv1, rfl⟩ fun l hl => ?_
  have := h1 l (Finset.mem_univ _)
  rw [if_pos hl, hy, hw, hx, hw] at this
  omega

end Cert.KernelIdeal.Own

end
-- ==== Proof.V.Const.lean ====
/- The programs' float constants as extended reals. -/
module

public import Idealize.ShloMosaic.Lib.Pointwise
public import Idealize.ShloMosaic.PureOps.Ideal

@[expose] public section

namespace Cert.Own

open Idealize.ShloMosaic

theorem two_eq : Ideal.ofBits .f32 0x40000000#32 = ((2 : ℝ) : EReal) := by
  simp [Ideal.ofBits, Ideal.ieee]
  norm_cast
  norm_num
theorem neg_two_eq : Ideal.ofBits .f32 0xC0000000#32 = ((-2 : ℝ) : EReal) := by
  simp [Ideal.ofBits, Ideal.ieee]
  norm_cast
  norm_num
theorem limit_eq : Ideal.ofBits .f32 0x51800000#32 = ((2 ^ 36 : ℝ) : EReal) := by
  simp [Ideal.ofBits, Ideal.ieee]
  norm_cast
theorem big_eq : Ideal.ofBits .f32 0x7F7FFFFF#32 = ((2 ^ 128 - 2 ^ 104 : ℝ) : EReal) := by
  simp [Ideal.ofBits, Ideal.ieee]
  norm_cast

end Cert.Own
-- ==== Proof.V.Finite.lean ====
/- Within the bound on the arguments every value is a real number, and both programs order the codes alike. -/
module

public import proofs.«01_k».proof.Proof.V.Search
public import proofs.«01_k».proof.Proof.V.Const

@[expose] public section

set_option maxHeartbeats 4000000

noncomputable section

namespace Cert.Own

/-- A sum of reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of `n` reals of size at most `B` has size at most `n * B`. -/
theorem sum_bound {n : ℕ} (f : Fin n → ℝ) (B : ℝ) (h : ∀ i, |f i| ≤ B) : |∑ i, f i| ≤ n * B := by
  refine (Finset.abs_sum_le_sum_abs _ _).trans ((Finset.sum_le_sum fun i _ => h i).trans ?_)
  simp

/-- A number of size at most a real bound is a real. -/
theorem real_of_bound {a : EReal} {B : ℝ} (h : max a (-a) ≤ (B : EReal)) : ∃ r : ℝ, a = r ∧ |r| ≤ B := by
  have h1 : a ≤ B := (le_max_left _ _).trans h
  have h2 : -a ≤ B := (le_max_right _ _).trans h
  induction a using EReal.rec with
  | bot => exact absurd h2 (by simp)
  | top => exact absurd h1 (by simp)
  | coe r =>
    refine ⟨r, rfl, abs_le.2 ⟨?_, EReal.coe_le_coe_iff.1 h1⟩⟩
    rw [← EReal.coe_neg] at h2
    linarith [EReal.coe_le_coe_iff.1 h2]

end Cert.Own

namespace Cert.KernelIdeal.Own

open Cert.KernelIdeal Cert.KernelIdeal.Gen Cert.Own
open Cert.ReferenceIdeal.Own (x6 rZ rD rI rO rZ_at rD_at rO_at argmin_low)
open Idealize.ShloMosaic Idealize.ShloMosaic.TcCoe

variable (m : (ℓ : Loc nD τ sig) → Buf (Elt Ideal) ℓ) (c : Dev nD)

/-- The arguments' entries have size at most 2^36. -/
structure Bounded : Prop where
  x : ∀ i, max (aX m c i) (-(aX m c i)) ≤ ((2 ^ 36 : ℝ) : EReal)
  w : ∀ i, max (aW m c i) (-(aW m c i)) ≤ ((2 ^ 36 : ℝ) : EReal)
  cb : ∀ i, max (aC m c i) (-(aC m c i)) ≤ ((2 ^ 36 : ℝ) : EReal)

variable {m c}

/-- A feature is a real. -/
theorem feature_real (h : Bounded m c) (b : Fin 8) (n : Fin 1024) (d : Fin 256) :
    ∃ r : ℝ, rZ (aX m c) (aW m c) (ix3 b n d) = r ∧ |r| ≤ 768 * (2 ^ 36 * 2 ^ 36) := by
  have hx : ∀ i, ∃ r : ℝ, x6 (aX m c) i = r ∧ |r| ≤ 2 ^ 36 := fun i => real_of_bound (h.x _)
  have hw : ∀ i, ∃ r : ℝ, aW m c i = r ∧ |r| ≤ 2 ^ 36 := fun i => real_of_bound (h.w i)
  choose xr hx hxb using hx
  choose wr hw hwb using hw
  rw [rZ_at]
  simp only [hx, hw, ← EReal.coe_mul]
  refine ⟨_, coe_sum _ _, ?_⟩
  refine (sum_bound _ (2 ^ 36 * 2 ^ 36) fun k => ?_).trans (by norm_num)
  rw [abs_mul]
  exact mul_le_mul (hxb _) (hwb _) (abs_nonneg _) (by positivity)

/-- The compared values are reals below the start, and the reference's distance is the feature's own length more. -/
theorem dist_real (h : Bounded m c) (b : Fin 8) (n : Fin 1024) : ∃ (s : ℝ) (f : ℕ → ℝ),
    (∀ k, dist m c b n k = f k ∧ f k < 2 ^ 128 - 2 ^ 104)
    ∧ ∀ k : ℕ, rD (rZ (aX m c) (aW m c)) (aC m c) (ix3 b n ⟨k % 8192, Nat.mod_lt _ (by decide)⟩) = ((s + f k : ℝ) : EReal) := by
  have hc : ∀ i, ∃ r : ℝ, aC m c i = r ∧ |r| ≤ 2 ^ 36 := fun i => real_of_bound (h.cb i)
  choose cr hc hcb using hc
  choose zr hz hzb using fun d => feature_real h b n d
  refine ⟨∑ d, zr d * zr d, fun k => ∑ d : Fin 256, zr d * (-2) * cr (ix2 ⟨k % 8192, Nat.mod_lt _ (by decide)⟩ d)
    + ∑ d : Fin 256, cr (ix2 ⟨k % 8192, Nat.mod_lt _ (by decide)⟩ d) * cr (ix2 ⟨k % 8192, Nat.mod_lt _ (by decide)⟩ d), fun k => ⟨?_, ?_⟩, fun k => ?_⟩
  · unfold dist
    simp only [hz, hc, neg_two_eq, ← EReal.coe_mul]
    rw [coe_sum, coe_sum, ← EReal.coe_add]
  · have h1 := sum_bound (fun d : Fin 256 => zr d * (-2) * cr (ix2 ⟨k % 8192, Nat.mod_lt _ (by decide)⟩ d)) (768 * (2 ^ 36 * 2 ^ 36) * 2 * 2 ^ 36) fun d => by
      rw [abs_mul, abs_mul, abs_neg, abs_two]
      exact mul_le_mul (mul_le_mul_of_nonneg_right (hzb d) (by norm_num)) (hcb _) (abs_nonneg _) (by positivity)
    have h2 := sum_bound (fun d : Fin 256 => cr (ix2 ⟨k % 8192, Nat.mod_lt _ (by decide)⟩ d) * cr (ix2 ⟨k % 8192, Nat.mod_lt _ (by decide)⟩ d)) (2 ^ 36 * 2 ^ 36) fun d => by
      rw [abs_mul]
      exact mul_le_mul (hcb _) (hcb _) (abs_nonneg _) (by positivity)
    have h3 := (abs_le.1 h1).2
    have h4 := (abs_le.1 h2).2
    norm_num at h3 h4 ⊢
    linarith
  · rw [rD_at]
    simp only [hz, hc, two_eq, ← EReal.coe_mul]
    rw [coe_sum, coe_sum, coe_sum, ← EReal.coe_mul, ← EReal.coe_sub, ← EReal.coe_add]
    refine congrArg _ ?_
    have e : ∑ d : Fin 256, zr d * (-2) * cr (ix2 ⟨k % 8192, Nat.mod_lt _ (by decide)⟩ d)
        = -2 * ∑ d : Fin 256, zr d * cr (ix2 ⟨k % 8192, Nat.mod_lt _ (by decide)⟩ d) := by
      rw [Finset.mul_sum]
      exact Finset.sum_congr rfl fun d _ => by ring
    rw [e]
    ring

/-- The reference's index, spelt out. -/
theorem rI_def (D : FVec Ideal Cert.ReferenceIdeal.S8x1024x8192 .f32) : rI D = fun j =>
    (Host.argReduce (Cert.ReferenceIdeal.reducer_argmin_f32_i32 (F := Ideal)) D (iotaInDim Cert.ReferenceIdeal.S8x1024x8192 32 2)
      (constant Cert.ReferenceIdeal.S_ .f32 0x7F800000#32) (constantI Cert.ReferenceIdeal.S_ 32 0#32)
      Cert.ReferenceIdeal.Gen.reducesTo_S8x1024x8192_S8x1024_d2 Cert.ReferenceIdeal.Gen.h_S_ j).2 := rfl

/-- The reference's index is the lowest at which the distance is least. -/
theorem index_low (D : FVec Ideal Cert.ReferenceIdeal.S8x1024x8192 .f32) (b : Fin 8) (n : Fin 1024) (hD : ∀ k : Fin 8192, D (ix3 b n k) < ⊤) :
    ∃ k, rI D (ix2 b n) = BitVec.ofNat 32 k ∧ Low (fun c => D (ix3 b n ⟨c % 8192, Nat.mod_lt _ (by decide)⟩)) 8192 k := by
  obtain ⟨k, hk, hl⟩ := argmin_low D b n hD
  exact ⟨k, (congrFun (rI_def D) _).trans hk, hl⟩

/-- The kernel's token is the reference's. -/
theorem token_eq (h : Bounded m c) (b : Fin 8) (n : Fin 1024) :
    oF m c (8 * b.val + 7) (ix3 0 n 0) = rI (rD (rZ (aX m c) (aW m c)) (aC m c)) (ix2 b n) + 32000#32 := by
  obtain ⟨s, f, hf, hr⟩ := dist_real h b n
  obtain ⟨k, hk, hlow⟩ := oF_low m c b n fun k hk => by
    rw [(hf k).1]
    unfold big
    rw [big_eq]
    exact EReal.coe_lt_coe_iff.2 (hf k).2
  obtain ⟨k', hk', hlow'⟩ := index_low (rD (rZ (aX m c) (aW m c)) (aC m c)) b n fun k => by
    have := hr k.val
    rw [show (⟨k.val % 8192, Nat.mod_lt _ (by decide)⟩ : Fin 8192) = k from Fin.ext (Nat.mod_eq_of_lt k.isLt)] at this
    rw [this]
    exact EReal.coe_lt_top _
  have hl : Low (fun c' => rD (rZ (aX m c) (aW m c)) (aC m c) (ix3 b n ⟨c' % 8192, Nat.mod_lt _ (by decide)⟩)) 8192 k := by
    refine hlow.congr (fun a _ a' _ e => ?_) (fun a _ a' _ e => ?_)
    · rw [(hf a).1, (hf a').1, EReal.coe_lt_coe_iff] at e
      show rD _ _ _ < rD _ _ _
      rw [hr, hr, EReal.coe_lt_coe_iff]
      linarith
    · rw [(hf a).1, (hf a').1, EReal.coe_le_coe_iff] at e
      show rD _ _ _ ≤ rD _ _ _
      rw [hr, hr, EReal.coe_le_coe_iff]
      linarith
  rw [hk, hl.unique hlow', ← hk']

end Cert.KernelIdeal.Own

end
-- ==== Proof.V.Final.lean ====
/- The arrays the kernel leaves and the results the host's last operations make of them. -/
module

public import proofs.«01_k».proof.Proof.V.Finite

@[expose] public section

set_option maxHeartbeats 4000000

noncomputable section

namespace Cert.KernelIdeal.Own

open Cert.KernelIdeal Cert.KernelIdeal.Gen Cert.Own
open Cert.ReferenceIdeal.Own (x6 rZ rD rI rO rZ_at rD_at rO_at)
open Idealize.ShloMosaic Idealize.ShloMosaic.TcCoe Idealize.ShloMosaic.StableHlo Idealize.SL.Sem

theorem flush_in (w : Fin 4) (hw : w = 2 ∨ w = 3) : ∀ t : Fin cfg0.N, (cfg0.win w).flush t = true → t.val % 8 = 7 := by
  rcases hw with rfl | rfl
  · exact (by decide +kernel : ∀ t : Fin grid0.N, (win0 2).flush t = true → t.val % 8 = 7)
  · exact (by decide +kernel : ∀ t : Fin grid0.N, (win0 3).flush t = true → t.val % 8 = 7)

theorem split_z (y : S1x1024x256.Idx) : ∃ n d, y = ix3 0 n d :=
  ⟨y 1, y 2, by funext a; fin_cases a; exacts [Subsingleton.elim (α := Fin 1) _ _, rfl, rfl]⟩

theorem split_o (y : S1x1024x1.Idx) : ∃ n, y = ix3 0 n 0 :=
  ⟨y 1, by funext a; fin_cases a; exacts [Subsingleton.elim (α := Fin 1) _ _, rfl, Subsingleton.elim (α := Fin 1) _ _]⟩

variable (m : (ℓ : Loc nD τ sig) → Buf (Elt Ideal) ℓ) (c : Dev nD)

/-- The reference's features. -/
abbrev rF : FVec Ideal Cert.ReferenceIdeal.S8x1024x256 .f32 := rZ (aX m c) (aW m c)
/-- The reference's indices. -/
abbrev rJ : IVec Cert.ReferenceIdeal.S8x1024 32 := rI (rD (rF m c) (aC m c))

/-- The tokens, as the kernel's array holds them. -/
def toks : S8x1024x1.Idx → BitVec 32 := fun y => rJ m c (ix2 (y 0) (y 1)) + 32000#32

theorem arr3 : (dats m 0 c).arrAt 3 cfg0.N = rF m c := by
  refine (dats m 0 c).arrAt_eq_of_covers 3 _ (by decide +kernel) fun t hf y => ?_
  blk_simp
  have ht : t.val < 64 := t.isLt
  obtain ⟨n, d, rfl⟩ := split_z y
  have e : (win0_3.blk t).view.emb (ix3 0 n d) = (ix3 ⟨t.val / 8, by omega⟩ n d : S8x1024x256.Idx) := by
    blk_ext [index3 t]
  rw [e]
  exact ze_at m c ⟨t.val / 8, by omega⟩ n d

theorem arr2 (h : Bounded m c) : (dats m 0 c).arrAt 2 cfg0.N = toks m c := by
  refine (dats m 0 c).arrAt_eq_of_covers 2 _ (by decide +kernel) fun t hf y => ?_
  have h7 := flush_in 2 (Or.inl rfl) t hf
  blk_simp
  have ht : t.val < 64 := t.isLt
  obtain ⟨n, rfl⟩ := split_o y
  have e : (win0_2.blk t).view.emb (ix3 0 n 0) = (ix3 ⟨t.val / 8, by omega⟩ n 0 : S8x1024x1.Idx) := by
    blk_ext [index2 t]
  rw [e]
  have := token_eq h ⟨t.val / 8, by omega⟩ n
  rw [show 8 * (⟨t.val / 8, by omega⟩ : Fin 8).val + 7 = t.val by show 8 * (t.val / 8) + 7 = t.val; omega] at this
  exact this

section Tail

variable (V : Valuation τ sig (Elt Ideal))

theorem tail_ones : StableHlo.after (hostOps1 (F := Ideal)) V (main_v0_1 : DevRef τ sig) = broadcastInDim S8x1026 ![] bcast_S_S8x1026 (constantI S_ 32 1#32) := by
  after_reads_simp
  rfl

theorem tail_v6 : StableHlo.upto (hostOps1 (F := Ideal)) V 6 (main_call0_v6 : DevRef τ sig) = broadcastInDim S1x8x1 ![] bcast_S_S1x8x1 (constantI S_ 32 40192#32) := by
  after_reads_simp
  rfl

theorem tail_v7 : StableHlo.upto (hostOps1 (F := Ideal)) V 6 (main_call0_v7 : DevRef τ sig) = broadcastInDim S1x8x1 ![] bcast_S_S1x8x1 (constantI S_ 32 40193#32) := by
  after_reads_simp
  rfl

theorem tail_v5 : StableHlo.upto (hostOps1 (F := Ideal)) V 6 (main_call0_v5 : DevRef τ sig)
    = broadcastInDim S1x8x1024 ![1, 2] bcast_S8x1024_S1x8x1024_1_2 (shapeCast S8x1024 (V (main_call0_v3_0 : DevRef τ sig)) shapeCasts_S8x1024x1_S8x1024) := by
  after_reads_simp
  rfl

/-- The tokens with their leading axis. -/
theorem toks_row (J : IVec Cert.ReferenceIdeal.S8x1024 32) :
    broadcastInDim S1x8x1024 ![1, 2] bcast_S8x1024_S1x8x1024_1_2
        (shapeCast S8x1024 ((fun y => J (ix2 (y 0) (y 1)) + 32000#32 : S8x1024x1.Idx → BitVec 32)) shapeCasts_S8x1024x1_S8x1024)
      = addi (broadcastInDim Cert.ReferenceIdeal.S1x8x1024 ![1, 2] Cert.ReferenceIdeal.Gen.bcast_S8x1024_S1x8x1024_1_2 J)
        (broadcastInDim Cert.ReferenceIdeal.S1x8x1024 ![] Cert.ReferenceIdeal.Gen.bcast_S_S1x8x1024 (constantI Cert.ReferenceIdeal.S_ 32 32000#32)) := by
  funext y
  obtain ⟨b, n, rfl⟩ : ∃ b n, y = ix3 0 b n :=
    ⟨y 1, y 2, by funext a; fin_cases a; exacts [Subsingleton.elim (α := Fin 1) _ _, rfl, rfl]⟩
  pointwise []
  rfl

/-- The host's last operations put the marks around the tokens. -/
theorem tail_tokens (J : IVec Cert.ReferenceIdeal.S8x1024 32)
    (hJ : V (main_call0_v3_0 : DevRef τ sig) = (fun y => J (ix2 (y 0) (y 1)) + 32000#32 : S8x1024x1.Idx → BitVec 32)) :
    StableHlo.after (hostOps1 (F := Ideal)) V (main_v0_0 : DevRef τ sig) = rO J := by
  after_reads_simp
  refine Cert.ReferenceIdeal.Own.rO_congr (tail_v6 V) ((tail_v5 V).trans ?_) (tail_v7 V)
  rw [hJ]
  exact toks_row J

end Tail

/-- The buffers after the kernel and the host's last operations. -/
theorem end_read (b : Ref sig .tc) : Pipeline.afterTail₀ cfgs (dats m) 0 (V0 m) [hostOps1] c b
    = StableHlo.after (hostOps1 (F := Ideal)) (Pipeline.withArrays spec0 c (V0 m c) fun w => (dats m 0 c).arrAt w cfg0.N) (b : DevRef τ sig) := by
  unfold Pipeline.afterTail₀
  rfl

theorem end_tokens (h : Bounded m c) : Pipeline.afterTail₀ cfgs (dats m) 0 (V0 m) [hostOps1] c main_v0_0 = rO (rJ m c) := by
  rw [end_read]
  refine tail_tokens _ (rJ m c) ?_
  refine Eq.trans ?_ (arr2 m c h)
  exact Pipeline.withArrays_arr spec0 (by decide) c _ _ 2

theorem end_ones : Pipeline.afterTail₀ cfgs (dats m) 0 (V0 m) [hostOps1] c main_v0_1 = broadcastInDim S8x1026 ![] bcast_S_S8x1026 (constantI S_ 32 1#32) := by
  rw [end_read, tail_ones]

/-- What the kernel leaves, for bounded arguments. -/
theorem values (ρ : Dev nD → PrngReg) (h : ∀ c, Bounded m c) : θ_run defs (onTc (τ := τ) (main (F := Ideal))) ⟨m, fun _ => 0, ρ⟩ (fun r => ∀ c : Dev nD,
      r.2.mem ((c.tc : Thread nD τ).loc main_v0_0) = rO (rJ m c)
      ∧ r.2.mem ((c.tc : Thread nD τ).loc main_v0_1) = broadcastInDim S8x1026 ![] bcast_S_S8x1026 (constantI S_ 32 1#32)
      ∧ r.2.mem ((c.tc : Thread nD τ).loc main_v0_2) = rF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r hr c => ⟨?_, ?_, ?_, ?_, ?_, ?_⟩) (run_main m ρ)
  · exact ((hr.1 c).2 main_v0_0 (Pipeline.mem_restRefs_of main_v0_0 (by decide) (by decide))).trans (end_tokens m c (h c))
  · exact ((hr.1 c).2 main_v0_1 (Pipeline.mem_restRefs_of main_v0_1 (by decide) (by decide))).trans (end_ones m c)
  · exact ((hr.1 c).1 3).trans (arr3 m c)
  · exact ((hr.1 c).2 main_arg0 (Pipeline.mem_restRefs_of main_arg0 (by decide) (by decide))).trans (kept m c main_arg0 (by decide) (by decide) (by decide))
  · exact ((hr.1 c).2 main_arg1 (Pipeline.mem_restRefs_of main_arg1 (by decide) (by decide))).trans (kept m c main_arg1 (by decide) (by decide) (by decide))
  · exact ((hr.1 c).2 main_arg2 (Pipeline.mem_restRefs_of main_arg2 (by decide) (by decide))).trans (kept m c main_arg2 (by decide) (by decide) (by decide))

end Cert.KernelIdeal.Own

end
-- ==== Proof.V.Claim.lean ====
/- The predicate read back, and the two programs' results as the same values. -/
module

public import proofs.«01_k».proof.Defs
public import proofs.«01_k».proof.Proof.V.Final
public import Idealize.ShloMosaic.Lib.ReduceAll

@[expose] public section

set_option maxHeartbeats 4000000

noncomputable section

namespace Cert.Own

open Idealize.ShloMosaic Idealize.ShloMosaic.TcCoe Idealize.ShloMosaic.StableHlo Idealize.SL.Sem

theorem preFacts : Cert.Pre_bounded.Facts := ⟨by decide, by decide, by decide, by decide, by decide, by decide, by decide⟩

/-- An entry that passes the comparison has size at most 2^36. -/
theorem size_le {s : Shape} (x : FVec Ideal s .f32) (h : Cert.Pre_bounded.S_.BroadcastsInDim s (![] : Fin 0 → Fin s.rank)) (i : s.Idx)
    (e : cmpf .ole (Host.absf x) (broadcastInDim s ![] h (constant (F := Ideal) Cert.Pre_bounded.S_ .f32 0x51800000#32)) i = 1#1) :
    max (x i) (-(x i)) ≤ ((2 ^ 36 : ℝ) : EReal) := by
  rw [← limit_eq]
  have e' : Ideal.cmp .ole (max (x i) (-(x i))) (Ideal.ofBits .f32 0x51800000#32) = 1#1 := e
  by_contra hn
  have h0 : Ideal.cmp .ole (max (x i) (-(x i))) (Ideal.ofBits .f32 0x51800000#32) = 0#1 := by
    simp only [Ideal.cmp, decide_eq_false hn]
    rfl
  rw [h0] at e'
  exact absurd e' (by decide)

theorem bounded_of [Cert.Pre_bounded.Facts] (m : (ℓ : Loc Cert.KernelIdeal.nD Cert.KernelIdeal.τ Cert.KernelIdeal.sig) → Buf (Elt Ideal) ℓ)
    (h : Cert.Pre_KernelIdeal_bounded m) (c : Dev Cert.KernelIdeal.nD) : Cert.KernelIdeal.Own.Bounded m c := by
  have hc := congrFun (h c) (fun a => a.elim0)
  unfold Cert.Pre_bounded.fn at hc
  dsimp only at hc
  obtain ⟨h12, h3⟩ := IntOp.andi_eq_one.1 hc
  obtain ⟨h1, h2⟩ := IntOp.andi_eq_one.1 h12
  haveI : Subsingleton Cert.Pre_bounded.S_.Idx := ⟨fun a b => funext fun i => i.elim0⟩
  exact ⟨fun i => size_le _ _ i (Host.reduce_andi_all _ _ _ _ _ h1 i), fun i => size_le _ _ i (Host.reduce_andi_all _ _ _ _ _ h2 i),
    fun i => size_le _ _ i (Host.reduce_andi_all _ _ _ _ _ h3 i)⟩

/-- What the reference leaves. -/
theorem ref_values (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v25) = Cert.ReferenceIdeal.Own.rO (Cert.ReferenceIdeal.Own.rI (Cert.ReferenceIdeal.Own.rD
          (Cert.ReferenceIdeal.Own.rZ (m (c.tc.loc Cert.ReferenceIdeal.main_arg0)) (m (c.tc.loc Cert.ReferenceIdeal.main_arg1))) (m (c.tc.loc Cert.ReferenceIdeal.main_arg2))))
      ∧ r.2.mem ((c.tc : Thread Cert.ReferenceIdeal.nD Cert.ReferenceIdeal.τ).loc Cert.ReferenceIdeal.main_v27)
        = broadcastInDim Cert.ReferenceIdeal.S8x1026 ![] Cert.ReferenceIdeal.Gen.bcast_S_S8x1026 (constantI Cert.ReferenceIdeal.S_ 32 1#32)
      ∧ r.2.mem ((c.tc : Thread Cert.ReferenceIdeal.nD Cert.ReferenceIdeal.τ).loc Cert.ReferenceIdeal.main_v4)
        = Cert.ReferenceIdeal.Own.rZ (m (c.tc.loc Cert.ReferenceIdeal.main_arg0)) (m (c.tc.loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  refine (θ_run Cert.ReferenceIdeal.defs _ _).mono (fun r h c => ⟨?_, ?_, ?_, ?_, ?_, ?_⟩) (Cert.ReferenceIdeal.Own.run_main m ρ)
  · exact (h c _).trans (Cert.ReferenceIdeal.Own.read_v25 _)
  · exact (h c _).trans (Cert.ReferenceIdeal.Own.read_v27 _)
  · exact (h c _).trans (Cert.ReferenceIdeal.Own.read_v4 _)
  · exact (h c _).trans (Cert.ReferenceIdeal.Own.kept _ (by decide))
  · exact (h c _).trans (Cert.ReferenceIdeal.Own.kept _ (by decide))
  · exact (h c _).trans (Cert.ReferenceIdeal.Own.kept _ (by decide))

/-- Both programs end with the same three results. -/
theorem same_values [Cert.Pre_bounded.Facts] :
    Cert.algebraic_KernelIdeal_ReferenceIdeal_pre_bounded (hKernelIdeal := Cert.KernelIdeal.Gen.facts) (hReferenceIdeal := Cert.ReferenceIdeal.Gen.facts) := by
  intro m g m' g' hp ha
  refine ⟨_, _, _, Cert.KernelIdeal.Own.values m g (bounded_of m hp), ?_⟩
  have hr := ref_values m' g'
  refine (θ_run Cert.ReferenceIdeal.defs _ _).mono (fun r h c => ?_) hr
  obtain ⟨a0, a1, a2⟩ := ha c
  obtain ⟨h0, h1, h2, h3⟩ := h c
  rw [a0, a1, a2] at h0
  rw [a0, a1] at h2
  exact ⟨h0, h1, h2, h3⟩

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.K.Frame
public import proofs.«01_k».proof.Proof.KB.Frame
public import proofs.«01_k».proof.Proof.R.Run
public import proofs.«01_k».proof.Proof.V.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Own.preFacts,
  fun m g _ => Cert.Kernel.Own.frame_run m g,
  fun m g _ => Cert.KernelIdeal.Own.frame_run m g,
  fun m g _ => Cert.KernelIdeal.Own.frame_run m g,
  fun m g _ => Cert.ReferenceIdeal.Own.frame_run m g,
  fun m g _ => Cert.ReferenceIdeal.Own.frame_run m g,
  trivial,
  haveI := Cert.Own.preFacts; Cert.Own.same_values⟩

end Cert.Proof

end
